-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_rates_are_one_to_sixteen [hPre_decay_rates_are_one_to_sixteen : Cert.Pre_decay_rates_are_one_to_sixteen.Facts] (m : (ℓ : Loc Cert.KernelIdeal.nD Cert.KernelIdeal.τ Cert.KernelIdeal.sig) → Buf (Elt Ideal) ℓ) : Prop :=
  ∀ c : Dev Cert.KernelIdeal.nD,
    (Cert.Pre_decay_rates_are_one_to_sixteen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_rates_are_one_to_sixteen [hPre_decay_rates_are_one_to_sixteen : Cert.Pre_decay_rates_are_one_to_sixteen.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_rates_are_one_to_sixteen.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_change_points_are_rows [hPre_change_points_are_rows : Cert.Pre_change_points_are_rows.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_change_points_are_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_change_points_are_rows [hPre_change_points_are_rows : Cert.Pre_change_points_are_rows.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_change_points_are_rows.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_decay_rates_are_one_to_sixteen [hKernelIdeal : Cert.KernelIdeal.Facts] [hPre_decay_rates_are_one_to_sixteen : Cert.Pre_decay_rates_are_one_to_sixteen.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_rates_are_one_to_sixteen m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_decay_rates_are_one_to_sixteen [hReferenceIdeal : Cert.ReferenceIdeal.Facts] [hPre_decay_rates_are_one_to_sixteen : Cert.Pre_decay_rates_are_one_to_sixteen.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_rates_are_one_to_sixteen m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Kernel4Ideal_pre_change_points_are_rows [hKernel4Ideal : Cert.Kernel4Ideal.Facts] [hPre_change_points_are_rows : Cert.Pre_change_points_are_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_change_points_are_rows m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def quiescent_Reference4Ideal_pre_change_points_are_rows [hReference4Ideal : Cert.Reference4Ideal.Facts] [hPre_change_points_are_rows : Cert.Pre_change_points_are_rows.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_change_points_are_rows m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def preserves_Kernel_KernelIdeal : Prop :=
  True

def algebraic_KernelIdeal_ReferenceIdeal_pre_decay_rates_are_one_to_sixteen [hKernelIdeal : Cert.KernelIdeal.Facts] [hReferenceIdeal : Cert.ReferenceIdeal.Facts] [hPre_decay_rates_are_one_to_sixteen : Cert.Pre_decay_rates_are_one_to_sixteen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_rates_are_one_to_sixteen m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_change_points_are_rows [hKernel4Ideal : Cert.Kernel4Ideal.Facts] [hReference4Ideal : Cert.Reference4Ideal.Facts] [hPre_change_points_are_rows : Cert.Pre_change_points_are_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_change_points_are_rows m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)) →
    ∃ (v0 : (c : Dev Cert.Kernel4Ideal.nD) → Buf (Elt Ideal) ((c.tc : Thread Cert.Kernel4Ideal.nD Cert.Kernel4Ideal.τ).loc Cert.Kernel4Ideal.main_v45)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v258) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_decay_rates_are_one_to_sixteen : Cert.Pre_decay_rates_are_one_to_sixteen.Facts) (hPre_change_points_are_rows : Cert.Pre_change_points_are_rows.Facts),
    quiescent_Kernel (hKernel := hKernel)
    ∧ quiescent_KernelIdeal (hKernelIdeal := hKernelIdeal)
    ∧ quiescent_KernelIdeal_pre_decay_rates_are_one_to_sixteen (hKernelIdeal := hKernelIdeal) (hPre_decay_rates_are_one_to_sixteen := hPre_decay_rates_are_one_to_sixteen)
    ∧ quiescent_ReferenceIdeal (hReferenceIdeal := hReferenceIdeal)
    ∧ quiescent_ReferenceIdeal_pre_decay_rates_are_one_to_sixteen (hReferenceIdeal := hReferenceIdeal) (hPre_decay_rates_are_one_to_sixteen := hPre_decay_rates_are_one_to_sixteen)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_change_points_are_rows (hKernel4Ideal := hKernel4Ideal) (hPre_change_points_are_rows := hPre_change_points_are_rows)
    ∧ quiescent_Reference4Ideal (hReference4Ideal := hReference4Ideal)
    ∧ quiescent_Reference4Ideal_pre_change_points_are_rows (hReference4Ideal := hReference4Ideal) (hPre_change_points_are_rows := hPre_change_points_are_rows)
    ∧ preserves_Kernel_KernelIdeal
    ∧ algebraic_KernelIdeal_ReferenceIdeal_pre_decay_rates_are_one_to_sixteen (hKernelIdeal := hKernelIdeal) (hReferenceIdeal := hReferenceIdeal) (hPre_decay_rates_are_one_to_sixteen := hPre_decay_rates_are_one_to_sixteen)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_change_points_are_rows (hKernel4Ideal := hKernel4Ideal) (hReference4Ideal := hReference4Ideal) (hPre_change_points_are_rows := hPre_change_points_are_rows)
-- ==== Pre_change_points_are_rows.lean ====
abbrev S4096x256 : Shape := ⟨2, ![4096, 256]⟩
abbrev S128 : Shape := ⟨1, ![128]⟩
abbrev S3x256x256 : Shape := ⟨3, ![3, 256, 256]⟩
abbrev S3x256 : Shape := ⟨2, ![3, 256]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S4096x256 .f32) (main_arg1 : IVec S128 32) (main_arg2 : FVec F S3x256x256 .f32) (main_arg3 : FVec F S3x256 .f32) (main_arg4 : FVec F S768x256 .f32) (main_arg5 : FVec F S256 .f32) (main_arg6 : FVec F S256 .f32) (main_arg7 : FVec F S256 .f32) (main_arg8 : FVec F S3x256x256 .f32) (main_arg9 : FVec F S3x256 .f32) (main_arg10 : FVec F S256x256 .f32) (main_arg11 : FVec F S256 .f32) (main_arg12 : FVec F S256 .f32) (main_arg13 : FVec F S256 .f32) (main_arg14 : FVec F S256x128 .f32) (main_arg15 : FVec F S128 .f32) (main_arg16 : FVec F S128 .f32) (main_arg17 : FVec F S128 .f32) (main_arg18 : FVec F S128x1 .f32) (main_arg19 : FVec F S1 .f32) : IVec S128 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 4096#32
  let main_v2 : IVec S128 32 := broadcastInDim S128 ![] bcast_S_S128 main_c_0
  let main_v3 : IVec S128 1 := cmpi .slt main_arg1 main_v2
  let main_v4 : IVec S128 1 := andi main_v1 main_v3
  main_v4
-- ==== Pre_decay_rates_are_one_to_sixteen.lean ====
abbrev S4096x256 : Shape := ⟨2, ![4096, 256]⟩
abbrev S2x256x1024 : Shape := ⟨3, ![2, 256, 1024]⟩
abbrev S2x512x4 : Shape := ⟨3, ![2, 512, 4]⟩
abbrev S2x512 : Shape := ⟨2, ![2, 512]⟩
abbrev S2x512x48 : Shape := ⟨3, ![2, 512, 48]⟩
abbrev S2x16x512 : Shape := ⟨3, ![2, 16, 512]⟩
abbrev S2x512x16 : Shape := ⟨3, ![2, 512, 16]⟩
abbrev S2x512x256 : Shape := ⟨3, ![2, 512, 256]⟩
abbrev S16 : Shape := ⟨1, ![16]⟩
abbrev S_ : Shape := ⟨0, ![]⟩
abbrev S1x1x16 : Shape := ⟨3, ![1, 1, 16]⟩

class Facts : Prop where
  bcast_S_S16 : S_.BroadcastsInDim S16 (![] : Fin 0 → Fin S16.rank)
  bcast_S16_S1x1x16_2 : S16.BroadcastsInDim S1x1x16 (![2] : Fin 1 → Fin S1x1x16.rank)
  bcast_S1x1x16_S2x512x16_0_1_2 : S1x1x16.BroadcastsInDim S2x512x16 (![0, 1, 2] : Fin 3 → Fin S2x512x16.rank)

variable [Facts]

def fn {F : FTy → Type} [FloatOps F] (main_arg0 : FVec F S4096x256 .f32) (main_arg1 : FVec F S2x256x1024 .f32) (main_arg2 : FVec F S2x512x4 .f32) (main_arg3 : FVec F S2x512 .f32) (main_arg4 : FVec F S2x512x48 .f32) (main_arg5 : FVec F S2x16x512 .f32) (main_arg6 : FVec F S2x512 .f32) (main_arg7 : FVec F S2x512x16 .f32) (main_arg8 : FVec F S2x512 .f32) (main_arg9 : FVec F S2x512x256 .f32) : IVec S2x512x16 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v1 main_v0
  let main_v3 : FVec F S16 .f32 := sitofp .f32 main_v2
  let main_v4 : FVec F S16 .f32 := Host.log main_v3
  let main_v5 : FVec F S1x1x16 .f32 := broadcastInDim S1x1x16 ![2] bcast_S16_S1x1x16_2 main_v4
  let main_v6 : FVec F S2x512x16 .f32 := broadcastInDim S2x512x16 ![0, 1, 2] bcast_S1x1x16_S2x512x16_0_1_2 main_v5
  let main_v7 : IVec S2x512x16 1 := cmpf .oeq main_arg7 main_v6
  main_v7
-- ==== Kernel.lean ====
abbrev S4096x256 : Shape := ⟨2, ![4096, 256]⟩
abbrev S2x256x1024 : Shape := ⟨3, ![2, 256, 1024]⟩
abbrev S2x512x4 : Shape := ⟨3, ![2, 512, 4]⟩
abbrev S2x512 : Shape := ⟨2, ![2, 512]⟩
abbrev S2x512x48 : Shape := ⟨3, ![2, 512, 48]⟩
abbrev S2x16x512 : Shape := ⟨3, ![2, 16, 512]⟩
abbrev S2x512x16 : Shape := ⟨3, ![2, 512, 16]⟩
abbrev S2x512x256 : Shape := ⟨3, ![2, 512, 256]⟩
abbrev S2x4x512 : Shape := ⟨3, ![2, 4, 512]⟩
abbrev S2x1x512 : Shape := ⟨3, ![2, 1, 512]⟩
abbrev S1x4096x256 : Shape := ⟨3, ![1, 4096, 256]⟩
abbrev S2x4096x256 : Shape := ⟨3, ![2, 4096, 256]⟩
abbrev S1x256x256 : Shape := ⟨3, ![1, 256, 256]⟩
abbrev S1x256x1024 : Shape := ⟨3, ![1, 256, 1024]⟩
abbrev S1x4x512 : Shape := ⟨3, ![1, 4, 512]⟩
abbrev S1x1x512 : Shape := ⟨3, ![1, 1, 512]⟩
abbrev S1x512x16 : Shape := ⟨3, ![1, 512, 16]⟩
abbrev S1x16x512 : Shape := ⟨3, ![1, 16, 512]⟩
abbrev S1x512x256 : Shape := ⟨3, ![1, 512, 256]⟩
abbrev S259x512 : Shape := ⟨2, ![259, 512]⟩
abbrev S256x16x512 : Shape := ⟨3, ![256, 16, 512]⟩
abbrev S16x512 : Shape := ⟨2, ![16, 512]⟩
abbrev S256x256 : Shape := ⟨2, ![256, 256]⟩
abbrev S256x1024 : Shape := ⟨2, ![256, 1024]⟩
abbrev S256x512 : Shape := ⟨2, ![256, 512]⟩
abbrev S3x512 : Shape := ⟨2, ![3, 512]⟩
abbrev S4x512 : Shape := ⟨2, ![4, 512]⟩
abbrev S1x512 : Shape := ⟨2, ![1, 512]⟩
abbrev S512x16 : Shape := ⟨2, ![512, 16]⟩
abbrev S256x16 : Shape := ⟨2, ![256, 16]⟩
abbrev S256x1x512 : Shape := ⟨3, ![256, 1, 512]⟩
abbrev S256x1 : Shape := ⟨2, ![256, 1]⟩
abbrev S4x16x512 : Shape := ⟨3, ![4, 16, 512]⟩
abbrev S512x256 : Shape := ⟨2, ![512, 256]⟩

abbrev nBuf : Space → Nat
  | .hbm => 23
  | .vmem => 31
  | .smem => 0
  | _ => 0

abbrev bufTy : (tb : Table) → Fin (tcTables nBuf tb) → BufTy
  | .hbm, ⟨0, _⟩ => ⟨S4096x256, .f32⟩
  | .hbm, ⟨1, _⟩ => ⟨S2x256x1024, .f32⟩
  | .hbm, ⟨2, _⟩ => ⟨S2x512x4, .f32⟩
  | .hbm, ⟨3, _⟩ => ⟨S2x512, .f32⟩
  | .hbm, ⟨4, _⟩ => ⟨S2x512x48, .f32⟩
  | .hbm, ⟨5, _⟩ => ⟨S2x16x512, .f32⟩
  | .hbm, ⟨6, _⟩ => ⟨S2x512, .f32⟩
  | .hbm, ⟨7, _⟩ => ⟨S2x512x16, .f32⟩
  | .hbm, ⟨8, _⟩ => ⟨S2x512, .f32⟩
  | .hbm, ⟨9, _⟩ => ⟨S2x512x256, .f32⟩
  | .hbm, ⟨10, _⟩ => ⟨S2x16x512, .f32⟩
  | .hbm, ⟨11, _⟩ => ⟨S2x4x512, .f32⟩
  | .hbm, ⟨12, _⟩ => ⟨S2x512x16, .f32⟩
  | .hbm, ⟨13, _⟩ => ⟨S2x512x16, .f32⟩
  | .hbm, ⟨14, _⟩ => ⟨S2x512x16, .f32⟩
  | .hbm, ⟨15, _⟩ => ⟨S2x1x512, .f32⟩
  | .hbm, ⟨16, _⟩ => ⟨S2x1x512, .f32⟩
  | .hbm, ⟨17, _⟩ => ⟨S2x1x512, .f32⟩
  | .hbm, ⟨18, _⟩ => ⟨S4096x256, .f32⟩
  | .hbm, ⟨19, _⟩ => ⟨S1x4096x256, .f32⟩
  | .hbm, ⟨20, _⟩ => ⟨S1x4096x256, .f32⟩
  | .hbm, ⟨21, _⟩ => ⟨S2x4096x256, .f32⟩
  | .hbm, ⟨22, _⟩ => ⟨S2x4096x256, .f32⟩
  | .local _ .vmem, ⟨0, _⟩ => ⟨S1x256x256, .f32⟩
  | .local _ .vmem, ⟨1, _⟩ => ⟨S1x256x256, .f32⟩
  | .local _ .vmem, ⟨2, _⟩ => ⟨S1x256x1024, .f32⟩
  | .local _ .vmem, ⟨3, _⟩ => ⟨S1x256x1024, .f32⟩
  | .local _ .vmem, ⟨4, _⟩ => ⟨S1x4x512, .f32⟩
  | .local _ .vmem, ⟨5, _⟩ => ⟨S1x4x512, .f32⟩
  | .local _ .vmem, ⟨6, _⟩ => ⟨S1x1x512, .f32⟩
  | .local _ .vmem, ⟨7, _⟩ => ⟨S1x1x512, .f32⟩
  | .local _ .vmem, ⟨8, _⟩ => ⟨S1x512x16, .f32⟩
  | .local _ .vmem, ⟨9, _⟩ => ⟨S1x512x16, .f32⟩
  | .local _ .vmem, ⟨10, _⟩ => ⟨S1x512x16, .f32⟩
  | .local _ .vmem, ⟨11, _⟩ => ⟨S1x512x16, .f32⟩
  | .local _ .vmem, ⟨12, _⟩ => ⟨S1x512x16, .f32⟩
  | .local _ .vmem, ⟨13, _⟩ => ⟨S1x512x16, .f32⟩
  | .local _ .vmem, ⟨14, _⟩ => ⟨S1x16x512, .f32⟩
  | .local _ .vmem, ⟨15, _⟩ => ⟨S1x16x512, .f32⟩
  | .local _ .vmem, ⟨16, _⟩ => ⟨S1x1x512, .f32⟩
  | .local _ .vmem, ⟨17, _⟩ => ⟨S1x1x512, .f32⟩
  | .local _ .vmem, ⟨18, _⟩ => ⟨S1x16x512, .f32⟩
  | .local _ .vmem, ⟨19, _⟩ => ⟨S1x16x512, .f32⟩
  | .local _ .vmem, ⟨20, _⟩ => ⟨S1x1x512, .f32⟩
  | .local _ .vmem, ⟨21, _⟩ => ⟨S1x1x512, .f32⟩
  | .local _ .vmem, ⟨22, _⟩ => ⟨S1x512x256, .f32⟩
  | .local _ .vmem, ⟨23, _⟩ => ⟨S1x512x256, .f32⟩
  | .local _ .vmem, ⟨24, _⟩ => ⟨S1x256x256, .f32⟩
  | .local _ .vmem, ⟨25, _⟩ => ⟨S1x256x256, .f32⟩
  | .local _ .vmem, ⟨26, _⟩ => ⟨S259x512, .f32⟩
  | .local _ .vmem, ⟨27, _⟩ => ⟨S256x16x512, .f32⟩
  | .local _ .vmem, ⟨28, _⟩ => ⟨S256x16x512, .f32⟩
  | .local _ .vmem, ⟨29, _⟩ => ⟨S256x16x512, .f32⟩
  | .local _ .vmem, ⟨30, _⟩ => ⟨S16x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_123 : BitVec 32 := 0#32
  let c64_i32 : BitVec 32 := 64#32
  let v239 : BitVec 32 := Scalar.addi c0_i32_123 c64_i32
  let c1_i32 : BitVec 32 := 1#32
  ⟨c0_i32_123, v239, c1_i32⟩
def k0_off1 (k0_t1 : Fin k0_t1_loop.trips) : Fin 3 → Nat :=
  let c0_i32_123 : BitVec 32 := 0#32
  let c1_i32 : BitVec 32 := 1#32
  let arg20 : BitVec 32 := Scf.iv c0_i32_123 c1_i32 k0_t1
  let c4_i32 : BitVec 32 := 4#32
  let v353 : BitVec 32 := Scalar.muli arg20 c4_i32
  let v354 : Index := Scalar.indexCast v353
  let c0_185 : Index := 0#32
  let c0_186 : Index := 0#32
  ![v354.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x256 : Shape := ⟨2, ![4096, 256]⟩
abbrev S2x256x1024 : Shape := ⟨3, ![2, 256, 1024]⟩
abbrev S2x512x4 : Shape := ⟨3, ![2, 512, 4]⟩
abbrev S2x512 : Shape := ⟨2, ![2, 512]⟩
abbrev S2x512x48 : Shape := ⟨3, ![2, 512, 48]⟩
abbrev S2x16x512 : Shape := ⟨3, ![2, 16, 512]⟩
abbrev S2x512x16 : Shape := ⟨3, ![2, 512, 16]⟩
abbrev S2x512x256 : Shape := ⟨3, ![2, 512, 256]⟩
abbrev S1x4096x256 : Shape := ⟨3, ![1, 4096, 256]⟩
abbrev S2x4096x256 : Shape := ⟨3, ![2, 4096, 256]⟩
abbrev S2x4096x1024 : Shape := ⟨3, ![2, 4096, 1024]⟩
abbrev S2x4096x512 : Shape := ⟨3, ![2, 4096, 512]⟩
abbrev S_ : Shape := ⟨0, ![]⟩
abbrev S2x4099x512 : Shape := ⟨3, ![2, 4099, 512]⟩
abbrev S2x512x1 : Shape := ⟨3, ![2, 512, 1]⟩
abbrev S2x1x512 : Shape := ⟨3, ![2, 1, 512]⟩
abbrev S2x4096x48 : Shape := ⟨3, ![2, 4096, 48]⟩
abbrev S2x4096x16 : Shape := ⟨3, ![2, 4096, 16]⟩
abbrev S2x4096x512x1 : Shape := ⟨4, ![2, 4096, 512, 1]⟩
abbrev S2x1x512x16 : Shape := ⟨4, ![2, 1, 512, 16]⟩
abbrev S2x4096x512x16 : Shape := ⟨4, ![2, 4096, 512, 16]⟩
abbrev S2x4096x1x16 : Shape := ⟨4, ![2, 4096, 1, 16]⟩
abbrev S512x16 : Shape := ⟨2, ![512, 16]⟩
abbrev S4096x2x512x16 : Shape := ⟨4, ![4096, 2, 512, 16]⟩
abbrev S4096x2x16 : Shape := ⟨3, ![4096, 2, 16]⟩
abbrev S4096x2x512 : Shape := ⟨3, ![4096, 2, 512]⟩
abbrev S1x2x512x16 : Shape := ⟨4, ![1, 2, 512, 16]⟩
abbrev S1x2x16 : Shape := ⟨3, ![1, 2, 16]⟩
abbrev S2x16 : Shape := ⟨2, ![2, 16]⟩
abbrev S1x2x512 : Shape := ⟨3, ![1, 2, 512]⟩

abbrev nBuf : Space → Nat
  | .hbm => 156
  | .vmem => 0
  | .smem => 0
  | _ => 0

abbrev hbmTy0_0 (i : Nat) : BufTy := match i % 128 with
  | 0 => ⟨S4096x256, .f32⟩
  | 1 => ⟨S2x256x1024, .f32⟩
  | 2 => ⟨S2x512x4, .f32⟩
  | 3 => ⟨S2x512, .f32⟩
  | 4 => ⟨S2x512x48, .f32⟩
  | 5 => ⟨S2x16x512, .f32⟩
  | 6 => ⟨S2x512, .f32⟩
  | 7 => ⟨S2x512x16, .f32⟩
  | 8 => ⟨S2x512, .f32⟩
  | 9 => ⟨S2x512x256, .f32⟩
  | 10 => ⟨S4096x256, .f32⟩
  | 11 => ⟨S1x4096x256, .f32⟩
  | 12 => ⟨S1x4096x256, .f32⟩
  | 13 => ⟨S2x4096x256, .f32⟩
  | 14 => ⟨S2x4096x1024, .f32⟩
  | 15 => ⟨S2x4096x512, .f32⟩
  | 16 => ⟨S2x4096x512, .f32⟩
  | 17 => ⟨S_, .i32⟩
  | 18 => ⟨S_, .f32⟩
  | 19 => ⟨S2x4099x512, .f32⟩
  | 20 => ⟨S2x4096x512, .f32⟩
  | 21 => ⟨S2x512x1, .f32⟩
  | 22 => ⟨S2x512, .f32⟩
  | 23 => ⟨S2x1x512, .f32⟩
  | 24 => ⟨S2x4096x512, .f32⟩
  | 25 => ⟨S2x4096x512, .f32⟩
  | 26 => ⟨S_, .f32⟩
  | 27 => ⟨S2x4096x512, .f32⟩
  | 28 => ⟨S2x4096x512, .f32⟩
  | 29 => ⟨S2x4096x512, .f32⟩
  | 30 => ⟨S2x512x1, .f32⟩
  | 31 => ⟨S2x512, .f32⟩
  | 32 => ⟨S2x1x512, .f32⟩
  | 33 => ⟨S2x4096x512, .f32⟩
  | 34 => ⟨S2x4096x512, .f32⟩
  | 35 => ⟨S2x4096x512, .f32⟩
  | 36 => ⟨S2x4096x512, .f32⟩
  | 37 => ⟨S2x512x1, .f32⟩
  | 38 => ⟨S2x512, .f32⟩
  | 39 => ⟨S2x1x512, .f32⟩
  | 40 => ⟨S2x4096x512, .f32⟩
  | 41 => ⟨S2x4096x512, .f32⟩
  | 42 => ⟨S2x4096x512, .f32⟩
  | 43 => ⟨S2x4096x512, .f32⟩
  | 44 => ⟨S2x512x1, .f32⟩
  | 45 => ⟨S2x512, .f32⟩
  | 46 => ⟨S2x1x512, .f32⟩
  | 47 => ⟨S2x4096x512, .f32⟩
  | 48 => ⟨S2x4096x512, .f32⟩
  | 49 => ⟨S2x4096x512, .f32⟩
  | 50 => ⟨S2x1x512, .f32⟩
  | 51 => ⟨S2x4096x512, .f32⟩
  | 52 => ⟨S2x4096x512, .f32⟩
  | 53 => ⟨S2x4096x512, .f32⟩
  | 54 => ⟨S2x4096x512, .f32⟩
  | 55 => ⟨S_, .f32⟩
  | 56 => ⟨S2x4096x512, .f32⟩
  | 57 => ⟨S2x4096x512, .f32⟩
  | 58 => ⟨S_, .f32⟩
  | 59 => ⟨S2x4096x512, .f32⟩
  | 60 => ⟨S2x4096x512, .f32⟩
  | 61 => ⟨S2x4096x512, .f32⟩
  | 62 => ⟨S2x4096x48, .f32⟩
  | 63 => ⟨S2x4096x16, .f32⟩
  | 64 => ⟨S2x4096x512, .f32⟩
  | 65 => ⟨S2x1x512, .f32⟩
  | 66 => ⟨S2x4096x512, .f32⟩
  | 67 => ⟨S2x4096x512, .f32⟩
  | 68 => ⟨S_, .f32⟩
  | 69 => ⟨S2x4096x512, .f32⟩
  | 70 => ⟨S2x4096x512, .f32⟩
  | 71 => ⟨S2x4096x512, .f32⟩
  | 72 => ⟨S2x4096x512, .f32⟩
  | 73 => ⟨S2x4096x512, .i1⟩
  | 74 => ⟨S2x4096x512, .f32⟩
  | 75 => ⟨S2x4096x512, .f32⟩
  | 76 => ⟨S2x4096x512, .f32⟩
  | 77 => ⟨S2x4096x512, .f32⟩
  | 78 => ⟨S2x4096x512, .f32⟩
  | 79 => ⟨S2x4096x512, .f32⟩
  | 80 => ⟨S2x4096x512, .f32⟩
  | 81 => ⟨S2x4096x512, .f32⟩
  | 82 => ⟨S2x4096x16, .f32⟩
  | 83 => ⟨S2x4096x16, .f32⟩
  | 84 => ⟨S2x512x16, .f32⟩
  | 85 => ⟨S2x512x16, .f32⟩
  | 86 => ⟨S2x4096x512x1, .f32⟩
  | 87 => ⟨S2x1x512x16, .f32⟩
  | 88 => ⟨S2x4096x512x16, .f32⟩
  | 89 => ⟨S2x4096x512x16, .f32⟩
  | 90 => ⟨S2x4096x512x16, .f32⟩
  | 91 => ⟨S2x4096x512x16, .f32⟩
  | 92 => ⟨S2x4096x512x1, .f32⟩
  | 93 => ⟨S2x4096x1x16, .f32⟩
  | 94 => ⟨S2x4096x512x16, .f32⟩
  | 95 => ⟨S2x4096x512x16, .f32⟩
  | 96 => ⟨S2x4096x512x16, .f32⟩
  | 97 => ⟨S2x4096x512x1, .f32⟩
  | 98 => ⟨S2x4096x512x16, .f32⟩
  | 99 => ⟨S2x4096x512x16, .f32⟩
  | 100 => ⟨S_, .f32⟩
  | 101 => ⟨S512x16, .f32⟩
  | 102 => ⟨S2x512x16, .f32⟩
  | 103 => ⟨S4096x2x512x16, .f32⟩
  | 104 => ⟨S4096x2x512x16, .f32⟩
  | 105 => ⟨S4096x2x16, .f32⟩
  | 106 => ⟨S_, .f32⟩
  | 107 => ⟨S4096x2x512, .f32⟩
  | 108 => ⟨S_, .i32⟩
  | 109 => ⟨S4096x2x512x16, .f32⟩
  | 110 => ⟨S4096x2x512x16, .f32⟩
  | 111 => ⟨S4096x2x16, .f32⟩
  | 112 => ⟨S_, .i32⟩
  | 113 => ⟨S2x512x16, .f32⟩
  | 114 => ⟨S4096x2x512, .f32⟩
  | 115 => ⟨S_, .i32⟩
  | 116 => ⟨S_, .i1⟩
  | 117 => ⟨S_, .i32⟩
  | 118 => ⟨S_, .i32⟩
  | 119 => ⟨S_, .i32⟩
  | 120 => ⟨S1x2x512x16, .f32⟩
  | 121 => ⟨S2x512x16, .f32⟩
  | 122 => ⟨S_, .i32⟩
  | 123 => ⟨S_, .i32⟩
  | 124 => ⟨S_, .i32⟩
  | 125 => ⟨S1x2x512x16, .f32⟩
  | 126 => ⟨S2x512x16, .f32⟩
  | 127 => ⟨S_, .i32⟩
  | _ => ⟨S4096x256, .f32⟩

abbrev hbmTy0_1 (i : Nat) : BufTy := match i % 128 with
  | 0 => ⟨S_, .i32⟩
  | 1 => ⟨S1x2x16, .f32⟩
  | 2 => ⟨S2x16, .f32⟩
  | 3 => ⟨S2x512x16, .f32⟩
  | 4 => ⟨S2x512x16, .f32⟩
  | 5 => ⟨S2x512, .f32⟩
  | 6 => ⟨S1x2x512, .f32⟩
  | 7 => ⟨S_, .i32⟩
  | 8 => ⟨S_, .i32⟩
  | 9 => ⟨S4096x2x512, .f32⟩
  | 10 => ⟨S_, .i32⟩
  | 11 => ⟨S_, .i32⟩
  | 12 => ⟨S2x1x512, .f32⟩
  | 13 => ⟨S2x4096x512, .f32⟩
  | 14 => ⟨S2x4096x512, .f32⟩
  | 15 => ⟨S2x4096x512, .f32⟩
  | 16 => ⟨S2x4096x512, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S2x4096x512, .f32⟩
  | 26 => ⟨S2x4096x512, .f32⟩
  | 27 => ⟨S2x4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_2 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_3 : Ref sig .tc := ⟨.hbm, 106, rfl⟩
abbrev main_v77 : Ref sig .tc := ⟨.hbm, 107, rfl⟩
abbrev main_c_4 : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev main_v78_3 : Ref sig .tc := ⟨.hbm, 112, rfl⟩
abbrev main_v78_4 : Ref sig .tc := ⟨.hbm, 113, rfl⟩
abbrev main_v78_5 : Ref sig .tc := ⟨.hbm, 114, rfl⟩
abbrev main_while0c_c_12 : Ref sig .tc := ⟨.hbm, 115, rfl⟩
abbrev main_while0c_v93 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_c_1 : Ref sig .tc := ⟨.hbm, 119, rfl⟩
abbrev main_while0b_call2_v0 : Ref sig .tc := ⟨.hbm, 120, rfl⟩
abbrev main_while0b_v93 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_c_1 : Ref sig .tc := ⟨.hbm, 124, rfl⟩
abbrev main_while0b_call3_v0 : Ref sig .tc := ⟨.hbm, 125, rfl⟩
abbrev main_while0b_v94 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_v0 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_v99 : Ref sig .tc := ⟨.hbm, 137, rfl⟩
abbrev main_while0b_c_12 : Ref sig .tc := ⟨.hbm, 138, rfl⟩
abbrev main_while0b_v100 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_5 : Ref sig .tc := ⟨.hbm, 147, rfl⟩
abbrev main_v86 : Ref sig .tc := ⟨.hbm, 148, rfl⟩
abbrev main_v87 : Ref sig .tc := ⟨.hbm, 149, rfl⟩
abbrev main_cst_6 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x256 : Shape := ⟨2, ![4096, 256]⟩
abbrev S2x4096x256 : Shape := ⟨3, ![2, 4096, 256]⟩
abbrev S512x256 : Shape := ⟨2, ![512, 256]⟩
abbrev S256 : Shape := ⟨1, ![256]⟩
abbrev S1x4096x256 : Shape := ⟨3, ![1, 4096, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S2x4096x256, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x4096x256, .f32⟩
  | .hbm, ⟨7, _⟩ => ⟨S4096x256, .f32⟩
  | .hbm, ⟨8, _⟩ => ⟨S1x4096x256, .f32⟩
  | .hbm, ⟨9, _⟩ => ⟨S4096x256, .f32⟩
  | .hbm, ⟨10, _⟩ => ⟨S4096x256, .f32⟩
  | .hbm, ⟨11, _⟩ => ⟨S256x256, .f32⟩
  | .hbm, ⟨12, _⟩ => ⟨S256x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x256 : Shape := ⟨2, ![4096, 256]⟩
abbrev S2x4096x256 : Shape := ⟨3, ![2, 4096, 256]⟩
abbrev S512x256 : Shape := ⟨2, ![512, 256]⟩
abbrev S256 : Shape := ⟨1, ![256]⟩
abbrev S1x4096x256 : Shape := ⟨3, ![1, 4096, 256]⟩
abbrev S4096x512 : Shape := ⟨2, ![4096, 512]⟩
abbrev S1x256 : Shape := ⟨2, ![1, 256]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x4096x256, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x4096x256, .f32⟩
  | .hbm, ⟨7, _⟩ => ⟨S4096x256, .f32⟩
  | .hbm, ⟨8, _⟩ => ⟨S1x4096x256, .f32⟩
  | .hbm, ⟨9, _⟩ => ⟨S4096x256, .f32⟩
  | .hbm, ⟨10, _⟩ => ⟨S4096x256, .f32⟩
  | .hbm, ⟨11, _⟩ => ⟨S4096x512, .f32⟩
  | .hbm, ⟨12, _⟩ => ⟨S4096x256, .f32⟩
  | .hbm, ⟨13, _⟩ => ⟨S1x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S1x256, .f32⟩
  | .hbm, ⟨55, _⟩ => ⟨S4096x256, .f32⟩
  | .hbm, ⟨56, _⟩ => ⟨S4096x256, .f32⟩
  | .hbm, ⟨57, _⟩ => ⟨S1x256, .f32⟩
  | .hbm, ⟨58, _⟩ => ⟨S4096x256, .f32⟩
  | .hbm, ⟨59, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S1x4096x768 : Shape := ⟨3, ![1, 4096, 768]⟩
abbrev S1x4096x128 : Shape := ⟨3, ![1, 4096, 128]⟩
abbrev S768x256 : Shape := ⟨2, ![768, 256]⟩
abbrev S256 : Shape := ⟨1, ![256]⟩
abbrev S128x256 : Shape := ⟨2, ![128, 256]⟩
abbrev S512x256 : Shape := ⟨2, ![512, 256]⟩
abbrev S4096x768 : Shape := ⟨2, ![4096, 768]⟩
abbrev S4096x128 : Shape := ⟨2, ![4096, 128]⟩
abbrev S1x256 : Shape := ⟨2, ![1, 256]⟩
abbrev S256x256 : Shape := ⟨2, ![256, 256]⟩
abbrev S4096x256 : Shape := ⟨2, ![4096, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S1x4096x768, .f32⟩
  | .hbm, ⟨1, _⟩ => ⟨S1x4096x128, .f32⟩
  | .hbm, ⟨2, _⟩ => ⟨S768x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S4096x768, .f32⟩
  | .hbm, ⟨11, _⟩ => ⟨S4096x128, .f32⟩
  | .hbm, ⟨12, _⟩ => ⟨S1x256, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S4096x256, .f32⟩
  | .local _ .vmem, ⟨0, _⟩ => ⟨S512x768, .f32⟩
  | .local _ .vmem, ⟨1, _⟩ => ⟨S512x768, .f32⟩
  | .local _ .vmem, ⟨2, _⟩ => ⟨S512x128, .f32⟩
  | .local _ .vmem, ⟨3, _⟩ => ⟨S512x128, .f32⟩
  | .local _ .vmem, ⟨4, _⟩ => ⟨S768x256, .f32⟩
  | .local _ .vmem, ⟨5, _⟩ => ⟨S1x256, .f32⟩
  | .local _ .vmem, ⟨6, _⟩ => ⟨S128x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S512x256, .f32⟩
  | .local _ .vmem, ⟨14, _⟩ => ⟨S512x256, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S1x4096x768 : Shape := ⟨3, ![1, 4096, 768]⟩
abbrev S1x4096x128 : Shape := ⟨3, ![1, 4096, 128]⟩
abbrev S768x256 : Shape := ⟨2, ![768, 256]⟩
abbrev S256 : Shape := ⟨1, ![256]⟩
abbrev S128x256 : Shape := ⟨2, ![128, 256]⟩
abbrev S512x256 : Shape := ⟨2, ![512, 256]⟩
abbrev S4096x768 : Shape := ⟨2, ![4096, 768]⟩
abbrev S4096x256 : Shape := ⟨2, ![4096, 256]⟩
abbrev S1x256 : Shape := ⟨2, ![1, 256]⟩
abbrev S4096x128 : Shape := ⟨2, ![4096, 128]⟩
abbrev S4096x512 : Shape := ⟨2, ![4096, 512]⟩
abbrev S_ : Shape := ⟨0, ![]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x4096x128, .f32⟩
  | .hbm, ⟨2, _⟩ => ⟨S768x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S4096x768, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S4096x128, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x512, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x256, .f32⟩
  | .hbm, ⟨61, _⟩ => ⟨S4096x256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S1x256, .f32⟩
  | .hbm, ⟨66, _⟩ => ⟨S4096x256, .f32⟩
  | .hbm, ⟨67, _⟩ => ⟨S4096x256, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel4.lean ====
abbrev S4096x256 : Shape := ⟨2, ![4096, 256]⟩
abbrev S128 : Shape := ⟨1, ![128]⟩
abbrev S3x256x256 : Shape := ⟨3, ![3, 256, 256]⟩
abbrev S3x256 : Shape := ⟨2, ![3, 256]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S1x256x256 : Shape := ⟨3, ![1, 256, 256]⟩
abbrev S1x256 : Shape := ⟨2, ![1, 256]⟩
abbrev S1x128 : Shape := ⟨2, ![1, 128]⟩
abbrev S1x1 : Shape := ⟨2, ![1, 1]⟩
abbrev S4096x1 : Shape := ⟨2, ![4096, 1]⟩
abbrev S2048x2x256 : Shape := ⟨3, ![2048, 2, 256]⟩
abbrev S2048x1x256 : Shape := ⟨3, ![2048, 1, 256]⟩
abbrev S2048x256 : Shape := ⟨2, ![2048, 256]⟩
abbrev S2047x256 : Shape := ⟨2, ![2047, 256]⟩
abbrev S1024x4x256 : Shape := ⟨3, ![1024, 4, 256]⟩
abbrev S1024x1x256 : Shape := ⟨3, ![1024, 1, 256]⟩
abbrev S1024x256 : Shape := ⟨2, ![1024, 256]⟩
abbrev S1023x256 : Shape := ⟨2, ![1023, 256]⟩
abbrev S4096 : Shape := ⟨1, ![4096]⟩
abbrev S128x4096 : Shape := ⟨2, ![128, 4096]⟩
abbrev S128x256 : Shape := ⟨2, ![128, 256]⟩
abbrev S4096x64 : Shape := ⟨2, ![4096, 64]⟩
abbrev S128x64 : Shape := ⟨2, ![128, 64]⟩
abbrev S4096x128 : Shape := ⟨2, ![4096, 128]⟩
abbrev S64x256 : Shape := ⟨2, ![64, 256]⟩

abbrev nBuf : Space → Nat
  | .hbm => 66
  | .vmem => 31
  | .smem => 0
  | _ => 0

abbrev bufTy : (tb : Table) → Fin (tcTables nBuf tb) → BufTy
  | .hbm, ⟨0, _⟩ => ⟨S4096x256, .f32⟩
  | .hbm, ⟨1, _⟩ => ⟨S128, .i32⟩
  | .hbm, ⟨2, _⟩ => ⟨S3x256x256, .f32⟩
  | .hbm, ⟨3, _⟩ => ⟨S3x256, .f32⟩
  | .hbm, ⟨4, _⟩ => ⟨S768x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S3x256x256, .f32⟩
  | .hbm, ⟨9, _⟩ => ⟨S3x256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x256x256, .f32⟩
  | .hbm, ⟨21, _⟩ => ⟨S256x256, .f32⟩
  | .hbm, ⟨22, _⟩ => ⟨S1x256, .f32⟩
  | .hbm, ⟨23, _⟩ => ⟨S256, .f32⟩
  | .hbm, ⟨24, _⟩ => ⟨S1x256, .f32⟩
  | .hbm, ⟨25, _⟩ => ⟨S1x256x256, .f32⟩
  | .hbm, ⟨26, _⟩ => ⟨S256x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S1x256x256, .f32⟩
  | .hbm, ⟨31, _⟩ => ⟨S256x256, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S128x1, .i32⟩
  | .hbm, ⟨42, _⟩ => ⟨S1x256x256, .f32⟩
  | .hbm, ⟨43, _⟩ => ⟨S256x256, .f32⟩
  | .hbm, ⟨44, _⟩ => ⟨S1x256, .f32⟩
  | .hbm, ⟨45, _⟩ => ⟨S256, .f32⟩
  | .hbm, ⟨46, _⟩ => ⟨S1x256, .f32⟩
  | .hbm, ⟨47, _⟩ => ⟨S1x256x256, .f32⟩
  | .hbm, ⟨48, _⟩ => ⟨S256x256, .f32⟩
  | .hbm, ⟨49, _⟩ => ⟨S1x256, .f32⟩
  | .hbm, ⟨50, _⟩ => ⟨S256, .f32⟩
  | .hbm, ⟨51, _⟩ => ⟨S1x256, .f32⟩
  | .hbm, ⟨52, _⟩ => ⟨S1x256x256, .f32⟩
  | .hbm, ⟨53, _⟩ => ⟨S256x256, .f32⟩
  | .hbm, ⟨54, _⟩ => ⟨S1x256, .f32⟩
  | .hbm, ⟨55, _⟩ => ⟨S256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x1, .f32⟩
  | .hbm, ⟨65, _⟩ => ⟨S4096x1, .f32⟩
  | .local _ .vmem, ⟨0, _⟩ => ⟨S4096x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S128x1, .i32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S4096x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== Reference4Ideal.lean ====
abbrev S4096x256 : Shape := ⟨2, ![4096, 256]⟩
abbrev S128 : Shape := ⟨1, ![128]⟩
abbrev S3x256x256 : Shape := ⟨3, ![3, 256, 256]⟩
abbrev S3x256 : Shape := ⟨2, ![3, 256]⟩
abbrev S768x256 : Shape := ⟨2, ![768, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S1x256x256 : Shape := ⟨3, ![1, 256, 256]⟩
abbrev S1x256 : Shape := ⟨2, ![1, 256]⟩
abbrev S2048x2x256 : Shape := ⟨3, ![2048, 2, 256]⟩
abbrev S_ : Shape := ⟨0, ![]⟩
abbrev S2048x256 : Shape := ⟨2, ![2048, 256]⟩
abbrev S4096 : Shape := ⟨1, ![4096]⟩
abbrev S4096x1 : Shape := ⟨2, ![4096, 1]⟩
abbrev S1024x4x256 : Shape := ⟨3, ![1024, 4, 256]⟩
abbrev S1024x256 : Shape := ⟨2, ![1024, 256]⟩
abbrev S4096x768 : Shape := ⟨2, ![4096, 768]⟩
abbrev S128x256 : Shape := ⟨2, ![128, 256]⟩
abbrev S4096x4x64 : Shape := ⟨3, ![4096, 4, 64]⟩
abbrev S128x4x64 : Shape := ⟨3, ![128, 4, 64]⟩
abbrev S4x4096x128 : Shape := ⟨3, ![4, 4096, 128]⟩
abbrev S4x4096 : Shape := ⟨2, ![4, 4096]⟩
abbrev S4x4096x1 : Shape := ⟨3, ![4, 4096, 1]⟩
abbrev S4x64x4096 : Shape := ⟨3, ![4, 64, 4096]⟩
abbrev S4096x128 : Shape := ⟨2, ![4096, 128]⟩
abbrev S1x128 : Shape := ⟨2, ![1, 128]⟩
abbrev S1x1 : Shape := ⟨2, ![1, 1]⟩

abbrev nBuf : Space → Nat
  | .hbm => 332
  | .vmem => 0
  | .smem => 0
  | _ => 0

abbrev hbmTy0_0 (i : Nat) : BufTy := match i % 128 with
  | 0 => ⟨S4096x256, .f32⟩
  | 1 => ⟨S128, .i32⟩
  | 2 => ⟨S3x256x256, .f32⟩
  | 3 => ⟨S3x256, .f32⟩
  | 4 => ⟨S768x256, .f32⟩
  | 5 => ⟨S256, .f32⟩
  | 6 => ⟨S256, .f32⟩
  | 7 => ⟨S256, .f32⟩
  | 8 => ⟨S3x256x256, .f32⟩
  | 9 => ⟨S3x256, .f32⟩
  | 10 => ⟨S256x256, .f32⟩
  | 11 => ⟨S256, .f32⟩
  | 12 => ⟨S256, .f32⟩
  | 13 => ⟨S256, .f32⟩
  | 14 => ⟨S256x128, .f32⟩
  | 15 => ⟨S128, .f32⟩
  | 16 => ⟨S128, .f32⟩
  | 17 => ⟨S128, .f32⟩
  | 18 => ⟨S128x1, .f32⟩
  | 19 => ⟨S1, .f32⟩
  | 20 => ⟨S1x256x256, .f32⟩
  | 21 => ⟨S256x256, .f32⟩
  | 22 => ⟨S4096x256, .f32⟩
  | 23 => ⟨S1x256, .f32⟩
  | 24 => ⟨S256, .f32⟩
  | 25 => ⟨S1x256, .f32⟩
  | 26 => ⟨S4096x256, .f32⟩
  | 27 => ⟨S4096x256, .f32⟩
  | 28 => ⟨S2048x2x256, .f32⟩
  | 29 => ⟨S_, .f32⟩
  | 30 => ⟨S2048x256, .f32⟩
  | 31 => ⟨S_, .f32⟩
  | 32 => ⟨S2048x256, .f32⟩
  | 33 => ⟨S2048x256, .f32⟩
  | 34 => ⟨S4096, .f32⟩
  | 35 => ⟨S_, .f32⟩
  | 36 => ⟨S4096, .f32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .f32⟩
  | 44 => ⟨S_, .f32⟩
  | 45 => ⟨S4096, .f32⟩
  | 46 => ⟨S4096, .f32⟩
  | 47 => ⟨S4096, .f32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S4096, .f32⟩
  | 57 => ⟨S4096x1, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096x256, .f32⟩
  | 67 => ⟨S_, .f32⟩
  | 68 => ⟨S4096x1, .f32⟩
  | 69 => ⟨S4096x1, .f32⟩
  | 70 => ⟨S4096x256, .f32⟩
  | 71 => ⟨S4096x256, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S4096x256, .f32⟩
  | 81 => ⟨S4096x256, .f32⟩
  | 82 => ⟨S4096x256, .f32⟩
  | 83 => ⟨S4096x256, .f32⟩
  | 84 => ⟨S1x256x256, .f32⟩
  | 85 => ⟨S256x256, .f32⟩
  | 86 => ⟨S4096x256, .f32⟩
  | 87 => ⟨S1x256, .f32⟩
  | 88 => ⟨S256, .f32⟩
  | 89 => ⟨S1x256, .f32⟩
  | 90 => ⟨S4096x256, .f32⟩
  | 91 => ⟨S4096x256, .f32⟩
  | 92 => ⟨S1024x4x256, .f32⟩
  | 93 => ⟨S_, .f32⟩
  | 94 => ⟨S1024x256, .f32⟩
  | 95 => ⟨S_, .f32⟩
  | 96 => ⟨S1024x256, .f32⟩
  | 97 => ⟨S1024x256, .f32⟩
  | 98 => ⟨S4096, .f32⟩
  | 99 => ⟨S_, .f32⟩
  | 100 => ⟨S4096, .f32⟩
  | 101 => ⟨S4096, .f32⟩
  | 102 => ⟨S_, .f32⟩
  | 103 => ⟨S4096, .f32⟩
  | 104 => ⟨S4096, .f32⟩
  | 105 => ⟨S_, .f32⟩
  | 106 => ⟨S4096, .f32⟩
  | 107 => ⟨S4096, .f32⟩
  | 108 => ⟨S_, .f32⟩
  | 109 => ⟨S4096, .f32⟩
  | 110 => ⟨S4096, .f32⟩
  | 111 => ⟨S4096, .f32⟩
  | 112 => ⟨S4096, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S4096, .f32⟩
  | 120 => ⟨S4096, .f32⟩
  | 121 => ⟨S4096x1, .f32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S4096x256, .f32⟩

abbrev hbmTy0_1 (i : Nat) : BufTy := match i % 128 with
  | 0 => ⟨S4096, .i32⟩
  | 1 => ⟨S4096x1, .i32⟩
  | 2 => ⟨S4096x256, .f32⟩
  | 3 => ⟨S_, .f32⟩
  | 4 => ⟨S4096x1, .f32⟩
  | 5 => ⟨S4096x1, .f32⟩
  | 6 => ⟨S4096x256, .f32⟩
  | 7 => ⟨S4096x256, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x256, .f32⟩
  | 17 => ⟨S4096x256, .f32⟩
  | 18 => ⟨S4096x256, .f32⟩
  | 19 => ⟨S4096x256, .f32⟩
  | 20 => ⟨S1x256x256, .f32⟩
  | 21 => ⟨S256x256, .f32⟩
  | 22 => ⟨S4096x256, .f32⟩
  | 23 => ⟨S1x256, .f32⟩
  | 24 => ⟨S256, .f32⟩
  | 25 => ⟨S1x256, .f32⟩
  | 26 => ⟨S4096x256, .f32⟩
  | 27 => ⟨S4096x256, .f32⟩
  | 28 => ⟨S4096x768, .f32⟩
  | 29 => ⟨S4096x256, .f32⟩
  | 30 => ⟨S1x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x256, .f32⟩
  | 43 => ⟨S4096x256, .f32⟩
  | 44 => ⟨S4096x256, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x256, .f32⟩
  | 52 => ⟨S4096x256, .f32⟩
  | 53 => ⟨S_, .f32⟩
  | 54 => ⟨S4096x1, .f32⟩
  | 55 => ⟨S4096x1, .f32⟩
  | 56 => ⟨S4096x1, .f32⟩
  | 57 => ⟨S4096x256, .f32⟩
  | 58 => ⟨S4096x256, .f32⟩
  | 59 => ⟨S1x256, .f32⟩
  | 60 => ⟨S4096x256, .f32⟩
  | 61 => ⟨S4096x256, .f32⟩
  | 62 => ⟨S1x256, .f32⟩
  | 63 => ⟨S4096x256, .f32⟩
  | 64 => ⟨S4096x256, .f32⟩
  | 65 => ⟨S_, .i32⟩
  | 66 => ⟨S128, .i32⟩
  | 67 => ⟨S128, .i1⟩
  | 68 => ⟨S_, .i32⟩
  | 69 => ⟨S128, .i32⟩
  | 70 => ⟨S128, .i32⟩
  | 71 => ⟨S128, .i32⟩
  | 72 => ⟨S128x1, .i32⟩
  | 73 => ⟨S128x256, .f32⟩
  | 74 => ⟨S1x256x256, .f32⟩
  | 75 => ⟨S256x256, .f32⟩
  | 76 => ⟨S4096x256, .f32⟩
  | 77 => ⟨S1x256, .f32⟩
  | 78 => ⟨S256, .f32⟩
  | 79 => ⟨S1x256, .f32⟩
  | 80 => ⟨S4096x256, .f32⟩
  | 81 => ⟨S4096x256, .f32⟩
  | 82 => ⟨S4096x4x64, .f32⟩
  | 83 => ⟨S1x256x256, .f32⟩
  | 84 => ⟨S256x256, .f32⟩
  | 85 => ⟨S128x256, .f32⟩
  | 86 => ⟨S1x256, .f32⟩
  | 87 => ⟨S256, .f32⟩
  | 88 => ⟨S1x256, .f32⟩
  | 89 => ⟨S128x256, .f32⟩
  | 90 => ⟨S128x256, .f32⟩
  | 91 => ⟨S128x4x64, .f32⟩
  | 92 => ⟨S1x256x256, .f32⟩
  | 93 => ⟨S256x256, .f32⟩
  | 94 => ⟨S128x256, .f32⟩
  | 95 => ⟨S1x256, .f32⟩
  | 96 => ⟨S256, .f32⟩
  | 97 => ⟨S1x256, .f32⟩
  | 98 => ⟨S128x256, .f32⟩
  | 99 => ⟨S128x256, .f32⟩
  | 100 => ⟨S128x4x64, .f32⟩
  | 101 => ⟨S4x4096x128, .f32⟩
  | 102 => ⟨S_, .f32⟩
  | 103 => ⟨S4x4096x128, .f32⟩
  | 104 => ⟨S4x4096x128, .f32⟩
  | 105 => ⟨S_, .f32⟩
  | 106 => ⟨S4x4096, .f32⟩
  | 107 => ⟨S_, .f32⟩
  | 108 => ⟨S4x4096, .f32⟩
  | 109 => ⟨S4x4096, .f32⟩
  | 110 => ⟨S4x4096x1, .f32⟩
  | 111 => ⟨S4x4096x128, .f32⟩
  | 112 => ⟨S4x4096x128, .f32⟩
  | 113 => ⟨S4x4096x128, .f32⟩
  | 114 => ⟨S_, .f32⟩
  | 115 => ⟨S4x4096, .f32⟩
  | 116 => ⟨S4x4096x1, .f32⟩
  | 117 => ⟨S4x4096x128, .f32⟩
  | 118 => ⟨S4x4096x128, .f32⟩
  | 119 => ⟨S4x64x4096, .f32⟩
  | 120 => ⟨S4096x4x64, .f32⟩
  | 121 => ⟨S4096x256, .f32⟩
  | 122 => ⟨S4096x256, .f32⟩
  | 123 => ⟨S1x256, .f32⟩
  | 124 => ⟨S4096x256, .f32⟩
  | 125 => ⟨S4096x256, .f32⟩
  | 126 => ⟨S4096x256, .f32⟩
  | 127 => ⟨S_, .f32⟩
  | _ => ⟨S4096x256, .f32⟩

abbrev hbmTy0_2 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S4096x256, .f32⟩
  | 6 => ⟨S4096x256, .f32⟩
  | 7 => ⟨S4096x256, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x256, .f32⟩
  | 15 => ⟨S4096x256, .f32⟩
  | 16 => ⟨S_, .f32⟩
  | 17 => ⟨S4096x1, .f32⟩
  | 18 => ⟨S4096x1, .f32⟩
  | 19 => ⟨S4096x1, .f32⟩
  | 20 => ⟨S4096x256, .f32⟩
  | 21 => ⟨S4096x256, .f32⟩
  | 22 => ⟨S1x256, .f32⟩
  | 23 => ⟨S4096x256, .f32⟩
  | 24 => ⟨S4096x256, .f32⟩
  | 25 => ⟨S1x256, .f32⟩
  | 26 => ⟨S4096x256, .f32⟩
  | 27 => ⟨S4096x256, .f32⟩
  | 28 => ⟨S4096x128, .f32⟩
  | 29 => ⟨S1x128, .f32⟩
  | 30 => ⟨S4096x128, .f32⟩
  | 31 => ⟨S4096x128, .f32⟩
  | 32 => ⟨S_, .f32⟩
  | 33 => ⟨S4096x128, .f32⟩
  | 34 => ⟨S4096x128, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x128, .f32⟩
  | 42 => ⟨S4096x128, .f32⟩
  | 43 => ⟨S4096x128, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x128, .f32⟩
  | 51 => ⟨S4096x128, .f32⟩
  | 52 => ⟨S_, .f32⟩
  | 53 => ⟨S4096x1, .f32⟩
  | 54 => ⟨S4096x1, .f32⟩
  | 55 => ⟨S4096x1, .f32⟩
  | 56 => ⟨S4096x128, .f32⟩
  | 57 => ⟨S4096x128, .f32⟩
  | 58 => ⟨S1x128, .f32⟩
  | 59 => ⟨S4096x128, .f32⟩
  | 60 => ⟨S4096x128, .f32⟩
  | 61 => ⟨S1x128, .f32⟩
  | 62 => ⟨S4096x128, .f32⟩
  | 63 => ⟨S4096x128, .f32⟩
  | 64 => ⟨S4096x1, .f32⟩
  | 65 => ⟨S1x1, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_17 : Ref sig .tc := ⟨.hbm, 113, rfl⟩
abbrev main_v74 : Ref sig .tc := ⟨.hbm, 114, rfl⟩
abbrev main_v75 : Ref sig .tc := ⟨.hbm, 115, rfl⟩
abbrev main_c_18 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_19 : Ref sig .tc := ⟨.hbm, 122, rfl⟩
abbrev main_v81 : Ref sig .tc := ⟨.hbm, 123, rfl⟩
abbrev main_v82 : Ref sig .tc := ⟨.hbm, 124, rfl⟩
abbrev main_c_20 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_21 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_22 : Ref sig .tc := ⟨.hbm, 136, rfl⟩
abbrev main_v92 : Ref sig .tc := ⟨.hbm, 137, rfl⟩
abbrev main_v93 : Ref sig .tc := ⟨.hbm, 138, rfl⟩
abbrev main_c_23 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call0_cst : Ref sig .tc := ⟨.hbm, 161, rfl⟩
abbrev main_call0_v0 : Ref sig .tc := ⟨.hbm, 162, rfl⟩
abbrev main_v115 : Ref sig .tc := ⟨.hbm, 163, rfl⟩
abbrev main_cst_24 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_26 : Ref sig .tc := ⟨.hbm, 173, rfl⟩
abbrev main_v123 : Ref sig .tc := ⟨.hbm, 174, rfl⟩
abbrev main_v124 : Ref sig .tc := ⟨.hbm, 175, rfl⟩
abbrev main_cst_27 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_29 : Ref sig .tc := ⟨.hbm, 193, rfl⟩
abbrev main_v140 : Ref sig .tc := ⟨.hbm, 194, rfl⟩
abbrev main_v141 : Ref sig .tc := ⟨.hbm, 195, rfl⟩
abbrev main_c_30 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_31 : Ref sig .tc := ⟨.hbm, 230, rfl⟩
abbrev main_v175 : Ref sig .tc := ⟨.hbm, 231, rfl⟩
abbrev main_v176 : Ref sig .tc := ⟨.hbm, 232, rfl⟩
abbrev main_cst_32 : Ref sig .tc := ⟨.hbm, 233, rfl⟩
abbrev main_v177 : Ref sig .tc := ⟨.hbm, 234, rfl⟩
abbrev main_cst_33 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_34 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_cst_35 : Ref sig .tc := ⟨.hbm, 255, rfl⟩
abbrev main_v196 : Ref sig .tc := ⟨.hbm, 256, rfl⟩
abbrev main_v197 : Ref sig .tc := ⟨.hbm, 257, rfl⟩
abbrev main_cst_36 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_37 : Ref sig .tc := ⟨.hbm, 264, rfl⟩
abbrev main_v203 : Ref sig .tc := ⟨.hbm, 265, rfl⟩
abbrev main_v204 : Ref sig .tc := ⟨.hbm, 266, rfl⟩
abbrev main_cst_38 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_cst_39 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_call1_cst : Ref sig .tc := ⟨.hbm, 288, rfl⟩
abbrev main_call1_v0 : Ref sig .tc := ⟨.hbm, 289, rfl⟩
abbrev main_v224 : Ref sig .tc := ⟨.hbm, 290, rfl⟩
abbrev main_cst_40 : Ref sig .tc := ⟨.hbm, 291, rfl⟩
abbrev main_v225 : Ref sig .tc := ⟨.hbm, 292, rfl⟩
abbrev main_v226 : Ref sig .tc := ⟨.hbm, 293, rfl⟩
abbrev main_cst_41 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_42 : Ref sig .tc := ⟨.hbm, 300, rfl⟩
abbrev main_v232 : Ref sig .tc := ⟨.hbm, 301, rfl⟩
abbrev main_v233 : Ref sig .tc := ⟨.hbm, 302, rfl⟩
abbrev main_cst_43 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_44 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_45 : Ref sig .tc := ⟨.hbm, 326, rfl⟩
abbrev main_v255 : Ref sig .tc := ⟨.hbm, 327, rfl⟩
abbrev main_v256 : Ref sig .tc := ⟨.hbm, 328, rfl⟩
abbrev main_cst_46 : Ref sig .tc := ⟨.hbm, 329, rfl⟩
abbrev main_v257 : Ref sig .tc := ⟨.hbm, 330, rfl⟩
abbrev main_v258 : Ref sig .tc := ⟨.hbm, 331, rfl⟩

abbrev nD : Nat := 1
abbrev τ : Topo := Topo.v7x

variable {F : FTy → Type} [FloatOps F]
-- ==== Proof.Kernel.RunFirst.lean ====
module

public import proofs.«01_k».proof.Proof.Kernel.Setup

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first chunk of a direction: it runs on whole buffers, leaves its twelve inputs as they were, and leaves
    the output block and the five scratch buffers at some contents. -/
theorem runFirst (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : firstChunk i)
    (x0 : Vec F S1x256x256 .f32) (x1 : Vec F S1x256x1024 .f32) (x2 : Vec F S1x4x512 .f32) (x3 : Vec F S1x1x512 .f32) (x4 : Vec F S1x512x16 .f32) (x5 : Vec F S1x512x16 .f32) (x6 : Vec F S1x512x16 .f32) (x7 : Vec F S1x16x512 .f32) (x8 : Vec F S1x1x512 .f32) (x9 : Vec F S1x16x512 .f32) (x10 : Vec F S1x1x512 .f32) (x11 : Vec F S1x512x256 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mamba_kernel_eq_skeleton]; unfold cc0__mamba_kernel_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16; obtain rfl := harg19.eq_unread hf17
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Body

end
-- ==== Proof.Kernel.RunNext.lean ====
module

public import proofs.«01_k».proof.Proof.Kernel.RunFirst

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later chunk of a direction: it runs on whole buffers, leaves its twelve inputs as they were, and leaves
    the output block and the five scratch buffers at some contents. -/
theorem runNext (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : ¬ firstChunk i)
    (x0 : Vec F S1x256x256 .f32) (x1 : Vec F S1x256x1024 .f32) (x2 : Vec F S1x4x512 .f32) (x3 : Vec F S1x1x512 .f32) (x4 : Vec F S1x512x16 .f32) (x5 : Vec F S1x512x16 .f32) (x6 : Vec F S1x512x16 .f32) (x7 : Vec F S1x16x512 .f32) (x8 : Vec F S1x1x512 .f32) (x9 : Vec F S1x16x512 .f32) (x10 : Vec F S1x1x512 .f32) (x11 : Vec F S1x512x256 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__mamba_kernel_eq_skeleton]; unfold cc0__mamba_kernel_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16; obtain rfl := harg19.eq_unread hf17
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Body

end
-- ==== Proof.Kernel.Frame.lean ====
module

public import proofs.«01_k».proof.Proof.Kernel.RunNext

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The frame of the launch: the output block and the scratch buffers are left unnamed. -/

/-- The one output window; what it receives is not named here. -/
def unnamedWindow : Fin 13 → Bool := fun w => w.val == 12

/-- The launch's proof data: inputs at their blocks, the scratch buffers at any contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ (∃ d, owns (c : Thread nD τ) (st12 t) fullShare d))

set_option maxHeartbeats 2000000 in
/-- The body at any point, by the two runs. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Pipeline.ΦA spec0 c from rfl, show (dats m 0 c).Φ t.castSucc = Pipeline.ΦA spec0 c from rfl, entry_eq]
  by_cases h0 : t.val % 16 = 0
  · iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runFirst c (grid0.coords t) _ _ _ _ _ _ _ _ _ _ _ _ _ _ _ _ _ _ _ _ _ _ _ _ _ _ _ _ _ _ _ _ _ _ _ _ ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, H12, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runNext c (grid0.coords t) _ _ _ _ _ _ _ _ _ _ _ _ _ _ _ _ _ _ _ _ _ _ _ _ _ _ _ _ _ _ _ _ _ _ _ _ (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, H12, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem body_row (t : Fin cfg0.N) :
    defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unnamedWindow := fun t => by
  rw [bigSep_W0, bigSep_W0, body_row]
  exact triple_restated (body_at m c t) rfl .rfl fun _ => .rfl

set_option backward.isDefEq.respectTransparency.types false in
/-- The whole program runs to the end with every counter at zero and the input arrays as the launch found them. -/
theorem run_all : θ_run defs (onTc (τ := τ) (main (F := F))) (s₀ m ρ)
    (fun r => (Pipeline.RDat.FramePost (cfgs 0) (fun c => (dats m 0 c).toRForget unnamedWindow) (V m)) r ∧ r.2.sem = fun _ => 0) :=
  Pipeline.θ_run_frame_forget (Q' := _) cfgs (dats m) (0 : Fin 1) launch0 defs₀ Variants.none unnamedWindow m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program ends with its ten arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c => ⟨
      ((hh.1 c).2 main_arg0 (Pipeline.mem_restRefs_of main_arg0 (by decide) (by decide))).trans (V_main_arg0 m c),
      (Pipeline.RDat.FramePost.arr_in hh.1 c 1 rfl).trans ((A_eq m c 1).trans (V_main_arg1 m c)),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      (Pipeline.RDat.FramePost.arr_in hh.1 c 7 rfl).trans ((A_eq m c 7).trans (V_main_arg5 m c)),
      ((hh.1 c).2 main_arg6 (Pipeline.mem_restRefs_of main_arg6 (by decide) (by decide))).trans (V_main_arg6 m c),
      ((hh.1 c).2 main_arg7 (Pipeline.mem_restRefs_of main_arg7 (by decide) (by decide))).trans (V_main_arg7 m c),
      ((hh.1 c).2 main_arg8 (Pipeline.mem_restRefs_of main_arg8 (by decide) (by decide))).trans (V_main_arg8 m c),
      (Pipeline.RDat.FramePost.arr_in hh.1 c 11 rfl).trans ((A_eq m c 11).trans (V_main_arg9 m c))⟩, hh.2⟩) (run_all m ρ)

end Cert.Kernel.Body

end
-- ==== Proof.KernelIdeal.Setup.lean ====
module

public import proofs.«01_k».proof.Proof.Gen.KernelIdeal.Frame
public import proofs.«01_k».proof.Proof.Gen.KernelIdeal.Points
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The set-up shared by the runs of the kernel body: when the conditional is taken, and the buffers the body is called with. -/

/-- The body's conditional: the chunk coordinate is zero. -/
abbrev firstChunk (i : grid0.Coords) : Prop :=
  (Scalar.cmpi .ne (Scalar.extui (Scalar.cmpi .eq (BitVec.ofNat 32 (i 1).val) 0#32)) 0#32) = 1#1

/-- It holds at the points that begin a direction: those divisible by sixteen. -/
theorem firstChunk_iff : ∀ t : Fin cfg0.N, firstChunk (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [firstChunk, e0, e1]
    word_cmp
    : ∀ t : Fin grid0.N, firstChunk (grid0.coords t) ↔ t.val % 16 = 0)

/-- Window 0's buffer at point `t`. -/
abbrev st0 (t : Fin cfg0.N) : Memref sig .tc .vmem S1x256x256 .f32 := win0_0.stage (cfg0.slots t 0)
abbrev hst0 (t : Fin cfg0.N) : (st0 t).IsWhole := hstage0_0 ((cfg0.slots t 0).cast nbuf0_0)
/-- Window 1's buffer at point `t`. -/
abbrev st1 (t : Fin cfg0.N) : Memref sig .tc .vmem S1x256x1024 .f32 := win0_1.stage (cfg0.slots t 1)
abbrev hst1 (t : Fin cfg0.N) : (st1 t).IsWhole := hstage0_1 ((cfg0.slots t 1).cast nbuf0_1)
/-- Window 2's buffer at point `t`. -/
abbrev st2 (t : Fin cfg0.N) : Memref sig .tc .vmem S1x4x512 .f32 := win0_2.stage (cfg0.slots t 2)
abbrev hst2 (t : Fin cfg0.N) : (st2 t).IsWhole := hstage0_2 ((cfg0.slots t 2).cast nbuf0_2)
/-- Window 3's buffer at point `t`. -/
abbrev st3 (t : Fin cfg0.N) : Memref sig .tc .vmem S1x1x512 .f32 := win0_3.stage (cfg0.slots t 3)
abbrev hst3 (t : Fin cfg0.N) : (st3 t).IsWhole := hstage0_3 ((cfg0.slots t 3).cast nbuf0_3)
/-- Window 4's buffer at point `t`. -/
abbrev st4 (t : Fin cfg0.N) : Memref sig .tc .vmem S1x512x16 .f32 := win0_4.stage (cfg0.slots t 4)
abbrev hst4 (t : Fin cfg0.N) : (st4 t).IsWhole := hstage0_4 ((cfg0.slots t 4).cast nbuf0_4)
/-- Window 5's buffer at point `t`. -/
abbrev st5 (t : Fin cfg0.N) : Memref sig .tc .vmem S1x512x16 .f32 := win0_5.stage (cfg0.slots t 5)
abbrev hst5 (t : Fin cfg0.N) : (st5 t).IsWhole := hstage0_5 ((cfg0.slots t 5).cast nbuf0_5)
/-- Window 6's buffer at point `t`. -/
abbrev st6 (t : Fin cfg0.N) : Memref sig .tc .vmem S1x512x16 .f32 := win0_6.stage (cfg0.slots t 6)
abbrev hst6 (t : Fin cfg0.N) : (st6 t).IsWhole := hstage0_6 ((cfg0.slots t 6).cast nbuf0_6)
/-- Window 7's buffer at point `t`. -/
abbrev st7 (t : Fin cfg0.N) : Memref sig .tc .vmem S1x16x512 .f32 := win0_7.stage (cfg0.slots t 7)
abbrev hst7 (t : Fin cfg0.N) : (st7 t).IsWhole := hstage0_7 ((cfg0.slots t 7).cast nbuf0_7)
/-- Window 8's buffer at point `t`. -/
abbrev st8 (t : Fin cfg0.N) : Memref sig .tc .vmem S1x1x512 .f32 := win0_8.stage (cfg0.slots t 8)
abbrev hst8 (t : Fin cfg0.N) : (st8 t).IsWhole := hstage0_8 ((cfg0.slots t 8).cast nbuf0_8)
/-- Window 9's buffer at point `t`. -/
abbrev st9 (t : Fin cfg0.N) : Memref sig .tc .vmem S1x16x512 .f32 := win0_9.stage (cfg0.slots t 9)
abbrev hst9 (t : Fin cfg0.N) : (st9 t).IsWhole := hstage0_9 ((cfg0.slots t 9).cast nbuf0_9)
/-- Window 10's buffer at point `t`. -/
abbrev st10 (t : Fin cfg0.N) : Memref sig .tc .vmem S1x1x512 .f32 := win0_10.stage (cfg0.slots t 10)
abbrev hst10 (t : Fin cfg0.N) : (st10 t).IsWhole := hstage0_10 ((cfg0.slots t 10).cast nbuf0_10)
/-- Window 11's buffer at point `t`. -/
abbrev st11 (t : Fin cfg0.N) : Memref sig .tc .vmem S1x512x256 .f32 := win0_11.stage (cfg0.slots t 11)
abbrev hst11 (t : Fin cfg0.N) : (st11 t).IsWhole := hstage0_11 ((cfg0.slots t 11).cast nbuf0_11)
/-- Window 12's buffer at point `t`. -/
abbrev st12 (t : Fin cfg0.N) : Memref sig .tc .vmem S1x256x256 .f32 := win0_12.stage (cfg0.slots t 12)
abbrev hst12 (t : Fin cfg0.N) : (st12 t).IsWhole := hstage0_12 ((cfg0.slots t 12).cast nbuf0_12)
/-- Scratch buffer 0. -/
abbrev sc0 : Memref sig .tc .vmem S259x512 .f32 := Memref.whole cc0_scratch0
/-- Scratch buffer 1. -/
abbrev sc1 : Memref sig .tc .vmem S256x16x512 .f32 := Memref.whole cc0_scratch1
/-- Scratch buffer 2. -/
abbrev sc2 : Memref sig .tc .vmem S256x16x512 .f32 := Memref.whole cc0_scratch2
/-- Scratch buffer 3. -/
abbrev sc3 : Memref sig .tc .vmem S256x16x512 .f32 := Memref.whole cc0_scratch3
/-- Scratch buffer 4. -/
abbrev sc4 : Memref sig .tc .vmem S16x512 .f32 := Memref.whole cc0_scratch4

/-- The region's invariant at entry, its scratch buffers spelt out. -/
theorem entry_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Body

end
-- ==== Proof.KernelIdeal.RunFirst.lean ====
module

public import proofs.«01_k».proof.Proof.KernelIdeal.Setup

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a first chunk of a direction: what its stores leave in the output block, the convolution's row buffer and the
    state buffer, as pieces, with the proof that the body runs to them. `g` is what the state-history buffer held. -/
noncomputable def runFirst (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : firstChunk i)
    (x0 : Vec F S1x256x256 .f32) (x1 : Vec F S1x256x1024 .f32) (x2 : Vec F S1x4x512 .f32) (x3 : Vec F S1x1x512 .f32) (x4 : Vec F S1x512x16 .f32) (x5 : Vec F S1x512x16 .f32) (x6 : Vec F S1x512x16 .f32) (x7 : Vec F S1x16x512 .f32) (x8 : Vec F S1x1x512 .f32) (x9 : Vec F S1x16x512 .f32) (x10 : Vec F S1x1x512 .f32) (x11 : Vec F S1x512x256 .f32) (g : Vec F S256x16x512 .f32) :
    { L : List (View.Piece (Elt F) S1x256x256 .f32) × List (View.Piece (Elt F) S259x512 .f32) × List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L.1) ∗ (∃ f, arg15.view.loc (c : Thread nD τ) ↦[arg15.view.set]{fullShare} arg15.view.writes (Elt F) f L.2.1) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L.2.2)) -∗ K ⟨⟩))
          ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_⟩, fun E K => ?run⟩
  case run =>
    simp only [cc0__mamba_kernel_eq_skeleton]; unfold cc0__mamba_kernel_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg18.eq_unread hf16
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _; iexact H17

end Cert.KernelIdeal.Body

end
-- ==== Proof.Spec.lean ====
module

public import Idealize.ShloMosaic.Lib.Pointwise
public import Idealize.ShloMosaic.Lib.Claim

@[expose] public section

set_option maxRecDepth 16384

noncomputable section

/-! The selective state-space layer as plain functions of row numbers and column numbers, over the
    extended reals. Both programs are shown to compute `Scan.out`. -/

namespace Cert.Scan

open Idealize.ShloMosaic

/-- The weights of one direction. -/
structure Weights where
  inw : Fin 256 → Fin 1024 → EReal
  cw : Fin 4 → Fin 512 → EReal
  cb : Fin 512 → EReal
  xd : Fin 512 → Fin 16 → EReal
  xb : Fin 512 → Fin 16 → EReal
  xc : Fin 512 → Fin 16 → EReal
  dw : Fin 16 → Fin 512 → EReal
  db : Fin 512 → EReal
  dd : Fin 512 → EReal
  ow : Fin 512 → Fin 256 → EReal

variable (W : Weights)

/-- The half of the input projection that goes through the convolution. -/
def xin (X : ℕ → Fin 256 → EReal) (n : ℕ) (j : Fin 512) : EReal :=
  ∑ i : Fin 256, X n i * W.inw i ⟨j.val, by omega⟩

/-- The half of the input projection that gates the result. -/
def gate (X : ℕ → Fin 256 → EReal) (n : ℕ) (j : Fin 512) : EReal :=
  ∑ i : Fin 256, X n i * W.inw i ⟨512 + j.val, by omega⟩

/-- The rows the convolution runs over: three rows of zeros, then the projected rows. -/
def rows (X : ℕ → Fin 256 → EReal) (n : ℕ) (j : Fin 512) : EReal :=
  if n < 3 then 0 else xin W X (n - 3) j

/-- `x · 1/(1 + exp (-x))`. -/
def silu (x : EReal) : EReal := x * Ideal.logistic x

/-- `log (1 + exp x)`, in the form that does not overflow. -/
def softplus (x : EReal) : EReal :=
  max x 0 + Ideal.log1p (Ideal.exp (0 - FloatOps.absf (F := Ideal) (φ := .f32) x))

variable (E : ℕ → Fin 512 → EReal)

/-- The causal convolution of width four over the rows `E`. -/
def conv (n : ℕ) (j : Fin 512) : EReal :=
  W.cb j + E n j * W.cw 0 j + E (n + 1) j * W.cw 1 j + E (n + 2) j * W.cw 2 j
    + E (n + 3) j * W.cw 3 j

def act (n : ℕ) (j : Fin 512) : EReal := silu (conv W E n j)

def dtIn (n : ℕ) (k : Fin 16) : EReal := ∑ j : Fin 512, act W E n j * W.xd j k
def bIn (n : ℕ) (s : Fin 16) : EReal := ∑ j : Fin 512, act W E n j * W.xb j s
def cOut (n : ℕ) (s : Fin 16) : EReal := ∑ j : Fin 512, act W E n j * W.xc j s

/-- The step size. -/
def delta (n : ℕ) (j : Fin 512) : EReal :=
  softplus ((∑ k : Fin 16, dtIn W E n k * W.dw k j) + W.db j)

/-- `r ^ (s + 1)` by repeated multiplication. -/
def power (r : EReal) : ℕ → EReal
  | 0 => r
  | s + 1 => power r s * r

/-- What the state of channel `j`, component `s`, is multiplied by at step `n`. -/
def decay (n : ℕ) (s : Fin 16) (j : Fin 512) : EReal := power (Ideal.exp (0 - delta W E n j)) s.val

/-- What is added to it. -/
def drive (n : ℕ) (s : Fin 16) (j : Fin 512) : EReal := delta W E n j * act W E n j * bIn W E n s

/-- The state before step `n`. -/
def state : ℕ → Fin 16 → Fin 512 → EReal
  | 0, _, _ => 0
  | n + 1, s, j => decay W E n s j * state n s j + drive W E n s j

/-- The state read out after step `n`, with the skip term. -/
def readout (n : ℕ) (j : Fin 512) : EReal :=
  (∑ s : Fin 16, cOut W E n s * state W E (n + 1) s j) + W.dd j * act W E n j

/-- The layer's result at row `n`. -/
def out (Z : ℕ → Fin 512 → EReal) (n : ℕ) (e : Fin 256) : EReal :=
  ∑ j : Fin 512, readout W E n j * silu (Z n j) * W.ow j e

end Cert.Scan

end
-- ==== Proof.KernelIdeal.Cells.lean ====
module

public import proofs.«01_k».proof.Proof.Spec
public import proofs.«01_k».proof.Proof.Gen.KernelIdeal.Skeleton
public import Idealize.ShloMosaic.Lib.Pointwise
public import Idealize.ShloMosaic.Lib.Claim

@[expose] public section

set_option maxRecDepth 16384

noncomputable section

/-! What the kernel computes from one chunk of rows, element by element, as the functions of
    `Cert.Scan` at rows `k`, `k + 1`, … -/

namespace Cert.KernelIdeal.Body

open Cert.KernelIdeal Cert.KernelIdeal.Gen
open Idealize.ShloMosaic Idealize.ShloMosaic.TcCoe Idealize.ShloMosaic.Tactic

open Cert.Scan

theorem sum16 (f : Fin 16 → EReal) :
    ∑ s : Fin 16, f s = f 0 + f 1 + f 2 + f 3 + f 4 + f 5 + f 6 + f 7 + f 8 + f 9 + f 10 + f 11 + f 12
      + f 13 + f 14 + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_eight]
  rfl

variable (W : Weights) (E : ℕ → Fin 512 → EReal) (k : ℕ)

/-! ## The convolution and what follows from it -/

theorem act_cell (v13 : Vec Ideal S259x512 .f32) (v14 : Vec Ideal S1x4x512 .f32) (v16 : Vec Ideal S1x1x512 .f32)
    (hE : ∀ (n : Fin 259) j, v13 (ix2 n j) = E (k + n.val) j)
    (hw : ∀ q j, v14 (ix3 0 q j) = W.cw q j) (hb : ∀ j, v16 (ix3 0 0 j) = W.cb j)
    (t : Fin 256) (j : Fin 512) :
    k0_pay12 (k0_pay8 v13 v14 v16) (k0_pay9 v13) (k0_pay10 v14) (ix2 t j) = act W E (k + t.val) j := by
  have e1 : k + (1 + t.val) = k + t.val + 1 := by omega
  have e2 : k + (2 + t.val) = k + t.val + 2 := by omega
  have e3 : k + (3 + t.val) = k + t.val + 3 := by omega
  have c : k0_pay8 v13 v14 v16 (ix2 t j) + k0_pay9 v13 (ix2 t j) * k0_pay10 v14 (ix2 t j) = conv W E (k + t.val) j := by
    pointwise [k0_pay8, k0_pay9, k0_pay10, k0_pay7]
    rw [hE, hE, hE, hE, hw, hw, hw, hw, hb]
    show W.cb j + E (k + t.val) j * W.cw 0 j + E (k + (1 + t.val)) j * W.cw 1 j + E (k + (2 + t.val)) j * W.cw 2 j
      + E (k + (3 + t.val)) j * W.cw 3 j = _
    rw [e1, e2, e3]
    rfl
  pointwise [k0_pay12]
  rw [c]
  rfl

section FromAct

variable (a b d : FVec Ideal S256x512 .f32)
  (hu : ∀ (t : Fin 256) j, k0_pay12 a b d (ix2 t j) = act W E (k + t.val) j)

include hu

theorem bIn_cell (v48 : Vec Ideal S1x512x16 .f32) (h : ∀ j s, v48 (ix3 0 j s) = W.xb j s)
    (t : Fin 256) (s : Fin 16) : k0_pay13 a b d v48 (ix2 t s) = bIn W E (k + t.val) s := by
  pointwise [k0_pay13]
  exact Finset.sum_congr rfl fun j _ => by rw [hu, h]

theorem cOut_cell (v51 : Vec Ideal S1x512x16 .f32) (h : ∀ j s, v51 (ix3 0 j s) = W.xc j s)
    (t : Fin 256) (s : Fin 16) : k0_pay14 a b d v51 (ix2 t s) = cOut W E (k + t.val) s := by
  pointwise [k0_pay14]
  exact Finset.sum_congr rfl fun j _ => by rw [hu, h]

variable (v45 : Vec Ideal S1x512x16 .f32) (v54 : Vec Ideal S1x16x512 .f32) (v57 : Vec Ideal S1x1x512 .f32)
  (hd : ∀ j k, v45 (ix3 0 j k) = W.xd j k) (hw : ∀ k j, v54 (ix3 0 k j) = W.dw k j) (hb : ∀ j, v57 (ix3 0 0 j) = W.db j)

include hd hw hb

theorem pre_cell (t : Fin 256) (j : Fin 512) :
    k0_pay15 a b d v45 v54 v57 (ix2 t j) = (∑ q : Fin 16, dtIn W E (k + t.val) q * W.dw q j) + W.db j := by
  pointwise [k0_pay15]
  rw [hb]
  congr 1
  refine Finset.sum_congr rfl fun q _ => ?_
  rw [hw]
  congr 1
  exact Finset.sum_congr rfl fun j _ => by rw [hu, hd]

theorem delta_cell (t : Fin 256) (j : Fin 512) :
    k0_pay21 (k0_pay16 a b d v45 v54 v57) (k0_pay18 a b d v45 v54 v57) (k0_pay19 a b d v45 v54 v57)
      (k0_pay20 a b d v45 v54 v57) (ix2 t j) = delta W E (k + t.val) j := by
  have e := pre_cell W E k a b d hu v45 v54 v57 hd hw hb t j
  pointwise [k0_pay21, k0_pay16, k0_pay17, k0_pay18, k0_pay19, k0_pay20]
  rw [e]
  simp only [ne_eq, not_true_eq_false, decide_false]
  rfl

end FromAct

/-! ## The decay factors and the driving terms -/

section FromDelta

variable (v62 : FVec Ideal S256x512 .f32) (v65 : IVec S256x512 1) (v67 v72 : FVec Ideal S256x512 .f32)
  (D : Fin 256 → Fin 512 → EReal)
  (hδ : ∀ t j, k0_pay21 v62 v65 v67 v72 (ix2 t j) = D t j)

include hδ

theorem base_cell (t : Fin 256) (j : Fin 512) : k0_pay23 v62 v65 v67 v72 (ix2 t j) = Ideal.exp (0 - D t j) := by
  pointwise [k0_pay23]
  rw [hδ]

theorem weight_cell (u : FVec Ideal S256x512 .f32) (t : Fin 256) (j : Fin 512) :
    k0_pay22 u v62 v65 v67 v72 (ix2 t j) = D t j * u (ix2 t j) := by
  pointwise [k0_pay22]
  rw [hδ]

theorem decay0 (t : Fin 256) (j : Fin 512) :
    k0_pay24 v62 v65 v67 v72 (ix3 t 0 j) = power (Ideal.exp (0 - D t j)) 0 := by
  pointwise [k0_pay24]
  exact base_cell v62 v65 v67 v72 D hδ t j

theorem pow1 (t : Fin 256) (j : Fin 512) :
    k0_pay26 v62 v65 v67 v72 (ix2 t j) = power (Ideal.exp (0 - D t j)) 1 := by
  pointwise [k0_pay26]
  rw [base_cell v62 v65 v67 v72 D hδ]
  rfl

theorem decay1 (t : Fin 256) (j : Fin 512) :
    k0_pay27 v62 v65 v67 v72 (ix3 t 0 j) = power (Ideal.exp (0 - D t j)) 1 := by
  have e := pow1 v62 v65 v67 v72 D hδ t j
  pointwise [k0_pay27]
  exact e

theorem pow2 (t : Fin 256) (j : Fin 512) :
    k0_pay29 v62 v65 v67 v72 (ix2 t j) = power (Ideal.exp (0 - D t j)) 2 := by
  have e := pow1 v62 v65 v67 v72 D hδ t j
  pointwise [k0_pay29]
  rw [e, base_cell v62 v65 v67 v72 D hδ]
  rfl

theorem decay2 (t : Fin 256) (j : Fin 512) :
    k0_pay30 v62 v65 v67 v72 (ix3 t 0 j) = power (Ideal.exp (0 - D t j)) 2 := by
  have e := pow2 v62 v65 v67 v72 D hδ t j
  pointwise [k0_pay30]
  exact e

end FromDelta

section Powers

variable (r p : FVec Ideal S256x512 .f32) (R : Fin 256 → Fin 512 → EReal) (hr : ∀ t j, r (ix2 t j) = R t j)

include hr

theorem pow3 (hp : ∀ t j, p (ix2 t j) = power (R t j) 2) (t : Fin 256) (j : Fin 512) :
    k0_pay32 r p (ix2 t j) = power (R t j) 3 := by
  have e := hp t j
  pointwise [k0_pay32]
  rw [e, hr]
  rfl

theorem decay3 (hp : ∀ t j, p (ix2 t j) = power (R t j) 2) (t : Fin 256) (j : Fin 512) :
    k0_pay33 r p (ix3 t 0 j) = power (R t j) 3 := by
  have e := pow3 r p R hr hp t j
  pointwise [k0_pay33]
  exact e

theorem pow4 (hp : ∀ t j, p (ix2 t j) = power (R t j) 2) (t : Fin 256) (j : Fin 512) :
    k0_pay35 r p (ix2 t j) = power (R t j) 4 := by
  have e := pow3 r p R hr hp t j
  pointwise [k0_pay35]
  rw [e, hr]
  rfl

theorem decay4 (hp : ∀ t j, p (ix2 t j) = power (R t j) 2) (t : Fin 256) (j : Fin 512) :
    k0_pay36 r p (ix3 t 0 j) = power (R t j) 4 := by
  have e := pow4 r p R hr hp t j
  pointwise [k0_pay36]
  exact e

theorem pow5 (hp : ∀ t j, p (ix2 t j) = power (R t j) 2) (t : Fin 256) (j : Fin 512) :
    k0_pay38 r p (ix2 t j) = power (R t j) 5 := by
  have e := pow4 r p R hr hp t j
  pointwise [k0_pay38]
  rw [e, hr]
  rfl

theorem decay5 (hp : ∀ t j, p (ix2 t j) = power (R t j) 2) (t : Fin 256) (j : Fin 512) :
    k0_pay39 r p (ix3 t 0 j) = power (R t j) 5 := by
  have e := pow5 r p R hr hp t j
  pointwise [k0_pay39]
  exact e

theorem pow6 (hp : ∀ t j, p (ix2 t j) = power (R t j) 2) (t : Fin 256) (j : Fin 512) :
    k0_pay41 r p (ix2 t j) = power (R t j) 6 := by
  have e := pow5 r p R hr hp t j
  pointwise [k0_pay41]
  rw [e, hr]
  rfl

omit hr in
theorem decay6 (hp : ∀ t j, p (ix2 t j) = power (R t j) 6) (t : Fin 256) (j : Fin 512) :
    k0_pay42 p (ix3 t 0 j) = power (R t j) 6 := by
  have e := hp t j
  pointwise [k0_pay42]
  exact e

theorem pow7 (hp : ∀ t j, p (ix2 t j) = power (R t j) 6) (t : Fin 256) (j : Fin 512) :
    k0_pay44 r p (ix2 t j) = power (R t j) 7 := by
  have e := hp t j
  pointwise [k0_pay44]
  rw [e, hr]
  rfl

theorem decay7 (hp : ∀ t j, p (ix2 t j) = power (R t j) 6) (t : Fin 256) (j : Fin 512) :
    k0_pay45 r p (ix3 t 0 j) = power (R t j) 7 := by
  have e := pow7 r p R hr hp t j
  pointwise [k0_pay45]
  exact e

theorem pow8 (hp : ∀ t j, p (ix2 t j) = power (R t j) 6) (t : Fin 256) (j : Fin 512) :
    k0_pay47 r p (ix2 t j) = power (R t j) 8 := by
  have e := pow7 r p R hr hp t j
  pointwise [k0_pay47]
  rw [e, hr]
  rfl

theorem decay8 (hp : ∀ t j, p (ix2 t j) = power (R t j) 6) (t : Fin 256) (j : Fin 512) :
    k0_pay48 r p (ix3 t 0 j) = power (R t j) 8 := by
  have e := pow8 r p R hr hp t j
  pointwise [k0_pay48]
  exact e

theorem pow9 (hp : ∀ t j, p (ix2 t j) = power (R t j) 6) (t : Fin 256) (j : Fin 512) :
    k0_pay50 r p (ix2 t j) = power (R t j) 9 := by
  have e := pow8 r p R hr hp t j
  pointwise [k0_pay50]
  rw [e, hr]
  rfl

theorem decay9 (hp : ∀ t j, p (ix2 t j) = power (R t j) 6) (t : Fin 256) (j : Fin 512) :
    k0_pay51 r p (ix3 t 0 j) = power (R t j) 9 := by
  have e := pow9 r p R hr hp t j
  pointwise [k0_pay51]
  exact e

theorem pow10 (hp : ∀ t j, p (ix2 t j) = power (R t j) 9) (t : Fin 256) (j : Fin 512) :
    k0_pay54 r p (ix2 t j) = power (R t j) 10 := by
  have e := hp t j
  pointwise [k0_pay54]
  rw [e, hr]
  rfl

theorem decay10 (hp : ∀ t j, p (ix2 t j) = power (R t j) 9) (t : Fin 256) (j : Fin 512) :
    k0_pay55 r p (ix3 t 0 j) = power (R t j) 10 := by
  have e := pow10 r p R hr hp t j
  pointwise [k0_pay55]
  exact e

theorem pow11 (hp : ∀ t j, p (ix2 t j) = power (R t j) 9) (t : Fin 256) (j : Fin 512) :
    k0_pay57 r p (ix2 t j) = power (R t j) 11 := by
  have e := pow10 r p R hr hp t j
  pointwise [k0_pay57]
  rw [e, hr]
  rfl

theorem decay11 (hp : ∀ t j, p (ix2 t j) = power (R t j) 9) (t : Fin 256) (j : Fin 512) :
    k0_pay58 r p (ix3 t 0 j) = power (R t j) 11 := by
  have e := pow11 r p R hr hp t j
  pointwise [k0_pay58]
  exact e

theorem pow12 (hp : ∀ t j, p (ix2 t j) = power (R t j) 9) (t : Fin 256) (j : Fin 512) :
    k0_pay60 r p (ix2 t j) = power (R t j) 12 := by
  have e := pow11 r p R hr hp t j
  pointwise [k0_pay60]
  rw [e, hr]
  rfl

theorem decay12 (hp : ∀ t j, p (ix2 t j) = power (R t j) 9) (t : Fin 256) (j : Fin 512) :
    k0_pay61 r p (ix3 t 0 j) = power (R t j) 12 := by
  have e := pow12 r p R hr hp t j
  pointwise [k0_pay61]
  exact e

theorem pow13 (hp : ∀ t j, p (ix2 t j) = power (R t j) 12) (t : Fin 256) (j : Fin 512) :
    k0_pay63 r p (ix2 t j) = power (R t j) 13 := by
  have e := hp t j
  pointwise [k0_pay63]
  rw [e, hr]
  rfl

theorem decay13 (hp : ∀ t j, p (ix2 t j) = power (R t j) 12) (t : Fin 256) (j : Fin 512) :
    k0_pay64 r p (ix3 t 0 j) = power (R t j) 13 := by
  have e := pow13 r p R hr hp t j
  pointwise [k0_pay64]
  exact e

theorem pow14 (hp : ∀ t j, p (ix2 t j) = power (R t j) 12) (t : Fin 256) (j : Fin 512) :
    k0_pay66 r p (ix2 t j) = power (R t j) 14 := by
  have e := pow13 r p R hr hp t j
  pointwise [k0_pay66]
  rw [e, hr]
  rfl

theorem decay14 (hp : ∀ t j, p (ix2 t j) = power (R t j) 12) (t : Fin 256) (j : Fin 512) :
    k0_pay67 r p (ix3 t 0 j) = power (R t j) 14 := by
  have e := pow14 r p R hr hp t j
  pointwise [k0_pay67]
  exact e

theorem decay15 (hp : ∀ t j, p (ix2 t j) = power (R t j) 12) (t : Fin 256) (j : Fin 512) :
    k0_pay69 r p (ix3 t 0 j) = power (R t j) 15 := by
  have e := pow14 r p R hr hp t j
  pointwise [k0_pay69]
  rw [e, hr]
  rfl

end Powers

section Drives

variable (v50 : FVec Ideal S256x16 .f32) (w : FVec Ideal S256x512 .f32) (t : Fin 256) (j : Fin 512)

theorem drive3 : k0_pay34 v50 w (ix3 t 0 j) = w (ix2 t j) * v50 (ix2 t 3) := by
  pointwise [k0_pay34]

theorem drive4 : k0_pay37 v50 w (ix3 t 0 j) = w (ix2 t j) * v50 (ix2 t 4) := by
  pointwise [k0_pay37]

theorem drive5 : k0_pay40 v50 w (ix3 t 0 j) = w (ix2 t j) * v50 (ix2 t 5) := by
  pointwise [k0_pay40]

theorem drive6 : k0_pay43 v50 w (ix3 t 0 j) = w (ix2 t j) * v50 (ix2 t 6) := by
  pointwise [k0_pay43]

theorem drive7 : k0_pay46 v50 w (ix3 t 0 j) = w (ix2 t j) * v50 (ix2 t 7) := by
  pointwise [k0_pay46]

theorem drive8 : k0_pay49 v50 w (ix3 t 0 j) = w (ix2 t j) * v50 (ix2 t 8) := by
  pointwise [k0_pay49]

theorem drive10 : k0_pay56 v50 w (ix3 t 0 j) = w (ix2 t j) * v50 (ix2 t 10) := by
  pointwise [k0_pay56]

theorem drive11 : k0_pay59 v50 w (ix3 t 0 j) = w (ix2 t j) * v50 (ix2 t 11) := by
  pointwise [k0_pay59]

theorem drive12 : k0_pay62 v50 w (ix3 t 0 j) = w (ix2 t j) * v50 (ix2 t 12) := by
  pointwise [k0_pay62]

theorem drive13 : k0_pay65 v50 w (ix3 t 0 j) = w (ix2 t j) * v50 (ix2 t 13) := by
  pointwise [k0_pay65]

theorem drive14 : k0_pay68 v50 w (ix3 t 0 j) = w (ix2 t j) * v50 (ix2 t 14) := by
  pointwise [k0_pay68]

theorem drive15 : k0_pay70 v50 w (ix3 t 0 j) = w (ix2 t j) * v50 (ix2 t 15) := by
  pointwise [k0_pay70]

theorem drive9 : k0_pay53 (k0_pay52 v50 w) (ix3 t 0 j) = w (ix2 t j) * v50 (ix2 t 9) := by
  pointwise [k0_pay53, k0_pay52]

variable (u v62 : FVec Ideal S256x512 .f32) (v65 : IVec S256x512 1) (v67 v72 : FVec Ideal S256x512 .f32)

theorem drive0 : k0_pay25 u v50 v62 v65 v67 v72 (ix3 t 0 j) = k0_pay22 u v62 v65 v67 v72 (ix2 t j) * v50 (ix2 t 0) := by
  pointwise [k0_pay25, k0_pay22]

theorem drive1 : k0_pay28 u v50 v62 v65 v67 v72 (ix3 t 0 j) = k0_pay22 u v62 v65 v67 v72 (ix2 t j) * v50 (ix2 t 1) := by
  pointwise [k0_pay28, k0_pay22]

theorem drive2 : k0_pay31 u v50 v62 v65 v67 v72 (ix3 t 0 j) = k0_pay22 u v62 v65 v67 v72 (ix2 t j) * v50 (ix2 t 2) := by
  pointwise [k0_pay31, k0_pay22]

end Drives

/-! ## The result -/

theorem out_cell (z u : FVec Ideal S256x512 .f32) (C : FVec Ideal S256x16 .f32)
    (v245 v250 v256 v262 v268 v274 v280 v286 v292 v298 v304 v310 v316 v322 v328 v334 : Vec Ideal S256x1x512 .f32)
    (v339 : Vec Ideal S1x1x512 .f32) (v347 : Vec Ideal S1x512x256 .f32) (Z : ℕ → Fin 512 → EReal)
    (hz : ∀ (t : Fin 256) j, z (ix2 t j) = Z (k + t.val) j)
    (hu : ∀ (t : Fin 256) j, u (ix2 t j) = act W E (k + t.val) j)
    (hC : ∀ (t : Fin 256) s, C (ix2 t s) = cOut W E (k + t.val) s)
    (hd : ∀ j, v339 (ix3 0 0 j) = W.dd j) (ho : ∀ j e, v347 (ix3 0 j e) = W.ow j e)
    (h0 : ∀ (t : Fin 256) j, v245 (ix3 t 0 j) = state W E (k + t.val + 1) 0 j)
    (h1 : ∀ (t : Fin 256) j, v250 (ix3 t 0 j) = state W E (k + t.val + 1) 1 j)
    (h2 : ∀ (t : Fin 256) j, v256 (ix3 t 0 j) = state W E (k + t.val + 1) 2 j)
    (h3 : ∀ (t : Fin 256) j, v262 (ix3 t 0 j) = state W E (k + t.val + 1) 3 j)
    (h4 : ∀ (t : Fin 256) j, v268 (ix3 t 0 j) = state W E (k + t.val + 1) 4 j)
    (h5 : ∀ (t : Fin 256) j, v274 (ix3 t 0 j) = state W E (k + t.val + 1) 5 j)
    (h6 : ∀ (t : Fin 256) j, v280 (ix3 t 0 j) = state W E (k + t.val + 1) 6 j)
    (h7 : ∀ (t : Fin 256) j, v286 (ix3 t 0 j) = state W E (k + t.val + 1) 7 j)
    (h8 : ∀ (t : Fin 256) j, v292 (ix3 t 0 j) = state W E (k + t.val + 1) 8 j)
    (h9 : ∀ (t : Fin 256) j, v298 (ix3 t 0 j) = state W E (k + t.val + 1) 9 j)
    (h10 : ∀ (t : Fin 256) j, v304 (ix3 t 0 j) = state W E (k + t.val + 1) 10 j)
    (h11 : ∀ (t : Fin 256) j, v310 (ix3 t 0 j) = state W E (k + t.val + 1) 11 j)
    (h12 : ∀ (t : Fin 256) j, v316 (ix3 t 0 j) = state W E (k + t.val + 1) 12 j)
    (h13 : ∀ (t : Fin 256) j, v322 (ix3 t 0 j) = state W E (k + t.val + 1) 13 j)
    (h14 : ∀ (t : Fin 256) j, v328 (ix3 t 0 j) = state W E (k + t.val + 1) 14 j)
    (h15 : ∀ (t : Fin 256) j, v334 (ix3 t 0 j) = state W E (k + t.val + 1) 15 j)
    (t : Fin 256) (e : Fin 256) :
    k0_pay1 (k0_pay82 z u C (k0_pay80 C (k0_pay77 C v245 v250 v256 v262 v268) (k0_pay78 v274) (k0_pay79 C) v280 v286 v292 v298 v304 v310) (k0_pay81 C)
      v316 v322 v328 v334 v339 v347) (ix3 0 t e) = out W E Z (k + t.val) e := by
  pointwise [k0_pay1, k0_pay82, k0_pay80, k0_pay77, k0_pay78, k0_pay79, k0_pay81]
  refine Finset.sum_congr rfl fun j _ => ?_
  rw [hz, hu, hd, ho, hC, hC, hC, hC, hC, hC, hC, hC, hC, hC, hC, hC, hC, hC, hC, hC, h0, h1, h2, h3, h4, h5, h6, h7, h8, h9, h10, h11, h12, h13, h14, h15]
  unfold readout
  rw [sum16]
  rfl

/-! ## The input projection -/

section Proj

variable (X : ℕ → Fin 256 → EReal) (v0 : Vec Ideal S1x256x256 .f32) (v2 : Vec Ideal S1x256x1024 .f32)
  (hX : ∀ (t : Fin 256) i, v0 (ix3 0 t i) = X (k + t.val) i) (hW : ∀ i q, v2 (ix3 0 i q) = W.inw i q)

include hX hW

theorem gate_cell (t : Fin 256) (j : Fin 512) : k0_pay3 v0 v2 (ix2 t j) = gate W X (k + t.val) j := by
  pointwise [k0_pay3, k0_pay2]
  exact Finset.sum_congr rfl fun i _ => by rw [hX, hW]

theorem xin_cell (t : Fin 256) (j : Fin 512) : k0_pay6 v0 v2 (ix2 t j) = xin W X (k + t.val) j := by
  pointwise [k0_pay6, k0_pay2]
  exact Finset.sum_congr rfl fun i _ => by rw [hX, hW]

end Proj

theorem tail_cell (v13 : Vec Ideal S259x512 .f32) (q : Fin 3) (j : Fin 512) :
    k0_pay11 v13 (ix2 q j) = v13 (ix2 ⟨256 + q.val, by omega⟩ j) := by
  pointwise [k0_pay11]

theorem zeroRows_cell (q : Fin 3) (j : Fin 512) : k0_pay4 (F := Ideal) (ix2 q j) = 0 := by
  pointwise [k0_pay4]

theorem zeroState_cell (s : Fin 16) (j : Fin 512) : k0_pay5 (F := Ideal) (ix2 s j) = 0 := by
  pointwise [k0_pay5]

theorem last_cell (v : Vec Ideal S16x512 .f32) (s : Fin 16) (j : Fin 512) : k0_pay76 v (ix2 s j) = v (ix2 s j) := by
  pointwise [k0_pay76]

end Cert.KernelIdeal.Body

end
-- ==== Proof.KernelIdeal.Loop.lean ====
module

public import proofs.«01_k».proof.Proof.Gen.KernelIdeal.Loops
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.Pipeline.ValueKit

@[expose] public section

set_option maxRecDepth 16384

noncomputable section

/-! The loop over the rows of one chunk: each trip takes four steps of the recurrence, so before trip
    `k` the carried state is the one before row `4 k`, and the rows below `4 k` of the history hold
    the states after them. -/

namespace Cert.KernelIdeal.Body

open Cert.KernelIdeal Cert.KernelIdeal.Gen
open Idealize.ShloMosaic Idealize.ShloMosaic.TcCoe Idealize.ShloMosaic.Tactic

/-- The four rows trip `k` reads and writes. -/
abbrev tripRect (k : Fin k0_t1_loop.trips) : Rect S256x16x512 :=
  Rect.unit (k0_off1 k) S4x16x512.size (k0_off1_inb k)

section Any

variable {F : FTy → Type} [FloatOps F]

theorem trip_result (𝒱 : Variants) (c : Dev nD) (bd : Option 𝒱.V) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (v53 : FVec F S256x16 .f32) (v238 : Vec F S16x512 .f32) (c0_i32_123 : BitVec 32) (X_arg16 : BufTy.Contents (Elt F) arg16.view.ty) (X_arg17 : BufTy.Contents (Elt F) arg17.view.ty) (k : Fin k0_t1_loop.trips) (acc : Vec F S16x512 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 k acc
      = k0_pay74 acc (arg16.view.readAt (Elt F) (tripRect k).toLoadRect X_arg16) (arg17.view.readAt (Elt F) (tripRect k).toLoadRect X_arg17) := by
  unfold tripR_k0_t1 trip_k0_t1
  rfl

theorem trip_pieces (𝒱 : Variants) (c : Dev nD) (bd : Option 𝒱.V) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (v53 : FVec F S256x16 .f32) (v238 : Vec F S16x512 .f32) (c0_i32_123 : BitVec 32) (X_arg16 : BufTy.Contents (Elt F) arg16.view.ty) (X_arg17 : BufTy.Contents (Elt F) arg17.view.ty) (k : Fin k0_t1_loop.trips) (acc : Vec F S16x512 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 k acc
      = [⟨tripRect k, k0_pay75 acc (arg16.view.readAt (Elt F) (tripRect k).toLoadRect X_arg16) (arg17.view.readAt (Elt F) (tripRect k).toLoadRect X_arg17)⟩] := by
  unfold tripL_k0_t1 trip_k0_t1
  rfl

end Any

/-! ## Four steps -/

section Steps

variable (acc : Vec Ideal S16x512 .f32) (a b : Vec Ideal S4x16x512 .f32)
  (dA dB H : ℕ → Fin 16 → Fin 512 → EReal) (n : ℕ)
  (hH : ∀ n s j, H (n + 1) s j = dA n s j * H n s j + dB n s j)
  (ha : ∀ (q : Fin 4) s j, a (ix3 q s j) = dA (n + q.val) s j)
  (hb : ∀ (q : Fin 4) s j, b (ix3 q s j) = dB (n + q.val) s j)
  (h0 : ∀ s j, acc (ix2 s j) = H n s j)

include hH ha hb h0

theorem step1 (s : Fin 16) (j : Fin 512) : k0_pay71 acc a b (ix2 s j) = H (n + 1) s j := by
  have e : k0_pay71 acc a b (ix2 s j) = a (ix3 0 s j) * acc (ix2 s j) + b (ix3 0 s j) := by
    pointwise [k0_pay71]
  rw [e, ha, hb, h0, hH]; rfl

theorem step2 (s : Fin 16) (j : Fin 512) : k0_pay72 acc a b (ix2 s j) = H (n + 2) s j := by
  have e : k0_pay72 acc a b (ix2 s j) = a (ix3 1 s j) * k0_pay71 acc a b (ix2 s j) + b (ix3 1 s j) := by
    pointwise [k0_pay72]
  rw [e, ha, hb, step1 acc a b dA dB H n hH ha hb h0]
  exact (hH (n + 1) s j).symm

theorem step3 (s : Fin 16) (j : Fin 512) : k0_pay73 acc a b (ix2 s j) = H (n + 3) s j := by
  have e : k0_pay73 acc a b (ix2 s j) = a (ix3 2 s j) * k0_pay72 acc a b (ix2 s j) + b (ix3 2 s j) := by
    pointwise [k0_pay73]
  rw [e, ha, hb, step2 acc a b dA dB H n hH ha hb h0]
  exact (hH (n + 2) s j).symm

theorem step4 (s : Fin 16) (j : Fin 512) : k0_pay74 acc a b (ix2 s j) = H (n + 4) s j := by
  have e : k0_pay74 acc a b (ix2 s j) = a (ix3 3 s j) * k0_pay73 acc a b (ix2 s j) + b (ix3 3 s j) := by
    pointwise [k0_pay74]
  rw [e, ha, hb, step3 acc a b dA dB H n hH ha hb h0]
  exact (hH (n + 3) s j).symm

theorem steps (q : Fin 4) (s : Fin 16) (j : Fin 512) :
    k0_pay75 acc a b (ix3 q s j) = H (n + q.val + 1) s j := by
  pointwise [k0_pay75]
  rw [step1 acc a b dA dB H n hH ha hb h0, step2 acc a b dA dB H n hH ha hb h0,
    step3 acc a b dA dB H n hH ha hb h0, step4 acc a b dA dB H n hH ha hb h0]
  match q with
  | ⟨0, _⟩ => rfl
  | ⟨1, _⟩ => rfl
  | ⟨2, _⟩ => rfl
  | ⟨3, _⟩ => rfl

end Steps

/-! ## The whole loop -/

theorem trips_lt (k : Fin k0_t1_loop.trips) : k.val < 64 := lt_of_lt_of_le k.isLt k0_t1_abs.2.1

/-- The rows a trip reads, from the contents of the whole buffer. -/
theorem trip_read (m : Memref sig .tc .vmem S256x16x512 .f32) (f : BufTy.Contents (Elt Ideal) m.view.ty)
    (dA : ℕ → Fin 16 → Fin 512 → EReal)
    (h : ∀ (t : Fin 256) s j, m.view.read (Elt Ideal) f (ix3 t s j) = dA t.val s j)
    (k : Fin k0_t1_loop.trips) (q : Fin 4) (s : Fin 16) (j : Fin 512) :
    m.view.readAt (Elt Ideal) (tripRect k).toLoadRect f (ix3 q s j) = dA (4 * k.val + q.val) s j := by
  have hk := trips_lt k
  have hq := q.isLt
  refine (View.ld_unit_apply_of (m.view.read (Elt Ideal) f) (k0_off1 k) S4x16x512.size (k0_off1_inb k)
    (ix3 q s j) (ix3 ⟨4 * k.val + q.val, by omega⟩ s j) ?_).trans (h _ s j)
  intro a
  refine Eq.trans ?_ (congrArg (· + ((ix3 q s j : S4x16x512.Idx) a).val) (congrFun (k0_off1_eq k) a).symm)
  match a with
  | ⟨0, _⟩ => rfl
  | ⟨1, _⟩ => exact (Nat.zero_add _).symm
  | ⟨2, _⟩ => exact (Nat.zero_add _).symm

theorem loop_state (𝒱 : Variants) (c : Dev nD) (bd : Option 𝒱.V) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (v53 : FVec Ideal S256x16 .f32) (v238 : Vec Ideal S16x512 .f32) (c0_i32_123 : BitVec 32) (X_arg16 : BufTy.Contents (Elt Ideal) arg16.view.ty) (X_arg17 : BufTy.Contents (Elt Ideal) arg17.view.ty) (init : Vec Ideal S16x512 .f32)
    (dA dB H : ℕ → Fin 16 → Fin 512 → EReal)
    (hH : ∀ n s j, H (n + 1) s j = dA n s j * H n s j + dB n s j)
    (hA : ∀ (t : Fin 256) s j, arg16.view.read (Elt Ideal) X_arg16 (ix3 t s j) = dA t.val s j)
    (hB : ∀ (t : Fin 256) s j, arg17.view.read (Elt Ideal) X_arg17 (ix3 t s j) = dB t.val s j)
    (h0 : ∀ s j, init (ix2 s j) = H 0 s j) :
    ∀ k : ℕ, k ≤ k0_t1_loop.trips →
      (∀ s j, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 init k).1 (ix2 s j) = H (4 * k) s j) ∧
      ∀ (f : BufTy.Contents (Elt Ideal) arg18.view.ty) (t : Fin 256) s j, t.val < 4 * k →
        arg18.view.read (Elt Ideal) (arg18.view.writes (Elt Ideal) f
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 init k).2) (ix3 t s j) = H (t.val + 1) s j
  | 0, _ => ⟨fun s j => h0 s j, fun f t s j ht => absurd ht (by omega)⟩
  | k + 1, hk => by
    obtain ⟨ih1, ih2⟩ := loop_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 init dA dB H hH hA hB h0 k (by omega)
    have hk' : k < k0_t1_loop.trips := hk
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v53 v238 c0_i32_123 X_arg16 X_arg17 init ⟨k, hk'⟩
    have ra := trip_read arg16 X_arg16 dA hA ⟨k, hk'⟩
    have rb := trip_read arg17 X_arg17 dB hB ⟨k, hk'⟩
    rw [trip_result, trip_pieces] at e
    have e1 := congrArg Prod.fst e
    have e2 := congrArg Prod.snd e
    dsimp only at e1 e2
    rw [e1, e2]
    refine ⟨fun s j => step4 _ _ _ dA dB H (4 * k) hH ra rb ih1 s j, fun f t s j ht => ?_⟩
    by_cases htk : t.val < 4 * k
    · refine (View.read_writes_cons_unit_of_not_mem (off' := ![4 * k, 0, 0]) arg18.view f (k0_off1_inb ⟨k, hk'⟩) _ _
        (ix3 t s j) (k0_off1_eq ⟨k, hk'⟩) (0 : Fin 3) (Or.inl htk)).trans (ih2 f t s j htk)
    · have ht' : t.val - 4 * k < 4 := by omega
      refine (View.read_writes_cons_unit_of_mem (off' := ![4 * k, 0, 0]) arg18.view f (k0_off1_inb ⟨k, hk'⟩) _ _
        (ix3 t s j) (ix3 ⟨t.val - 4 * k, ht'⟩ s j) (k0_off1_eq ⟨k, hk'⟩) ?_).trans ?_
      · intro a
        match a with
        | ⟨0, _⟩ => show t.val = 4 * k + (t.val - 4 * k); omega
        | ⟨1, _⟩ => exact (Nat.zero_add _).symm
        | ⟨2, _⟩ => exact (Nat.zero_add _).symm
      · refine (steps _ _ _ dA dB H (4 * k) hH ra rb ih1 ⟨t.val - 4 * k, ht'⟩ s j).trans ?_
        have en : 4 * k + (t.val - 4 * k) + 1 = t.val + 1 := by omega
        show H (4 * k + (t.val - 4 * k) + 1) s j = _
        rw [en]

end Cert.KernelIdeal.Body

end
-- ==== Proof.KernelIdeal.Slabs.lean ====
module

public import proofs.«01_k».proof.Proof.Gen.KernelIdeal.Skeleton
public import Idealize.ShloMosaic.Lib.Pointwise
public import Idealize.ShloMosaic.Lib.Claim
public import Idealize.ShloMosaic.Lib.WritesUnit

@[expose] public section

set_option maxRecDepth 16384

noncomputable section

/-! A buffer filled by sixteen stores, one per state component, read back. -/

namespace Cert.KernelIdeal.Body

open Cert.KernelIdeal Cert.KernelIdeal.Gen
open Idealize.ShloMosaic Idealize.ShloMosaic.TcCoe Idealize.ShloMosaic.Tactic

section

variable {F : FTy → Type} [FloatOps F]

/-- The sixteen stores, the last one first. -/
abbrev slabs (p0 p1 p2 p3 p4 p5 p6 p7 p8 p9 p10 p11 p12 p13 p14 p15 : Vec F S256x1x512 .f32) : List (View.Piece (Elt F) S256x16x512 .f32) :=
  [⟨Rect.unit ![0, 15, 0] S256x1x512.size inb_S256x16x512_S256x1x512_0_15_0, p15⟩,
   ⟨Rect.unit ![0, 14, 0] S256x1x512.size inb_S256x16x512_S256x1x512_0_14_0, p14⟩,
   ⟨Rect.unit ![0, 13, 0] S256x1x512.size inb_S256x16x512_S256x1x512_0_13_0, p13⟩,
   ⟨Rect.unit ![0, 12, 0] S256x1x512.size inb_S256x16x512_S256x1x512_0_12_0, p12⟩,
   ⟨Rect.unit ![0, 11, 0] S256x1x512.size inb_S256x16x512_S256x1x512_0_11_0, p11⟩,
   ⟨Rect.unit ![0, 10, 0] S256x1x512.size inb_S256x16x512_S256x1x512_0_10_0, p10⟩,
   ⟨Rect.unit ![0, 9, 0] S256x1x512.size inb_S256x16x512_S256x1x512_0_9_0, p9⟩,
   ⟨Rect.unit ![0, 8, 0] S256x1x512.size inb_S256x16x512_S256x1x512_0_8_0, p8⟩,
   ⟨Rect.unit ![0, 7, 0] S256x1x512.size inb_S256x16x512_S256x1x512_0_7_0, p7⟩,
   ⟨Rect.unit ![0, 6, 0] S256x1x512.size inb_S256x16x512_S256x1x512_0_6_0, p6⟩,
   ⟨Rect.unit ![0, 5, 0] S256x1x512.size inb_S256x16x512_S256x1x512_0_5_0, p5⟩,
   ⟨Rect.unit ![0, 4, 0] S256x1x512.size inb_S256x16x512_S256x1x512_0_4_0, p4⟩,
   ⟨Rect.unit ![0, 3, 0] S256x1x512.size inb_S256x16x512_S256x1x512_0_3_0, p3⟩,
   ⟨Rect.unit ![0, 2, 0] S256x1x512.size inb_S256x16x512_S256x1x512_0_2_0, p2⟩,
   ⟨Rect.unit ![0, 1, 0] S256x1x512.size inb_S256x16x512_S256x1x512_0_1_0, p1⟩,
   ⟨Rect.unit ![0, 0, 0] S256x1x512.size inb_S256x16x512_S256x1x512_0_0_0, p0⟩]

theorem read_slabs (v : View sig .tc .vmem S256x16x512 .f32) (f : v.ty.Contents (Elt F))
    (p0 p1 p2 p3 p4 p5 p6 p7 p8 p9 p10 p11 p12 p13 p14 p15 : Vec F S256x1x512 .f32) (D : Fin 256 → Fin 16 → Fin 512 → F .f32)
    (h0 : ∀ t j, p0 (ix3 t 0 j) = D t 0 j)
    (h1 : ∀ t j, p1 (ix3 t 0 j) = D t 1 j)
    (h2 : ∀ t j, p2 (ix3 t 0 j) = D t 2 j)
    (h3 : ∀ t j, p3 (ix3 t 0 j) = D t 3 j)
    (h4 : ∀ t j, p4 (ix3 t 0 j) = D t 4 j)
    (h5 : ∀ t j, p5 (ix3 t 0 j) = D t 5 j)
    (h6 : ∀ t j, p6 (ix3 t 0 j) = D t 6 j)
    (h7 : ∀ t j, p7 (ix3 t 0 j) = D t 7 j)
    (h8 : ∀ t j, p8 (ix3 t 0 j) = D t 8 j)
    (h9 : ∀ t j, p9 (ix3 t 0 j) = D t 9 j)
    (h10 : ∀ t j, p10 (ix3 t 0 j) = D t 10 j)
    (h11 : ∀ t j, p11 (ix3 t 0 j) = D t 11 j)
    (h12 : ∀ t j, p12 (ix3 t 0 j) = D t 12 j)
    (h13 : ∀ t j, p13 (ix3 t 0 j) = D t 13 j)
    (h14 : ∀ t j, p14 (ix3 t 0 j) = D t 14 j)
    (h15 : ∀ t j, p15 (ix3 t 0 j) = D t 15 j)
    (t : Fin 256) (s : Fin 16) (j : Fin 512) :
    v.read (Elt F) (v.writes (Elt F) f (slabs p0 p1 p2 p3 p4 p5 p6 p7 p8 p9 p10 p11 p12 p13 p14 p15)) (ix3 t s j) = D t s j := by
  match s with
  | ⟨0, _⟩ =>
    refine (View.read_writes_cons_unit_of_not_mem v f inb_S256x16x512_S256x1x512_0_15_0 p15 _ _ rfl (1 : Fin 3) (Or.inl (by show 0 < 15; omega))).trans ?_
    refine (View.read_writes_cons_unit_of_not_mem v f inb_S256x16x512_S256x1x512_0_14_0 p14 _ _ rfl (1 : Fin 3) (Or.inl (by show 0 < 14; omega))).trans ?_
    refine (View.read_writes_cons_unit_of_not_mem v f inb_S256x16x512_S256x1x512_0_13_0 p13 _ _ rfl (1 : Fin 3) (Or.inl (by show 0 < 13; omega))).trans ?_
    refine (View.read_writes_cons_unit_of_not_mem v f inb_S256x16x512_S256x1x512_0_12_0 p12 _ _ rfl (1 : Fin 3) (Or.inl (by show 0 < 12; omega))).trans ?_
    refine (View.read_writes_cons_unit_of_not_mem v f inb_S256x16x512_S256x1x512_0_11_0 p11 _ _ rfl (1 : Fin 3) (Or.inl (by show 0 < 11; omega))).trans ?_
    refine (View.read_writes_cons_unit_of_not_mem v f inb_S256x16x512_S256x1x512_0_10_0 p10 _ _ rfl (1 : Fin 3) (Or.inl (by show 0 < 10; omega))).trans ?_
    refine (View.read_writes_cons_unit_of_not_mem v f inb_S256x16x512_S256x1x512_0_9_0 p9 _ _ rfl (1 : Fin 3) (Or.inl (by show 0 < 9; omega))).trans ?_
    refine (View.read_writes_cons_unit_of_not_mem v f inb_S256x16x512_S256x1x512_0_8_0 p8 _ _ rfl (1 : Fin 3) (Or.inl (by show 0 < 8; omega))).trans ?_
    refine (View.read_writes_cons_unit_of_not_mem v f inb_S256x16x512_S256x1x512_0_7_0 p7 _ _ rfl (1 : Fin 3) (Or.inl (by show 0 < 7; omega))).trans ?_
    refine (View.read_writes_cons_unit_of_not_mem v f inb_S256x16x512_S256x1x512_0_6_0 p6 _ _ rfl (1 : Fin 3) (Or.inl (by show 0 < 6; omega))).trans ?_
    refine (View.read_writes_cons_unit_of_not_mem v f inb_S256x16x512_S256x1x512_0_5_0 p5 _ _ rfl (1 : Fin 3) (Or.inl (by show 0 < 5; omega))).trans ?_
    refine (View.read_writes_cons_unit_of_not_mem v f inb_S256x16x512_S256x1x512_0_4_0 p4 _ _ rfl (1 : Fin 3) (Or.inl (by show 0 < 4; omega))).trans ?_
    refine (View.read_writes_cons_unit_of_not_mem v f inb_S256x16x512_S256x1x512_0_3_0 p3 _ _ rfl (1 : Fin 3) (Or.inl (by show 0 < 3; omega))).trans ?_
    refine (View.read_writes_cons_unit_of_not_mem v f inb_S256x16x512_S256x1x512_0_2_0 p2 _ _ rfl (1 : Fin 3) (Or.inl (by show 0 < 2; omega))).trans ?_
    refine (View.read_writes_cons_unit_of_not_mem v f inb_S256x16x512_S256x1x512_0_1_0 p1 _ _ rfl (1 : Fin 3) (Or.inl (by show 0 < 1; omega))).trans ?_
    refine (View.read_writes_cons_unit_of_mem v f inb_S256x16x512_S256x1x512_0_0_0 p0 _ _ (ix3 t 0 j) rfl ?_).trans (h0 t j)
    intro a
    match a with
    | ⟨0, _⟩ => exact (Nat.zero_add _).symm
    | ⟨1, _⟩ => rfl
    | ⟨2, _⟩ => exact (Nat.zero_add _).symm
  | ⟨1, _⟩ =>
    refine (View.read_writes_cons_unit_of_not_mem v f inb_S256x16x512_S256x1x512_0_15_0 p15 _ _ rfl (1 : Fin 3) (Or.inl (by show 1 < 15; omega))).trans ?_
    refine (View.read_writes_cons_unit_of_not_mem v f inb_S256x16x512_S256x1x512_0_14_0 p14 _ _ rfl (1 : Fin 3) (Or.inl (by show 1 < 14; omega))).trans ?_
    refine (View.read_writes_cons_unit_of_not_mem v f inb_S256x16x512_S256x1x512_0_13_0 p13 _ _ rfl (1 : Fin 3) (Or.inl (by show 1 < 13; omega))).trans ?_
    refine (View.read_writes_cons_unit_of_not_mem v f inb_S256x16x512_S256x1x512_0_12_0 p12 _ _ rfl (1 : Fin 3) (Or.inl (by show 1 < 12; omega))).trans ?_
    refine (View.read_writes_cons_unit_of_not_mem v f inb_S256x16x512_S256x1x512_0_11_0 p11 _ _ rfl (1 : Fin 3) (Or.inl (by show 1 < 11; omega))).trans ?_
    refine (View.read_writes_cons_unit_of_not_mem v f inb_S256x16x512_S256x1x512_0_10_0 p10 _ _ rfl (1 : Fin 3) (Or.inl (by show 1 < 10; omega))).trans ?_
    refine (View.read_writes_cons_unit_of_not_mem v f inb_S256x16x512_S256x1x512_0_9_0 p9 _ _ rfl (1 : Fin 3) (Or.inl (by show 1 < 9; omega))).trans ?_
    refine (View.read_writes_cons_unit_of_not_mem v f inb_S256x16x512_S256x1x512_0_8_0 p8 _ _ rfl (1 : Fin 3) (Or.inl (by show 1 < 8; omega))).trans ?_
    refine (View.read_writes_cons_unit_of_not_mem v f inb_S256x16x512_S256x1x512_0_7_0 p7 _ _ rfl (1 : Fin 3) (Or.inl (by show 1 < 7; omega))).trans ?_
    refine (View.read_writes_cons_unit_of_not_mem v f inb_S256x16x512_S256x1x512_0_6_0 p6 _ _ rfl (1 : Fin 3) (Or.inl (by show 1 < 6; omega))).trans ?_
    refine (View.read_writes_cons_unit_of_not_mem v f inb_S256x16x512_S256x1x512_0_5_0 p5 _ _ rfl (1 : Fin 3) (Or.inl (by show 1 < 5; omega))).trans ?_
    refine (View.read_writes_cons_unit_of_not_mem v f inb_S256x16x512_S256x1x512_0_4_0 p4 _ _ rfl (1 : Fin 3) (Or.inl (by show 1 < 4; omega))).trans ?_
    refine (View.read_writes_cons_unit_of_not_mem v f inb_S256x16x512_S256x1x512_0_3_0 p3 _ _ rfl (1 : Fin 3) (Or.inl (by show 1 < 3; omega))).trans ?_
    refine (View.read_writes_cons_unit_of_not_mem v f inb_S256x16x512_S256x1x512_0_2_0 p2 _ _ rfl (1 : Fin 3) (Or.inl (by show 1 < 2; omega))).trans ?_
    refine (View.read_writes_cons_unit_of_mem v f inb_S256x16x512_S256x1x512_0_1_0 p1 _ _ (ix3 t 0 j) rfl ?_).trans (h1 t j)
    intro a
    match a with
    | ⟨0, _⟩ => exact (Nat.zero_add _).symm
    | ⟨1, _⟩ => rfl
    | ⟨2, _⟩ => exact (Nat.zero_add _).symm
  | ⟨2, _⟩ =>
    refine (View.read_writes_cons_unit_of_not_mem v f inb_S256x16x512_S256x1x512_0_15_0 p15 _ _ rfl (1 : Fin 3) (Or.inl (by show 2 < 15; omega))).trans ?_
    refine (View.read_writes_cons_unit_of_not_mem v f inb_S256x16x512_S256x1x512_0_14_0 p14 _ _ rfl (1 : Fin 3) (Or.inl (by show 2 < 14; omega))).trans ?_
    refine (View.read_writes_cons_unit_of_not_mem v f inb_S256x16x512_S256x1x512_0_13_0 p13 _ _ rfl (1 : Fin 3) (Or.inl (by show 2 < 13; omega))).trans ?_
    refine (View.read_writes_cons_unit_of_not_mem v f inb_S256x16x512_S256x1x512_0_12_0 p12 _ _ rfl (1 : Fin 3) (Or.inl (by show 2 < 12; omega))).trans ?_
    refine (View.read_writes_cons_unit_of_not_mem v f inb_S256x16x512_S256x1x512_0_11_0 p11 _ _ rfl (1 : Fin 3) (Or.inl (by show 2 < 11; omega))).trans ?_
    refine (View.read_writes_cons_unit_of_not_mem v f inb_S256x16x512_S256x1x512_0_10_0 p10 _ _ rfl (1 : Fin 3) (Or.inl (by show 2 < 10; omega))).trans ?_
    refine (View.read_writes_cons_unit_of_not_mem v f inb_S256x16x512_S256x1x512_0_9_0 p9 _ _ rfl (1 : Fin 3) (Or.inl (by show 2 < 9; omega))).trans ?_
    refine (View.read_writes_cons_unit_of_not_mem v f inb_S256x16x512_S256x1x512_0_8_0 p8 _ _ rfl (1 : Fin 3) (Or.inl (by show 2 < 8; omega))).trans ?_
    refine (View.read_writes_cons_unit_of_not_mem v f inb_S256x16x512_S256x1x512_0_7_0 p7 _ _ rfl (1 : Fin 3) (Or.inl (by show 2 < 7; omega))).trans ?_
    refine (View.read_writes_cons_unit_of_not_mem v f inb_S256x16x512_S256x1x512_0_6_0 p6 _ _ rfl (1 : Fin 3) (Or.inl (by show 2 < 6; omega))).trans ?_
    refine (View.read_writes_cons_unit_of_not_mem v f inb_S256x16x512_S256x1x512_0_5_0 p5 _ _ rfl (1 : Fin 3) (Or.inl (by show 2 < 5; omega))).trans ?_
    refine (View.read_writes_cons_unit_of_not_mem v f inb_S256x16x512_S256x1x512_0_4_0 p4 _ _ rfl (1 : Fin 3) (Or.inl (by show 2 < 4; omega))).trans ?_
    refine (View.read_writes_cons_unit_of_not_mem v f inb_S256x16x512_S256x1x512_0_3_0 p3 _ _ rfl (1 : Fin 3) (Or.inl (by show 2 < 3; omega))).trans ?_
    refine (View.read_writes_cons_unit_of_mem v f inb_S256x16x512_S256x1x512_0_2_0 p2 _ _ (ix3 t 0 j) rfl ?_).trans (h2 t j)
    intro a
    match a with
    | ⟨0, _⟩ => exact (Nat.zero_add _).symm
    | ⟨1, _⟩ => rfl
    | ⟨2, _⟩ => exact (Nat.zero_add _).symm
  | ⟨3, _⟩ =>
    refine (View.read_writes_cons_unit_of_not_mem v f inb_S256x16x512_S256x1x512_0_15_0 p15 _ _ rfl (1 : Fin 3) (Or.inl (by show 3 < 15; omega))).trans ?_
    refine (View.read_writes_cons_unit_of_not_mem v f inb_S256x16x512_S256x1x512_0_14_0 p14 _ _ rfl (1 : Fin 3) (Or.inl (by show 3 < 14; omega))).trans ?_
    refine (View.read_writes_cons_unit_of_not_mem v f inb_S256x16x512_S256x1x512_0_13_0 p13 _ _ rfl (1 : Fin 3) (Or.inl (by show 3 < 13; omega))).trans ?_
    refine (View.read_writes_cons_unit_of_not_mem v f inb_S256x16x512_S256x1x512_0_12_0 p12 _ _ rfl (1 : Fin 3) (Or.inl (by show 3 < 12; omega))).trans ?_
    refine (View.read_writes_cons_unit_of_not_mem v f inb_S256x16x512_S256x1x512_0_11_0 p11 _ _ rfl (1 : Fin 3) (Or.inl (by show 3 < 11; omega))).trans ?_
    refine (View.read_writes_cons_unit_of_not_mem v f inb_S256x16x512_S256x1x512_0_10_0 p10 _ _ rfl (1 : Fin 3) (Or.inl (by show 3 < 10; omega))).trans ?_
    refine (View.read_writes_cons_unit_of_not_mem v f inb_S256x16x512_S256x1x512_0_9_0 p9 _ _ rfl (1 : Fin 3) (Or.inl (by show 3 < 9; omega))).trans ?_
    refine (View.read_writes_cons_unit_of_not_mem v f inb_S256x16x512_S256x1x512_0_8_0 p8 _ _ rfl (1 : Fin 3) (Or.inl (by show 3 < 8; omega))).trans ?_
    refine (View.read_writes_cons_unit_of_not_mem v f inb_S256x16x512_S256x1x512_0_7_0 p7 _ _ rfl (1 : Fin 3) (Or.inl (by show 3 < 7; omega))).trans ?_
    refine (View.read_writes_cons_unit_of_not_mem v f inb_S256x16x512_S256x1x512_0_6_0 p6 _ _ rfl (1 : Fin 3) (Or.inl (by show 3 < 6; omega))).trans ?_
    refine (View.read_writes_cons_unit_of_not_mem v f inb_S256x16x512_S256x1x512_0_5_0 p5 _ _ rfl (1 : Fin 3) (Or.inl (by show 3 < 5; omega))).trans ?_
    refine (View.read_writes_cons_unit_of_not_mem v f inb_S256x16x512_S256x1x512_0_4_0 p4 _ _ rfl (1 : Fin 3) (Or.inl (by show 3 < 4; omega))).trans ?_
    refine (View.read_writes_cons_unit_of_mem v f inb_S256x16x512_S256x1x512_0_3_0 p3 _ _ (ix3 t 0 j) rfl ?_).trans (h3 t j)
    intro a
    match a with
    | ⟨0, _⟩ => exact (Nat.zero_add _).symm
    | ⟨1, _⟩ => rfl
    | ⟨2, _⟩ => exact (Nat.zero_add _).symm
  | ⟨4, _⟩ =>
    refine (View.read_writes_cons_unit_of_not_mem v f inb_S256x16x512_S256x1x512_0_15_0 p15 _ _ rfl (1 : Fin 3) (Or.inl (by show 4 < 15; omega))).trans ?_
    refine (View.read_writes_cons_unit_of_not_mem v f inb_S256x16x512_S256x1x512_0_14_0 p14 _ _ rfl (1 : Fin 3) (Or.inl (by show 4 < 14; omega))).trans ?_
    refine (View.read_writes_cons_unit_of_not_mem v f inb_S256x16x512_S256x1x512_0_13_0 p13 _ _ rfl (1 : Fin 3) (Or.inl (by show 4 < 13; omega))).trans ?_
    refine (View.read_writes_cons_unit_of_not_mem v f inb_S256x16x512_S256x1x512_0_12_0 p12 _ _ rfl (1 : Fin 3) (Or.inl (by show 4 < 12; omega))).trans ?_
    refine (View.read_writes_cons_unit_of_not_mem v f inb_S256x16x512_S256x1x512_0_11_0 p11 _ _ rfl (1 : Fin 3) (Or.inl (by show 4 < 11; omega))).trans ?_
    refine (View.read_writes_cons_unit_of_not_mem v f inb_S256x16x512_S256x1x512_0_10_0 p10 _ _ rfl (1 : Fin 3) (Or.inl (by show 4 < 10; omega))).trans ?_
    refine (View.read_writes_cons_unit_of_not_mem v f inb_S256x16x512_S256x1x512_0_9_0 p9 _ _ rfl (1 : Fin 3) (Or.inl (by show 4 < 9; omega))).trans ?_
    refine (View.read_writes_cons_unit_of_not_mem v f inb_S256x16x512_S256x1x512_0_8_0 p8 _ _ rfl (1 : Fin 3) (Or.inl (by show 4 < 8; omega))).trans ?_
    refine (View.read_writes_cons_unit_of_not_mem v f inb_S256x16x512_S256x1x512_0_7_0 p7 _ _ rfl (1 : Fin 3) (Or.inl (by show 4 < 7; omega))).trans ?_
    refine (View.read_writes_cons_unit_of_not_mem v f inb_S256x16x512_S256x1x512_0_6_0 p6 _ _ rfl (1 : Fin 3) (Or.inl (by show 4 < 6; omega))).trans ?_
    refine (View.read_writes_cons_unit_of_not_mem v f inb_S256x16x512_S256x1x512_0_5_0 p5 _ _ rfl (1 : Fin 3) (Or.inl (by show 4 < 5; omega))).trans ?_
    refine (View.read_writes_cons_unit_of_mem v f inb_S256x16x512_S256x1x512_0_4_0 p4 _ _ (ix3 t 0 j) rfl ?_).trans (h4 t j)
    intro a
    match a with
    | ⟨0, _⟩ => exact (Nat.zero_add _).symm
    | ⟨1, _⟩ => rfl
    | ⟨2, _⟩ => exact (Nat.zero_add _).symm
  | ⟨5, _⟩ =>
    refine (View.read_writes_cons_unit_of_not_mem v f inb_S256x16x512_S256x1x512_0_15_0 p15 _ _ rfl (1 : Fin 3) (Or.inl (by show 5 < 15; omega))).trans ?_
    refine (View.read_writes_cons_unit_of_not_mem v f inb_S256x16x512_S256x1x512_0_14_0 p14 _ _ rfl (1 : Fin 3) (Or.inl (by show 5 < 14; omega))).trans ?_
    refine (View.read_writes_cons_unit_of_not_mem v f inb_S256x16x512_S256x1x512_0_13_0 p13 _ _ rfl (1 : Fin 3) (Or.inl (by show 5 < 13; omega))).trans ?_
    refine (View.read_writes_cons_unit_of_not_mem v f inb_S256x16x512_S256x1x512_0_12_0 p12 _ _ rfl (1 : Fin 3) (Or.inl (by show 5 < 12; omega))).trans ?_
    refine (View.read_writes_cons_unit_of_not_mem v f inb_S256x16x512_S256x1x512_0_11_0 p11 _ _ rfl (1 : Fin 3) (Or.inl (by show 5 < 11; omega))).trans ?_
    refine (View.read_writes_cons_unit_of_not_mem v f inb_S256x16x512_S256x1x512_0_10_0 p10 _ _ rfl (1 : Fin 3) (Or.inl (by show 5 < 10; omega))).trans ?_
    refine (View.read_writes_cons_unit_of_not_mem v f inb_S256x16x512_S256x1x512_0_9_0 p9 _ _ rfl (1 : Fin 3) (Or.inl (by show 5 < 9; omega))).trans ?_
    refine (View.read_writes_cons_unit_of_not_mem v f inb_S256x16x512_S256x1x512_0_8_0 p8 _ _ rfl (1 : Fin 3) (Or.inl (by show 5 < 8; omega))).trans ?_
    refine (View.read_writes_cons_unit_of_not_mem v f inb_S256x16x512_S256x1x512_0_7_0 p7 _ _ rfl (1 : Fin 3) (Or.inl (by show 5 < 7; omega))).trans ?_
    refine (View.read_writes_cons_unit_of_not_mem v f inb_S256x16x512_S256x1x512_0_6_0 p6 _ _ rfl (1 : Fin 3) (Or.inl (by show 5 < 6; omega))).trans ?_
    refine (View.read_writes_cons_unit_of_mem v f inb_S256x16x512_S256x1x512_0_5_0 p5 _ _ (ix3 t 0 j) rfl ?_).trans (h5 t j)
    intro a
    match a with
    | ⟨0, _⟩ => exact (Nat.zero_add _).symm
    | ⟨1, _⟩ => rfl
    | ⟨2, _⟩ => exact (Nat.zero_add _).symm
  | ⟨6, _⟩ =>
    refine (View.read_writes_cons_unit_of_not_mem v f inb_S256x16x512_S256x1x512_0_15_0 p15 _ _ rfl (1 : Fin 3) (Or.inl (by show 6 < 15; omega))).trans ?_
    refine (View.read_writes_cons_unit_of_not_mem v f inb_S256x16x512_S256x1x512_0_14_0 p14 _ _ rfl (1 : Fin 3) (Or.inl (by show 6 < 14; omega))).trans ?_
    refine (View.read_writes_cons_unit_of_not_mem v f inb_S256x16x512_S256x1x512_0_13_0 p13 _ _ rfl (1 : Fin 3) (Or.inl (by show 6 < 13; omega))).trans ?_
    refine (View.read_writes_cons_unit_of_not_mem v f inb_S256x16x512_S256x1x512_0_12_0 p12 _ _ rfl (1 : Fin 3) (Or.inl (by show 6 < 12; omega))).trans ?_
    refine (View.read_writes_cons_unit_of_not_mem v f inb_S256x16x512_S256x1x512_0_11_0 p11 _ _ rfl (1 : Fin 3) (Or.inl (by show 6 < 11; omega))).trans ?_
    refine (View.read_writes_cons_unit_of_not_mem v f inb_S256x16x512_S256x1x512_0_10_0 p10 _ _ rfl (1 : Fin 3) (Or.inl (by show 6 < 10; omega))).trans ?_
    refine (View.read_writes_cons_unit_of_not_mem v f inb_S256x16x512_S256x1x512_0_9_0 p9 _ _ rfl (1 : Fin 3) (Or.inl (by show 6 < 9; omega))).trans ?_
    refine (View.read_writes_cons_unit_of_not_mem v f inb_S256x16x512_S256x1x512_0_8_0 p8 _ _ rfl (1 : Fin 3) (Or.inl (by show 6 < 8; omega))).trans ?_
    refine (View.read_writes_cons_unit_of_not_mem v f inb_S256x16x512_S256x1x512_0_7_0 p7 _ _ rfl (1 : Fin 3) (Or.inl (by show 6 < 7; omega))).trans ?_
    refine (View.read_writes_cons_unit_of_mem v f inb_S256x16x512_S256x1x512_0_6_0 p6 _ _ (ix3 t 0 j) rfl ?_).trans (h6 t j)
    intro a
    match a with
    | ⟨0, _⟩ => exact (Nat.zero_add _).symm
    | ⟨1, _⟩ => rfl
    | ⟨2, _⟩ => exact (Nat.zero_add _).symm
  | ⟨7, _⟩ =>
    refine (View.read_writes_cons_unit_of_not_mem v f inb_S256x16x512_S256x1x512_0_15_0 p15 _ _ rfl (1 : Fin 3) (Or.inl (by show 7 < 15; omega))).trans ?_
    refine (View.read_writes_cons_unit_of_not_mem v f inb_S256x16x512_S256x1x512_0_14_0 p14 _ _ rfl (1 : Fin 3) (Or.inl (by show 7 < 14; omega))).trans ?_
    refine (View.read_writes_cons_unit_of_not_mem v f inb_S256x16x512_S256x1x512_0_13_0 p13 _ _ rfl (1 : Fin 3) (Or.inl (by show 7 < 13; omega))).trans ?_
    refine (View.read_writes_cons_unit_of_not_mem v f inb_S256x16x512_S256x1x512_0_12_0 p12 _ _ rfl (1 : Fin 3) (Or.inl (by show 7 < 12; omega))).trans ?_
    refine (View.read_writes_cons_unit_of_not_mem v f inb_S256x16x512_S256x1x512_0_11_0 p11 _ _ rfl (1 : Fin 3) (Or.inl (by show 7 < 11; omega))).trans ?_
    refine (View.read_writes_cons_unit_of_not_mem v f inb_S256x16x512_S256x1x512_0_10_0 p10 _ _ rfl (1 : Fin 3) (Or.inl (by show 7 < 10; omega))).trans ?_
    refine (View.read_writes_cons_unit_of_not_mem v f inb_S256x16x512_S256x1x512_0_9_0 p9 _ _ rfl (1 : Fin 3) (Or.inl (by show 7 < 9; omega))).trans ?_
    refine (View.read_writes_cons_unit_of_not_mem v f inb_S256x16x512_S256x1x512_0_8_0 p8 _ _ rfl (1 : Fin 3) (Or.inl (by show 7 < 8; omega))).trans ?_
    refine (View.read_writes_cons_unit_of_mem v f inb_S256x16x512_S256x1x512_0_7_0 p7 _ _ (ix3 t 0 j) rfl ?_).trans (h7 t j)
    intro a
    match a with
    | ⟨0, _⟩ => exact (Nat.zero_add _).symm
    | ⟨1, _⟩ => rfl
    | ⟨2, _⟩ => exact (Nat.zero_add _).symm
  | ⟨8, _⟩ =>
    refine (View.read_writes_cons_unit_of_not_mem v f inb_S256x16x512_S256x1x512_0_15_0 p15 _ _ rfl (1 : Fin 3) (Or.inl (by show 8 < 15; omega))).trans ?_
    refine (View.read_writes_cons_unit_of_not_mem v f inb_S256x16x512_S256x1x512_0_14_0 p14 _ _ rfl (1 : Fin 3) (Or.inl (by show 8 < 14; omega))).trans ?_
    refine (View.read_writes_cons_unit_of_not_mem v f inb_S256x16x512_S256x1x512_0_13_0 p13 _ _ rfl (1 : Fin 3) (Or.inl (by show 8 < 13; omega))).trans ?_
    refine (View.read_writes_cons_unit_of_not_mem v f inb_S256x16x512_S256x1x512_0_12_0 p12 _ _ rfl (1 : Fin 3) (Or.inl (by show 8 < 12; omega))).trans ?_
    refine (View.read_writes_cons_unit_of_not_mem v f inb_S256x16x512_S256x1x512_0_11_0 p11 _ _ rfl (1 : Fin 3) (Or.inl (by show 8 < 11; omega))).trans ?_
    refine (View.read_writes_cons_unit_of_not_mem v f inb_S256x16x512_S256x1x512_0_10_0 p10 _ _ rfl (1 : Fin 3) (Or.inl (by show 8 < 10; omega))).trans ?_
    refine (View.read_writes_cons_unit_of_not_mem v f inb_S256x16x512_S256x1x512_0_9_0 p9 _ _ rfl (1 : Fin 3) (Or.inl (by show 8 < 9; omega))).trans ?_
    refine (View.read_writes_cons_unit_of_mem v f inb_S256x16x512_S256x1x512_0_8_0 p8 _ _ (ix3 t 0 j) rfl ?_).trans (h8 t j)
    intro a
    match a with
    | ⟨0, _⟩ => exact (Nat.zero_add _).symm
    | ⟨1, _⟩ => rfl
    | ⟨2, _⟩ => exact (Nat.zero_add _).symm
  | ⟨9, _⟩ =>
    refine (View.read_writes_cons_unit_of_not_mem v f inb_S256x16x512_S256x1x512_0_15_0 p15 _ _ rfl (1 : Fin 3) (Or.inl (by show 9 < 15; omega))).trans ?_
    refine (View.read_writes_cons_unit_of_not_mem v f inb_S256x16x512_S256x1x512_0_14_0 p14 _ _ rfl (1 : Fin 3) (Or.inl (by show 9 < 14; omega))).trans ?_
    refine (View.read_writes_cons_unit_of_not_mem v f inb_S256x16x512_S256x1x512_0_13_0 p13 _ _ rfl (1 : Fin 3) (Or.inl (by show 9 < 13; omega))).trans ?_
    refine (View.read_writes_cons_unit_of_not_mem v f inb_S256x16x512_S256x1x512_0_12_0 p12 _ _ rfl (1 : Fin 3) (Or.inl (by show 9 < 12; omega))).trans ?_
    refine (View.read_writes_cons_unit_of_not_mem v f inb_S256x16x512_S256x1x512_0_11_0 p11 _ _ rfl (1 : Fin 3) (Or.inl (by show 9 < 11; omega))).trans ?_
    refine (View.read_writes_cons_unit_of_not_mem v f inb_S256x16x512_S256x1x512_0_10_0 p10 _ _ rfl (1 : Fin 3) (Or.inl (by show 9 < 10; omega))).trans ?_
    refine (View.read_writes_cons_unit_of_mem v f inb_S256x16x512_S256x1x512_0_9_0 p9 _ _ (ix3 t 0 j) rfl ?_).trans (h9 t j)
    intro a
    match a with
    | ⟨0, _⟩ => exact (Nat.zero_add _).symm
    | ⟨1, _⟩ => rfl
    | ⟨2, _⟩ => exact (Nat.zero_add _).symm
  | ⟨10, _⟩ =>
    refine (View.read_writes_cons_unit_of_not_mem v f inb_S256x16x512_S256x1x512_0_15_0 p15 _ _ rfl (1 : Fin 3) (Or.inl (by show 10 < 15; omega))).trans ?_
    refine (View.read_writes_cons_unit_of_not_mem v f inb_S256x16x512_S256x1x512_0_14_0 p14 _ _ rfl (1 : Fin 3) (Or.inl (by show 10 < 14; omega))).trans ?_
    refine (View.read_writes_cons_unit_of_not_mem v f inb_S256x16x512_S256x1x512_0_13_0 p13 _ _ rfl (1 : Fin 3) (Or.inl (by show 10 < 13; omega))).trans ?_
    refine (View.read_writes_cons_unit_of_not_mem v f inb_S256x16x512_S256x1x512_0_12_0 p12 _ _ rfl (1 : Fin 3) (Or.inl (by show 10 < 12; omega))).trans ?_
    refine (View.read_writes_cons_unit_of_not_mem v f inb_S256x16x512_S256x1x512_0_11_0 p11 _ _ rfl (1 : Fin 3) (Or.inl (by show 10 < 11; omega))).trans ?_
    refine (View.read_writes_cons_unit_of_mem v f inb_S256x16x512_S256x1x512_0_10_0 p10 _ _ (ix3 t 0 j) rfl ?_).trans (h10 t j)
    intro a
    match a with
    | ⟨0, _⟩ => exact (Nat.zero_add _).symm
    | ⟨1, _⟩ => rfl
    | ⟨2, _⟩ => exact (Nat.zero_add _).symm
  | ⟨11, _⟩ =>
    refine (View.read_writes_cons_unit_of_not_mem v f inb_S256x16x512_S256x1x512_0_15_0 p15 _ _ rfl (1 : Fin 3) (Or.inl (by show 11 < 15; omega))).trans ?_
    refine (View.read_writes_cons_unit_of_not_mem v f inb_S256x16x512_S256x1x512_0_14_0 p14 _ _ rfl (1 : Fin 3) (Or.inl (by show 11 < 14; omega))).trans ?_
    refine (View.read_writes_cons_unit_of_not_mem v f inb_S256x16x512_S256x1x512_0_13_0 p13 _ _ rfl (1 : Fin 3) (Or.inl (by show 11 < 13; omega))).trans ?_
    refine (View.read_writes_cons_unit_of_not_mem v f inb_S256x16x512_S256x1x512_0_12_0 p12 _ _ rfl (1 : Fin 3) (Or.inl (by show 11 < 12; omega))).trans ?_
    refine (View.read_writes_cons_unit_of_mem v f inb_S256x16x512_S256x1x512_0_11_0 p11 _ _ (ix3 t 0 j) rfl ?_).trans (h11 t j)
    intro a
    match a with
    | ⟨0, _⟩ => exact (Nat.zero_add _).symm
    | ⟨1, _⟩ => rfl
    | ⟨2, _⟩ => exact (Nat.zero_add _).symm
  | ⟨12, _⟩ =>
    refine (View.read_writes_cons_unit_of_not_mem v f inb_S256x16x512_S256x1x512_0_15_0 p15 _ _ rfl (1 : Fin 3) (Or.inl (by show 12 < 15; omega))).trans ?_
    refine (View.read_writes_cons_unit_of_not_mem v f inb_S256x16x512_S256x1x512_0_14_0 p14 _ _ rfl (1 : Fin 3) (Or.inl (by show 12 < 14; omega))).trans ?_
    refine (View.read_writes_cons_unit_of_not_mem v f inb_S256x16x512_S256x1x512_0_13_0 p13 _ _ rfl (1 : Fin 3) (Or.inl (by show 12 < 13; omega))).trans ?_
    refine (View.read_writes_cons_unit_of_mem v f inb_S256x16x512_S256x1x512_0_12_0 p12 _ _ (ix3 t 0 j) rfl ?_).trans (h12 t j)
    intro a
    match a with
    | ⟨0, _⟩ => exact (Nat.zero_add _).symm
    | ⟨1, _⟩ => rfl
    | ⟨2, _⟩ => exact (Nat.zero_add _).symm
  | ⟨13, _⟩ =>
    refine (View.read_writes_cons_unit_of_not_mem v f inb_S256x16x512_S256x1x512_0_15_0 p15 _ _ rfl (1 : Fin 3) (Or.inl (by show 13 < 15; omega))).trans ?_
    refine (View.read_writes_cons_unit_of_not_mem v f inb_S256x16x512_S256x1x512_0_14_0 p14 _ _ rfl (1 : Fin 3) (Or.inl (by show 13 < 14; omega))).trans ?_
    refine (View.read_writes_cons_unit_of_mem v f inb_S256x16x512_S256x1x512_0_13_0 p13 _ _ (ix3 t 0 j) rfl ?_).trans (h13 t j)
    intro a
    match a with
    | ⟨0, _⟩ => exact (Nat.zero_add _).symm
    | ⟨1, _⟩ => rfl
    | ⟨2, _⟩ => exact (Nat.zero_add _).symm
  | ⟨14, _⟩ =>
    refine (View.read_writes_cons_unit_of_not_mem v f inb_S256x16x512_S256x1x512_0_15_0 p15 _ _ rfl (1 : Fin 3) (Or.inl (by show 14 < 15; omega))).trans ?_
    refine (View.read_writes_cons_unit_of_mem v f inb_S256x16x512_S256x1x512_0_14_0 p14 _ _ (ix3 t 0 j) rfl ?_).trans (h14 t j)
    intro a
    match a with
    | ⟨0, _⟩ => exact (Nat.zero_add _).symm
    | ⟨1, _⟩ => rfl
    | ⟨2, _⟩ => exact (Nat.zero_add _).symm
  | ⟨15, _⟩ =>
    refine (View.read_writes_cons_unit_of_mem v f inb_S256x16x512_S256x1x512_0_15_0 p15 _ _ (ix3 t 0 j) rfl ?_).trans (h15 t j)
    intro a
    match a with
    | ⟨0, _⟩ => exact (Nat.zero_add _).symm
    | ⟨1, _⟩ => rfl
    | ⟨2, _⟩ => exact (Nat.zero_add _).symm
  | ⟨n + 16, h⟩ => exact absurd h (by omega)

end

end Cert.KernelIdeal.Body

end
-- ==== Proof.KernelIdeal.Reads.lean ====
module

public import proofs.«01_k».proof.Proof.KernelIdeal.Slabs
public import Idealize.ShloMosaic.Lib.Pipeline.FrameBody
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

theorem zero2 : ∀ a : Fin 2, (![0, 0] : Fin 2 → ℕ) a = 0 := by decide

theorem zero3 : ∀ a : Fin 3, (![0, 0, 0] : Fin 3 → ℕ) a = 0 := by decide

/-- A load of a whole buffer. -/
theorem load_whole {S : Shape} (m : Memref sig .tc .vmem S .f32) (hm : m.IsWhole) (x : Vec Ideal S .f32)
    {off : Fin S.rank → ℕ} (inb : ∀ a, off a + S.size a ≤ S.size a) (h : ∀ a, off a = 0) :
    m.view.readAt (Elt Ideal) (Rect.unit off S.size inb).toLoadRect (hm.unread x) = x :=
  (View.ld_unit_lit inb (m.view.read (Elt Ideal) (hm.unread x)) h).trans (hm.read_unread x)

/-- A load of a whole buffer, of any contents. -/
theorem load_all {S : Shape} (m : Memref sig .tc .vmem S .f32) (f : BufTy.Contents (Elt Ideal) m.view.ty)
    {off : Fin S.rank → ℕ} (inb : ∀ a, off a + S.size a ≤ S.size a) (h : ∀ a, off a = 0) :
    m.view.readAt (Elt Ideal) (Rect.unit off S.size inb).toLoadRect f = m.view.read (Elt Ideal) f :=
  View.ld_unit_lit inb (m.view.read (Elt Ideal) f) h

/-- What a whole buffer holds after a store of all of it. -/
theorem read_store_whole {S : Shape} (m : Memref sig .tc .vmem S .f32) (f : BufTy.Contents (Elt Ideal) m.view.ty)
    {off : Fin S.rank → ℕ} (inb : ∀ a, off a + S.size a ≤ S.size a) (h : ∀ a, off a = 0)
    (w : Vec Ideal S .f32) (L : List (View.Piece (Elt Ideal) S .f32)) (y : S.Idx) :
    m.view.read (Elt Ideal) (m.view.writes (Elt Ideal) f ((⟨Rect.unit off S.size inb, w⟩ : View.Piece (Elt Ideal) S .f32) :: L)) y = w y :=
  View.read_writes_cons_unit_of_mem m.view f inb w L y y rfl fun a => by rw [h a]; exact (Nat.zero_add _).symm

theorem load_slab0 (m : Memref sig .tc .vmem S256x16x512 .f32) (f : BufTy.Contents (Elt Ideal) m.view.ty)
    (t : Fin 256) (j : Fin 512) :
    m.view.readAt (Elt Ideal) (Rect.unit (s := S256x16x512) ![0, 0, 0] S256x1x512.size inb_S256x16x512_S256x1x512_0_0_0).toLoadRect f (ix3 t 0 j)
      = m.view.read (Elt Ideal) f (ix3 t 0 j) :=
  View.ld_unit_apply_of (m.view.read (Elt Ideal) f) _ _ _ (ix3 t 0 j) (ix3 t 0 j) fun a => by
    match a with
    | ⟨0, _⟩ => exact (Nat.zero_add _).symm
    | ⟨1, _⟩ => rfl
    | ⟨2, _⟩ => exact (Nat.zero_add _).symm

theorem load_slab1 (m : Memref sig .tc .vmem S256x16x512 .f32) (f : BufTy.Contents (Elt Ideal) m.view.ty)
    (t : Fin 256) (j : Fin 512) :
    m.view.readAt (Elt Ideal) (Rect.unit (s := S256x16x512) ![0, 1, 0] S256x1x512.size inb_S256x16x512_S256x1x512_0_1_0).toLoadRect f (ix3 t 0 j)
      = m.view.read (Elt Ideal) f (ix3 t 1 j) :=
  View.ld_unit_apply_of (m.view.read (Elt Ideal) f) _ _ _ (ix3 t 0 j) (ix3 t 1 j) fun a => by
    match a with
    | ⟨0, _⟩ => exact (Nat.zero_add _).symm
    | ⟨1, _⟩ => rfl
    | ⟨2, _⟩ => exact (Nat.zero_add _).symm

theorem load_slab2 (m : Memref sig .tc .vmem S256x16x512 .f32) (f : BufTy.Contents (Elt Ideal) m.view.ty)
    (t : Fin 256) (j : Fin 512) :
    m.view.readAt (Elt Ideal) (Rect.unit (s := S256x16x512) ![0, 2, 0] S256x1x512.size inb_S256x16x512_S256x1x512_0_2_0).toLoadRect f (ix3 t 0 j)
      = m.view.read (Elt Ideal) f (ix3 t 2 j) :=
  View.ld_unit_apply_of (m.view.read (Elt Ideal) f) _ _ _ (ix3 t 0 j) (ix3 t 2 j) fun a => by
    match a with
    | ⟨0, _⟩ => exact (Nat.zero_add _).symm
    | ⟨1, _⟩ => rfl
    | ⟨2, _⟩ => exact (Nat.zero_add _).symm

theorem load_slab3 (m : Memref sig .tc .vmem S256x16x512 .f32) (f : BufTy.Contents (Elt Ideal) m.view.ty)
    (t : Fin 256) (j : Fin 512) :
    m.view.readAt (Elt Ideal) (Rect.unit (s := S256x16x512) ![0, 3, 0] S256x1x512.size inb_S256x16x512_S256x1x512_0_3_0).toLoadRect f (ix3 t 0 j)
      = m.view.read (Elt Ideal) f (ix3 t 3 j) :=
  View.ld_unit_apply_of (m.view.read (Elt Ideal) f) _ _ _ (ix3 t 0 j) (ix3 t 3 j) fun a => by
    match a with
    | ⟨0, _⟩ => exact (Nat.zero_add _).symm
    | ⟨1, _⟩ => rfl
    | ⟨2, _⟩ => exact (Nat.zero_add _).symm

theorem load_slab4 (m : Memref sig .tc .vmem S256x16x512 .f32) (f : BufTy.Contents (Elt Ideal) m.view.ty)
    (t : Fin 256) (j : Fin 512) :
    m.view.readAt (Elt Ideal) (Rect.unit (s := S256x16x512) ![0, 4, 0] S256x1x512.size inb_S256x16x512_S256x1x512_0_4_0).toLoadRect f (ix3 t 0 j)
      = m.view.read (Elt Ideal) f (ix3 t 4 j) :=
  View.ld_unit_apply_of (m.view.read (Elt Ideal) f) _ _ _ (ix3 t 0 j) (ix3 t 4 j) fun a => by
    match a with
    | ⟨0, _⟩ => exact (Nat.zero_add _).symm
    | ⟨1, _⟩ => rfl
    | ⟨2, _⟩ => exact (Nat.zero_add _).symm

theorem load_slab5 (m : Memref sig .tc .vmem S256x16x512 .f32) (f : BufTy.Contents (Elt Ideal) m.view.ty)
    (t : Fin 256) (j : Fin 512) :
    m.view.readAt (Elt Ideal) (Rect.unit (s := S256x16x512) ![0, 5, 0] S256x1x512.size inb_S256x16x512_S256x1x512_0_5_0).toLoadRect f (ix3 t 0 j)
      = m.view.read (Elt Ideal) f (ix3 t 5 j) :=
  View.ld_unit_apply_of (m.view.read (Elt Ideal) f) _ _ _ (ix3 t 0 j) (ix3 t 5 j) fun a => by
    match a with
    | ⟨0, _⟩ => exact (Nat.zero_add _).symm
    | ⟨1, _⟩ => rfl
    | ⟨2, _⟩ => exact (Nat.zero_add _).symm

theorem load_slab6 (m : Memref sig .tc .vmem S256x16x512 .f32) (f : BufTy.Contents (Elt Ideal) m.view.ty)
    (t : Fin 256) (j : Fin 512) :
    m.view.readAt (Elt Ideal) (Rect.unit (s := S256x16x512) ![0, 6, 0] S256x1x512.size inb_S256x16x512_S256x1x512_0_6_0).toLoadRect f (ix3 t 0 j)
      = m.view.read (Elt Ideal) f (ix3 t 6 j) :=
  View.ld_unit_apply_of (m.view.read (Elt Ideal) f) _ _ _ (ix3 t 0 j) (ix3 t 6 j) fun a => by
    match a with
    | ⟨0, _⟩ => exact (Nat.zero_add _).symm
    | ⟨1, _⟩ => rfl
    | ⟨2, _⟩ => exact (Nat.zero_add _).symm

theorem load_slab7 (m : Memref sig .tc .vmem S256x16x512 .f32) (f : BufTy.Contents (Elt Ideal) m.view.ty)
    (t : Fin 256) (j : Fin 512) :
    m.view.readAt (Elt Ideal) (Rect.unit (s := S256x16x512) ![0, 7, 0] S256x1x512.size inb_S256x16x512_S256x1x512_0_7_0).toLoadRect f (ix3 t 0 j)
      = m.view.read (Elt Ideal) f (ix3 t 7 j) :=
  View.ld_unit_apply_of (m.view.read (Elt Ideal) f) _ _ _ (ix3 t 0 j) (ix3 t 7 j) fun a => by
    match a with
    | ⟨0, _⟩ => exact (Nat.zero_add _).symm
    | ⟨1, _⟩ => rfl
    | ⟨2, _⟩ => exact (Nat.zero_add _).symm

theorem load_slab8 (m : Memref sig .tc .vmem S256x16x512 .f32) (f : BufTy.Contents (Elt Ideal) m.view.ty)
    (t : Fin 256) (j : Fin 512) :
    m.view.readAt (Elt Ideal) (Rect.unit (s := S256x16x512) ![0, 8, 0] S256x1x512.size inb_S256x16x512_S256x1x512_0_8_0).toLoadRect f (ix3 t 0 j)
      = m.view.read (Elt Ideal) f (ix3 t 8 j) :=
  View.ld_unit_apply_of (m.view.read (Elt Ideal) f) _ _ _ (ix3 t 0 j) (ix3 t 8 j) fun a => by
    match a with
    | ⟨0, _⟩ => exact (Nat.zero_add _).symm
    | ⟨1, _⟩ => rfl
    | ⟨2, _⟩ => exact (Nat.zero_add _).symm

theorem load_slab9 (m : Memref sig .tc .vmem S256x16x512 .f32) (f : BufTy.Contents (Elt Ideal) m.view.ty)
    (t : Fin 256) (j : Fin 512) :
    m.view.readAt (Elt Ideal) (Rect.unit (s := S256x16x512) ![0, 9, 0] S256x1x512.size inb_S256x16x512_S256x1x512_0_9_0).toLoadRect f (ix3 t 0 j)
      = m.view.read (Elt Ideal) f (ix3 t 9 j) :=
  View.ld_unit_apply_of (m.view.read (Elt Ideal) f) _ _ _ (ix3 t 0 j) (ix3 t 9 j) fun a => by
    match a with
    | ⟨0, _⟩ => exact (Nat.zero_add _).symm
    | ⟨1, _⟩ => rfl
    | ⟨2, _⟩ => exact (Nat.zero_add _).symm

theorem load_slab10 (m : Memref sig .tc .vmem S256x16x512 .f32) (f : BufTy.Contents (Elt Ideal) m.view.ty)
    (t : Fin 256) (j : Fin 512) :
    m.view.readAt (Elt Ideal) (Rect.unit (s := S256x16x512) ![0, 10, 0] S256x1x512.size inb_S256x16x512_S256x1x512_0_10_0).toLoadRect f (ix3 t 0 j)
      = m.view.read (Elt Ideal) f (ix3 t 10 j) :=
  View.ld_unit_apply_of (m.view.read (Elt Ideal) f) _ _ _ (ix3 t 0 j) (ix3 t 10 j) fun a => by
    match a with
    | ⟨0, _⟩ => exact (Nat.zero_add _).symm
    | ⟨1, _⟩ => rfl
    | ⟨2, _⟩ => exact (Nat.zero_add _).symm

theorem load_slab11 (m : Memref sig .tc .vmem S256x16x512 .f32) (f : BufTy.Contents (Elt Ideal) m.view.ty)
    (t : Fin 256) (j : Fin 512) :
    m.view.readAt (Elt Ideal) (Rect.unit (s := S256x16x512) ![0, 11, 0] S256x1x512.size inb_S256x16x512_S256x1x512_0_11_0).toLoadRect f (ix3 t 0 j)
      = m.view.read (Elt Ideal) f (ix3 t 11 j) :=
  View.ld_unit_apply_of (m.view.read (Elt Ideal) f) _ _ _ (ix3 t 0 j) (ix3 t 11 j) fun a => by
    match a with
    | ⟨0, _⟩ => exact (Nat.zero_add _).symm
    | ⟨1, _⟩ => rfl
    | ⟨2, _⟩ => exact (Nat.zero_add _).symm

theorem load_slab12 (m : Memref sig .tc .vmem S256x16x512 .f32) (f : BufTy.Contents (Elt Ideal) m.view.ty)
    (t : Fin 256) (j : Fin 512) :
    m.view.readAt (Elt Ideal) (Rect.unit (s := S256x16x512) ![0, 12, 0] S256x1x512.size inb_S256x16x512_S256x1x512_0_12_0).toLoadRect f (ix3 t 0 j)
      = m.view.read (Elt Ideal) f (ix3 t 12 j) :=
  View.ld_unit_apply_of (m.view.read (Elt Ideal) f) _ _ _ (ix3 t 0 j) (ix3 t 12 j) fun a => by
    match a with
    | ⟨0, _⟩ => exact (Nat.zero_add _).symm
    | ⟨1, _⟩ => rfl
    | ⟨2, _⟩ => exact (Nat.zero_add _).symm

theorem load_slab13 (m : Memref sig .tc .vmem S256x16x512 .f32) (f : BufTy.Contents (Elt Ideal) m.view.ty)
    (t : Fin 256) (j : Fin 512) :
    m.view.readAt (Elt Ideal) (Rect.unit (s := S256x16x512) ![0, 13, 0] S256x1x512.size inb_S256x16x512_S256x1x512_0_13_0).toLoadRect f (ix3 t 0 j)
      = m.view.read (Elt Ideal) f (ix3 t 13 j) :=
  View.ld_unit_apply_of (m.view.read (Elt Ideal) f) _ _ _ (ix3 t 0 j) (ix3 t 13 j) fun a => by
    match a with
    | ⟨0, _⟩ => exact (Nat.zero_add _).symm
    | ⟨1, _⟩ => rfl
    | ⟨2, _⟩ => exact (Nat.zero_add _).symm

theorem load_slab14 (m : Memref sig .tc .vmem S256x16x512 .f32) (f : BufTy.Contents (Elt Ideal) m.view.ty)
    (t : Fin 256) (j : Fin 512) :
    m.view.readAt (Elt Ideal) (Rect.unit (s := S256x16x512) ![0, 14, 0] S256x1x512.size inb_S256x16x512_S256x1x512_0_14_0).toLoadRect f (ix3 t 0 j)
      = m.view.read (Elt Ideal) f (ix3 t 14 j) :=
  View.ld_unit_apply_of (m.view.read (Elt Ideal) f) _ _ _ (ix3 t 0 j) (ix3 t 14 j) fun a => by
    match a with
    | ⟨0, _⟩ => exact (Nat.zero_add _).symm
    | ⟨1, _⟩ => rfl
    | ⟨2, _⟩ => exact (Nat.zero_add _).symm

theorem load_slab15 (m : Memref sig .tc .vmem S256x16x512 .f32) (f : BufTy.Contents (Elt Ideal) m.view.ty)
    (t : Fin 256) (j : Fin 512) :
    m.view.readAt (Elt Ideal) (Rect.unit (s := S256x16x512) ![0, 15, 0] S256x1x512.size inb_S256x16x512_S256x1x512_0_15_0).toLoadRect f (ix3 t 0 j)
      = m.view.read (Elt Ideal) f (ix3 t 15 j) :=
  View.ld_unit_apply_of (m.view.read (Elt Ideal) f) _ _ _ (ix3 t 0 j) (ix3 t 15 j) fun a => by
    match a with
    | ⟨0, _⟩ => exact (Nat.zero_add _).symm
    | ⟨1, _⟩ => rfl
    | ⟨2, _⟩ => exact (Nat.zero_add _).symm

end Cert.KernelIdeal.Body

end
-- ==== Proof.KernelIdeal.ValuesFirst.lean ====
module

public import proofs.«01_k».proof.Proof.KernelIdeal.RunFirst
public import proofs.«01_k».proof.Proof.KernelIdeal.Cells
public import proofs.«01_k».proof.Proof.KernelIdeal.Loop
public import proofs.«01_k».proof.Proof.KernelIdeal.Reads

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

open Cert.Scan

set_option maxHeartbeats 2000000 in
/-- What the body leaves at the first chunk of a direction: the result's rows `k`, `k + 1`, …, the three rows the next chunk's
    convolution looks back to, and the state after the chunk. -/
theorem valuesFirst (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : firstChunk i)
    (x0 : Vec Ideal S1x256x256 .f32) (x1 : Vec Ideal S1x256x1024 .f32) (x2 : Vec Ideal S1x4x512 .f32) (x3 : Vec Ideal S1x1x512 .f32) (x4 : Vec Ideal S1x512x16 .f32) (x5 : Vec Ideal S1x512x16 .f32) (x6 : Vec Ideal S1x512x16 .f32) (x7 : Vec Ideal S1x16x512 .f32) (x8 : Vec Ideal S1x1x512 .f32) (x9 : Vec Ideal S1x16x512 .f32) (x10 : Vec Ideal S1x1x512 .f32) (x11 : Vec Ideal S1x512x256 .f32) (g : Vec Ideal S256x16x512 .f32)
    (W : Weights) (X : ℕ → Fin 256 → EReal) (k : ℕ)
    (hx0 : ∀ (t : Fin 256) e, x0 (ix3 0 t e) = X (k + t.val) e) (hx1 : ∀ e q, x1 (ix3 0 e q) = W.inw e q)
    (hx2 : ∀ q j, x2 (ix3 0 q j) = W.cw q j) (hx3 : ∀ j, x3 (ix3 0 0 j) = W.cb j)
    (hx4 : ∀ j q, x4 (ix3 0 j q) = W.xd j q) (hx5 : ∀ j q, x5 (ix3 0 j q) = W.xb j q) (hx6 : ∀ j q, x6 (ix3 0 j q) = W.xc j q)
    (hx7 : ∀ q j, x7 (ix3 0 q j) = W.dw q j) (hx8 : ∀ j, x8 (ix3 0 0 j) = W.db j)
    (hx10 : ∀ j, x10 (ix3 0 0 j) = W.dd j) (hx11 : ∀ j e, x11 (ix3 0 j e) = W.ow j e)
    (hk : k = 0) :
    (∀ f (t : Fin 256) e, arg14.view.read (Elt Ideal) (arg14.view.writes (Elt Ideal) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 g).1.1) (ix3 0 t e)
        = out W (rows W X) (gate W X) (k + t.val) e) ∧
    (∀ f (q : Fin 3) j, arg15.view.read (Elt Ideal) (arg15.view.writes (Elt Ideal) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 g).1.2.1) (ix2 ⟨q.val, by omega⟩ j)
        = rows W X (k + 256 + q.val) j) ∧
    (∀ f s j, arg19.view.read (Elt Ideal) (arg19.view.writes (Elt Ideal) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 g).1.2.2) (ix2 s j)
        = state W (rows W X) (k + 256) s j) := by
  have l0 := load_whole arg2 harg2 x0 inb_S1x256x256_S1x256x256_0_0_0 zero3
  have l1 := load_whole arg3 harg3 x1 inb_S1x256x1024_S1x256x1024_0_0_0 zero3
  have l2 := load_whole arg4 harg4 x2 inb_S1x4x512_S1x4x512_0_0_0 zero3
  have l3 := load_whole arg5 harg5 x3 inb_S1x1x512_S1x1x512_0_0_0 zero3
  have l4 := load_whole arg6 harg6 x4 inb_S1x512x16_S1x512x16_0_0_0 zero3
  have l5 := load_whole arg7 harg7 x5 inb_S1x512x16_S1x512x16_0_0_0 zero3
  have l6 := load_whole arg8 harg8 x6 inb_S1x512x16_S1x512x16_0_0_0 zero3
  have l7 := load_whole arg9 harg9 x7 inb_S1x16x512_S1x16x512_0_0_0 zero3
  have l8 := load_whole arg10 harg10 x8 inb_S1x1x512_S1x1x512_0_0_0 zero3
  have l10 := load_whole arg12 harg12 x10 inb_S1x1x512_S1x1x512_0_0_0 zero3
  have l11 := load_whole arg13 harg13 x11 inb_S1x512x256_S1x512x256_0_0_0 zero3
  have hz : ∀ (t : Fin 256) j, (runFirst.sl.r (F := Ideal) c arg2 harg2 arg3 harg3 x0 x1) (ix2 t j) = gate W X (k + t.val) j :=
    gate_cell W k X _ _ (fun t e => (congrFun l0 _).trans (hx0 t e)) (fun e q => (congrFun l1 _).trans (hx1 e q))
  have hx : ∀ (t : Fin 256) j, k0_pay6 (arg2.view.readAt (Elt Ideal) (Rect.unit ![0, 0, 0] S1x256x256.size inb_S1x256x256_S1x256x256_0_0_0).toLoadRect (harg2.unread x0))
      (arg3.view.readAt (Elt Ideal) (Rect.unit ![0, 0, 0] S1x256x1024.size inb_S1x256x1024_S1x256x1024_0_0_0).toLoadRect (harg3.unread x1)) (ix2 t j) = xin W X (k + t.val) j :=
    xin_cell W k X _ _ (fun t e => (congrFun l0 _).trans (hx0 t e)) (fun e q => (congrFun l1 _).trans (hx1 e q))
  have hE : ∀ (n : Fin 259) j, (runFirst.sl.v13 (F := Ideal) c arg2 harg2 arg3 harg3 arg15 x0 x1) (ix2 n j) = rows W X (k + n.val) j := by
    intro n j
    refine (congrFun (load_all arg15 _ inb_S259x512_S259x512_0_0 zero2) (ix2 n j)).trans ?_
    by_cases hn : n.val < 3
    · refine (View.read_writes_cons_rows_of_not_mem (o := 3) (W := 256) arg15.view _ inb_S259x512_S256x512_3_0 _ _ (ix2 n j) rfl rfl (Or.inl hn)).trans ?_
      refine (View.read_writes_cons_unit_of_mem arg15.view _ inb_S259x512_S3x512_0_0 _ _ (ix2 n j) (ix2 ⟨n.val, hn⟩ j) rfl ?_).trans ?_
      · intro a
        match a with
        | ⟨0, _⟩ => exact (Nat.zero_add _).symm
        | ⟨1, _⟩ => exact (Nat.zero_add _).symm
      · refine (zeroRows_cell ⟨n.val, hn⟩ j).trans ?_
        have hn' : k + n.val < 3 := by omega
        exact (if_pos hn').symm
    · have hn' : n.val - 3 < 256 := by omega
      refine (View.read_writes_cons_unit_of_mem arg15.view _ inb_S259x512_S256x512_3_0 _ _ (ix2 n j) (ix2 ⟨n.val - 3, hn'⟩ j) rfl ?_).trans ?_
      · intro a
        match a with
        | ⟨0, _⟩ => show n.val = 3 + (n.val - 3); omega
        | ⟨1, _⟩ => exact (Nat.zero_add _).symm
      · refine (hx ⟨n.val - 3, hn'⟩ j).trans ?_
        have hk3 : ¬ k + n.val < 3 := by omega
        have e : k + (n.val - 3) = k + n.val - 3 := by omega
        show xin W X (k + (n.val - 3)) j = rows W X (k + n.val) j
        rw [e]
        exact (if_neg hk3).symm
  have hu : ∀ (t : Fin 256) j, (runFirst.sl.r_4 (F := Ideal) c arg2 harg2 arg3 harg3 arg4 harg4 arg5 harg5 arg15 x0 x1 x2 x3) (ix2 t j) = act W (rows W X) (k + t.val) j :=
    act_cell W (rows W X) k _ _ _ hE (fun q j => (congrFun l2 _).trans (hx2 q j)) (fun j => (congrFun l3 _).trans (hx3 j))
  have hB : ∀ (t : Fin 256) s, (runFirst.sl.r_5 (F := Ideal) c arg2 harg2 arg3 harg3 arg4 harg4 arg5 harg5 arg7 harg7 arg15 x0 x1 x2 x3 x5) (ix2 t s) = bIn W (rows W X) (k + t.val) s :=
    bIn_cell W (rows W X) k _ _ _ hu _ (fun j s => (congrFun l5 _).trans (hx5 j s))
  have hC : ∀ (t : Fin 256) s, (runFirst.sl.r_6 (F := Ideal) c arg2 harg2 arg3 harg3 arg4 harg4 arg5 harg5 arg8 harg8 arg15 x0 x1 x2 x3 x6) (ix2 t s) = cOut W (rows W X) (k + t.val) s :=
    cOut_cell W (rows W X) k _ _ _ hu _ (fun j s => (congrFun l6 _).trans (hx6 j s))
  have hδ : ∀ (t : Fin 256) j, k0_pay21 (runFirst.sl.r_7 (F := Ideal) c arg2 harg2 arg3 harg3 arg4 harg4 arg5 harg5 arg6 harg6 arg9 harg9 arg10 harg10 arg15 x0 x1 x2 x3 x4 x7 x8) (runFirst.sl.r_8 (F := Ideal) c arg2 harg2 arg3 harg3 arg4 harg4 arg5 harg5 arg6 harg6 arg9 harg9 arg10 harg10 arg15 x0 x1 x2 x3 x4 x7 x8) (runFirst.sl.r_9 (F := Ideal) c arg2 harg2 arg3 harg3 arg4 harg4 arg5 harg5 arg6 harg6 arg9 harg9 arg10 harg10 arg15 x0 x1 x2 x3 x4 x7 x8) (runFirst.sl.r_10 (F := Ideal) c arg2 harg2 arg3 harg3 arg4 harg4 arg5 harg5 arg6 harg6 arg9 harg9 arg10 harg10 arg15 x0 x1 x2 x3 x4 x7 x8) (ix2 t j)
      = delta W (rows W X) (k + t.val) j :=
    delta_cell W (rows W X) k _ _ _ hu _ _ _ (fun j q => (congrFun l4 _).trans (hx4 j q))
      (fun q j => (congrFun l7 _).trans (hx7 q j)) (fun j => (congrFun l8 _).trans (hx8 j))
  have hr : ∀ (t : Fin 256) j, (runFirst.sl.r_12 (F := Ideal) c arg2 harg2 arg3 harg3 arg4 harg4 arg5 harg5 arg6 harg6 arg9 harg9 arg10 harg10 arg15 x0 x1 x2 x3 x4 x7 x8) (ix2 t j) = Ideal.exp (0 - delta W (rows W X) (k + t.val) j) :=
    base_cell _ _ _ _ (fun t j => delta W (rows W X) (k + t.val) j) hδ
  have hw : ∀ (t : Fin 256) j, (runFirst.sl.r_11 (F := Ideal) c arg2 harg2 arg3 harg3 arg4 harg4 arg5 harg5 arg6 harg6 arg9 harg9 arg10 harg10 arg15 x0 x1 x2 x3 x4 x7 x8) (ix2 t j) = delta W (rows W X) (k + t.val) j * act W (rows W X) (k + t.val) j := fun t j =>
    (weight_cell _ _ _ _ (fun t j => delta W (rows W X) (k + t.val) j) hδ _ t j).trans (by rw [hu])
  have hp2 : ∀ (t : Fin 256) j, (runFirst.sl.r_13 (F := Ideal) c arg2 harg2 arg3 harg3 arg4 harg4 arg5 harg5 arg6 harg6 arg9 harg9 arg10 harg10 arg15 x0 x1 x2 x3 x4 x7 x8) (ix2 t j) = power (Ideal.exp (0 - delta W (rows W X) (k + t.val) j)) 2 :=
    pow2 _ _ _ _ (fun t j => delta W (rows W X) (k + t.val) j) hδ
  have hp6 : ∀ (t : Fin 256) j, (runFirst.sl.r_14 (F := Ideal) c arg2 harg2 arg3 harg3 arg4 harg4 arg5 harg5 arg6 harg6 arg9 harg9 arg10 harg10 arg15 x0 x1 x2 x3 x4 x7 x8) (ix2 t j) = power (Ideal.exp (0 - delta W (rows W X) (k + t.val) j)) 6 :=
    pow6 _ _ (fun t j => Ideal.exp (0 - delta W (rows W X) (k + t.val) j)) hr hp2
  have hp9 : ∀ (t : Fin 256) j, (runFirst.sl.r_15 (F := Ideal) c arg2 harg2 arg3 harg3 arg4 harg4 arg5 harg5 arg6 harg6 arg9 harg9 arg10 harg10 arg15 x0 x1 x2 x3 x4 x7 x8) (ix2 t j) = power (Ideal.exp (0 - delta W (rows W X) (k + t.val) j)) 9 :=
    pow9 _ _ (fun t j => Ideal.exp (0 - delta W (rows W X) (k + t.val) j)) hr hp6
  have hp12 : ∀ (t : Fin 256) j, (runFirst.sl.r_17 (F := Ideal) c arg2 harg2 arg3 harg3 arg4 harg4 arg5 harg5 arg6 harg6 arg9 harg9 arg10 harg10 arg15 x0 x1 x2 x3 x4 x7 x8) (ix2 t j) = power (Ideal.exp (0 - delta W (rows W X) (k + t.val) j)) 12 :=
    pow12 _ _ (fun t j => Ideal.exp (0 - delta W (rows W X) (k + t.val) j)) hr hp9
  have hA : ∀ (t : Fin 256) s j, arg16.view.read (Elt Ideal) (arg16.view.writes (Elt Ideal) arg16.view.junk (runFirst.sl.H14_16 (F := Ideal) c arg2 harg2 arg3 harg3 arg4 harg4 arg5 harg5 arg6 harg6 arg9 harg9 arg10 harg10 arg15 x0 x1 x2 x3 x4 x7 x8)) (ix3 t s j)
      = decay W (rows W X) (k + t.val) s j :=
    read_slabs (F := Ideal) arg16.view arg16.view.junk _ _ _ _ _ _ _ _ _ _ _ _ _ _ _ _ (fun t s j => decay W (rows W X) (k + t.val) s j)
      (decay0 _ _ _ _ (fun t j => delta W (rows W X) (k + t.val) j) hδ)
      (decay1 _ _ _ _ (fun t j => delta W (rows W X) (k + t.val) j) hδ)
      (decay2 _ _ _ _ (fun t j => delta W (rows W X) (k + t.val) j) hδ)
      (decay3 _ _ (fun t j => Ideal.exp (0 - delta W (rows W X) (k + t.val) j)) hr hp2)
      (decay4 _ _ (fun t j => Ideal.exp (0 - delta W (rows W X) (k + t.val) j)) hr hp2)
      (decay5 _ _ (fun t j => Ideal.exp (0 - delta W (rows W X) (k + t.val) j)) hr hp2)
      (decay6 _ (fun t j => Ideal.exp (0 - delta W (rows W X) (k + t.val) j)) hp6)
      (decay7 _ _ (fun t j => Ideal.exp (0 - delta W (rows W X) (k + t.val) j)) hr hp6)
      (decay8 _ _ (fun t j => Ideal.exp (0 - delta W (rows W X) (k + t.val) j)) hr hp6)
      (decay9 _ _ (fun t j => Ideal.exp (0 - delta W (rows W X) (k + t.val) j)) hr hp6)
      (decay10 _ _ (fun t j => Ideal.exp (0 - delta W (rows W X) (k + t.val) j)) hr hp9)
      (decay11 _ _ (fun t j => Ideal.exp (0 - delta W (rows W X) (k + t.val) j)) hr hp9)
      (decay12 _ _ (fun t j => Ideal.exp (0 - delta W (rows W X) (k + t.val) j)) hr hp9)
      (decay13 _ _ (fun t j => Ideal.exp (0 - delta W (rows W X) (k + t.val) j)) hr hp12)
      (decay14 _ _ (fun t j => Ideal.exp (0 - delta W (rows W X) (k + t.val) j)) hr hp12)
      (decay15 _ _ (fun t j => Ideal.exp (0 - delta W (rows W X) (k + t.val) j)) hr hp12)
  have hD : ∀ (t : Fin 256) s j, arg17.view.read (Elt Ideal) (arg17.view.writes (Elt Ideal) arg17.view.junk (runFirst.sl.H15_16 (F := Ideal) c arg2 harg2 arg3 harg3 arg4 harg4 arg5 harg5 arg6 harg6 arg7 harg7 arg9 harg9 arg10 harg10 arg15 x0 x1 x2 x3 x4 x5 x7 x8)) (ix3 t s j)
      = drive W (rows W X) (k + t.val) s j :=
    read_slabs (F := Ideal) arg17.view arg17.view.junk _ _ _ _ _ _ _ _ _ _ _ _ _ _ _ _ (fun t s j => drive W (rows W X) (k + t.val) s j)
      (fun t j => (drive0 _ t j (runFirst.sl.r_4 (F := Ideal) c arg2 harg2 arg3 harg3 arg4 harg4 arg5 harg5 arg15 x0 x1 x2 x3) _ _ _ _).trans (congrArg₂ (· * ·) (hw t j) (hB t 0)))
      (fun t j => (drive1 _ t j (runFirst.sl.r_4 (F := Ideal) c arg2 harg2 arg3 harg3 arg4 harg4 arg5 harg5 arg15 x0 x1 x2 x3) _ _ _ _).trans (congrArg₂ (· * ·) (hw t j) (hB t 1)))
      (fun t j => (drive2 _ t j (runFirst.sl.r_4 (F := Ideal) c arg2 harg2 arg3 harg3 arg4 harg4 arg5 harg5 arg15 x0 x1 x2 x3) _ _ _ _).trans (congrArg₂ (· * ·) (hw t j) (hB t 2)))
      (fun t j => (drive3 _ _ t j).trans (congrArg₂ (· * ·) (hw t j) (hB t 3)))
      (fun t j => (drive4 _ _ t j).trans (congrArg₂ (· * ·) (hw t j) (hB t 4)))
      (fun t j => (drive5 _ _ t j).trans (congrArg₂ (· * ·) (hw t j) (hB t 5)))
      (fun t j => (drive6 _ _ t j).trans (congrArg₂ (· * ·) (hw t j) (hB t 6)))
      (fun t j => (drive7 _ _ t j).trans (congrArg₂ (· * ·) (hw t j) (hB t 7)))
      (fun t j => (drive8 _ _ t j).trans (congrArg₂ (· * ·) (hw t j) (hB t 8)))
      (fun t j => (drive9 _ _ t j).trans (congrArg₂ (· * ·) (hw t j) (hB t 9)))
      (fun t j => (drive10 _ _ t j).trans (congrArg₂ (· * ·) (hw t j) (hB t 10)))
      (fun t j => (drive11 _ _ t j).trans (congrArg₂ (· * ·) (hw t j) (hB t 11)))
      (fun t j => (drive12 _ _ t j).trans (congrArg₂ (· * ·) (hw t j) (hB t 12)))
      (fun t j => (drive13 _ _ t j).trans (congrArg₂ (· * ·) (hw t j) (hB t 13)))
      (fun t j => (drive14 _ _ t j).trans (congrArg₂ (· * ·) (hw t j) (hB t 14)))
      (fun t j => (drive15 _ _ t j).trans (congrArg₂ (· * ·) (hw t j) (hB t 15)))
  have hI : ∀ s j, (runFirst.sl.v238 (F := Ideal) c arg19) (ix2 s j) = state W (rows W X) (k + 0) s j := by
    intro s j
    refine (congrFun (load_all arg19 _ inb_S16x512_S16x512_0_0 zero2) (ix2 s j)).trans ?_
    refine (read_store_whole arg19 _ inb_S16x512_S16x512_0_0 zero2 _ _ (ix2 s j)).trans ?_
    refine (zeroState_cell s j).trans ?_
    subst hk
    rfl
  have htr : k0_t1_loop.trips = 64 := by decide +kernel
  have hL := loop_state Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runFirst.sl.r_6 (F := Ideal) c arg2 harg2 arg3 harg3 arg4 harg4 arg5 harg5 arg8 harg8 arg15 x0 x1 x2 x3 x6) (runFirst.sl.v238 (F := Ideal) c arg19) 0#32
    (arg16.view.writes (Elt Ideal) arg16.view.junk (runFirst.sl.H14_16 (F := Ideal) c arg2 harg2 arg3 harg3 arg4 harg4 arg5 harg5 arg6 harg6 arg9 harg9 arg10 harg10 arg15 x0 x1 x2 x3 x4 x7 x8)) (arg17.view.writes (Elt Ideal) arg17.view.junk (runFirst.sl.H15_16 (F := Ideal) c arg2 harg2 arg3 harg3 arg4 harg4 arg5 harg5 arg6 harg6 arg7 harg7 arg9 harg9 arg10 harg10 arg15 x0 x1 x2 x3 x4 x5 x7 x8)) (runFirst.sl.v238 (F := Ideal) c arg19)
    (fun n => decay W (rows W X) (k + n)) (fun n => drive W (rows W X) (k + n)) (fun n => state W (rows W X) (k + n))
    (fun n s j => rfl) hA hD hI k0_t1_loop.trips le_rfl
  obtain ⟨hL1, hL2⟩ := hL
  have hL3 : ∀ (t : Fin 256) s j, _ := fun t s j => hL2 (harg18.unread g) t s j (by rw [htr]; omega)
  rw [htr] at hL1
  refine ⟨fun f t e => ?_, fun f q j => ?_, fun f s j => ?_⟩
  · refine (read_store_whole arg14 f inb_S1x256x256_S1x256x256_0_0_0 zero3 (k0_pay1 (runFirst.sl.r_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x10 x11 g)) [] (ix3 0 t e)).trans ?_
    exact out_cell W (rows W X) k _ _ _ _ _ _ _ _ _ _ _ _ _ _ _ _ _ _ _ _ _ (gate W X) hz hu hC
      (fun j => (congrFun l10 _).trans (hx10 j)) (fun j e => (congrFun l11 _).trans (hx11 j e))
      (fun t j => (load_slab0 arg18 _ t j).trans (hL3 t 0 j))
      (fun t j => (load_slab1 arg18 _ t j).trans (hL3 t 1 j))
      (fun t j => (load_slab2 arg18 _ t j).trans (hL3 t 2 j))
      (fun t j => (load_slab3 arg18 _ t j).trans (hL3 t 3 j))
      (fun t j => (load_slab4 arg18 _ t j).trans (hL3 t 4 j))
      (fun t j => (load_slab5 arg18 _ t j).trans (hL3 t 5 j))
      (fun t j => (load_slab6 arg18 _ t j).trans (hL3 t 6 j))
      (fun t j => (load_slab7 arg18 _ t j).trans (hL3 t 7 j))
      (fun t j => (load_slab8 arg18 _ t j).trans (hL3 t 8 j))
      (fun t j => (load_slab9 arg18 _ t j).trans (hL3 t 9 j))
      (fun t j => (load_slab10 arg18 _ t j).trans (hL3 t 10 j))
      (fun t j => (load_slab11 arg18 _ t j).trans (hL3 t 11 j))
      (fun t j => (load_slab12 arg18 _ t j).trans (hL3 t 12 j))
      (fun t j => (load_slab13 arg18 _ t j).trans (hL3 t 13 j))
      (fun t j => (load_slab14 arg18 _ t j).trans (hL3 t 14 j))
      (fun t j => (load_slab15 arg18 _ t j).trans (hL3 t 15 j))
      t e
  · refine (View.read_writes_cons_unit_of_mem arg15.view f inb_S259x512_S3x512_0_0 (k0_pay11 (runFirst.sl.v13 (F := Ideal) c arg2 harg2 arg3 harg3 arg15 x0 x1)) (runFirst.sl.H13_2 (F := Ideal) c arg2 harg2 arg3 harg3 x0 x1) (ix2 ⟨q.val, by omega⟩ j) (ix2 q j) rfl ?_).trans ?_
    · intro a
      match a with
      | ⟨0, _⟩ => exact (Nat.zero_add _).symm
      | ⟨1, _⟩ => exact (Nat.zero_add _).symm
    · refine (tail_cell _ q j).trans ((hE _ j).trans ?_)
      have e : k + (256 + q.val) = k + 256 + q.val := by omega
      show rows W X (k + (256 + q.val)) j = _
      rw [e]
  · refine (read_store_whole arg19 f inb_S16x512_S16x512_0_0 zero2 _ _ (ix2 s j)).trans ?_
    refine (last_cell _ s j).trans ?_
    exact hL1 s j

end Cert.KernelIdeal.Body

end
-- ==== Proof.KernelIdeal.RunNext.lean ====
module

public import proofs.«01_k».proof.Proof.KernelIdeal.RunFirst

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later chunk of a direction: what its stores leave in the output block, the convolution's row buffer and the
    state buffer, as pieces, with the proof that the body runs to them. `g` is what the state-history buffer held. -/
noncomputable def runNext (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : ¬ firstChunk i)
    (x0 : Vec F S1x256x256 .f32) (x1 : Vec F S1x256x1024 .f32) (x2 : Vec F S1x4x512 .f32) (x3 : Vec F S1x1x512 .f32) (x4 : Vec F S1x512x16 .f32) (x5 : Vec F S1x512x16 .f32) (x6 : Vec F S1x512x16 .f32) (x7 : Vec F S1x16x512 .f32) (x8 : Vec F S1x1x512 .f32) (x9 : Vec F S1x16x512 .f32) (x10 : Vec F S1x1x512 .f32) (x11 : Vec F S1x512x256 .f32) (xe : Vec F S259x512 .f32) (hs : Vec F S16x512 .f32) (g : Vec F S256x16x512 .f32) :
    { L : List (View.Piece (Elt F) S1x256x256 .f32) × List (View.Piece (Elt F) S259x512 .f32) × List (View.Piece (Elt F) S16x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xe ∗ (∃ d, owns (c : Thread nD τ) arg16 fullShare d) ∗ (∃ d, owns (c : Thread nD τ) arg17 fullShare d) ∗ owns (c : Thread nD τ) arg18 fullShare g ∗ owns (c : Thread nD τ) arg19 fullShare hs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L.1) ∗ (∃ f, arg15.view.loc (c : Thread nD τ) ↦[arg15.view.set]{fullShare} arg15.view.writes (Elt F) f L.2.1) ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L.2.2)) -∗ K ⟨⟩))
          ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_⟩, fun E K => ?run⟩
  case run =>
    simp only [cc0__mamba_kernel_eq_skeleton]; unfold cc0__mamba_kernel_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg18.eq_unread hf16; obtain rfl := harg19.eq_unread hf17
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _; iexact H17

end Cert.KernelIdeal.Body

end
-- ==== Proof.KernelIdeal.ValuesNext.lean ====
module

public import proofs.«01_k».proof.Proof.KernelIdeal.RunNext
public import proofs.«01_k».proof.Proof.KernelIdeal.Cells
public import proofs.«01_k».proof.Proof.KernelIdeal.Loop
public import proofs.«01_k».proof.Proof.KernelIdeal.Reads

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

open Cert.Scan

set_option maxHeartbeats 2000000 in
/-- What the body leaves at a later chunk of a direction: the result's rows `k`, `k + 1`, …, the three rows the next chunk's
    convolution looks back to, and the state after the chunk. -/
theorem valuesNext (c : Dev nD) (i : grid0.Coords) (arg2 : Memref sig .tc .vmem S1x256x256 .f32) (harg2 : arg2.IsWhole) (arg3 : Memref sig .tc .vmem S1x256x1024 .f32) (harg3 : arg3.IsWhole) (arg4 : Memref sig .tc .vmem S1x4x512 .f32) (harg4 : arg4.IsWhole) (arg5 : Memref sig .tc .vmem S1x1x512 .f32) (harg5 : arg5.IsWhole) (arg6 : Memref sig .tc .vmem S1x512x16 .f32) (harg6 : arg6.IsWhole) (arg7 : Memref sig .tc .vmem S1x512x16 .f32) (harg7 : arg7.IsWhole) (arg8 : Memref sig .tc .vmem S1x512x16 .f32) (harg8 : arg8.IsWhole) (arg9 : Memref sig .tc .vmem S1x16x512 .f32) (harg9 : arg9.IsWhole) (arg10 : Memref sig .tc .vmem S1x1x512 .f32) (harg10 : arg10.IsWhole) (arg11 : Memref sig .tc .vmem S1x16x512 .f32) (harg11 : arg11.IsWhole) (arg12 : Memref sig .tc .vmem S1x1x512 .f32) (harg12 : arg12.IsWhole) (arg13 : Memref sig .tc .vmem S1x512x256 .f32) (harg13 : arg13.IsWhole) (arg14 : Memref sig .tc .vmem S1x256x256 .f32) (harg14 : arg14.IsWhole) (arg15 : Memref sig .tc .vmem S259x512 .f32) (harg15 : arg15.IsWhole) (arg16 : Memref sig .tc .vmem S256x16x512 .f32) (harg16 : arg16.IsWhole) (arg17 : Memref sig .tc .vmem S256x16x512 .f32) (harg17 : arg17.IsWhole) (arg18 : Memref sig .tc .vmem S256x16x512 .f32) (harg18 : arg18.IsWhole) (arg19 : Memref sig .tc .vmem S16x512 .f32) (harg19 : arg19.IsWhole) (hc0 : ¬ firstChunk i)
    (x0 : Vec Ideal S1x256x256 .f32) (x1 : Vec Ideal S1x256x1024 .f32) (x2 : Vec Ideal S1x4x512 .f32) (x3 : Vec Ideal S1x1x512 .f32) (x4 : Vec Ideal S1x512x16 .f32) (x5 : Vec Ideal S1x512x16 .f32) (x6 : Vec Ideal S1x512x16 .f32) (x7 : Vec Ideal S1x16x512 .f32) (x8 : Vec Ideal S1x1x512 .f32) (x9 : Vec Ideal S1x16x512 .f32) (x10 : Vec Ideal S1x1x512 .f32) (x11 : Vec Ideal S1x512x256 .f32) (xe : Vec Ideal S259x512 .f32) (hs : Vec Ideal S16x512 .f32) (g : Vec Ideal S256x16x512 .f32)
    (W : Weights) (X : ℕ → Fin 256 → EReal) (k : ℕ)
    (hx0 : ∀ (t : Fin 256) e, x0 (ix3 0 t e) = X (k + t.val) e) (hx1 : ∀ e q, x1 (ix3 0 e q) = W.inw e q)
    (hx2 : ∀ q j, x2 (ix3 0 q j) = W.cw q j) (hx3 : ∀ j, x3 (ix3 0 0 j) = W.cb j)
    (hx4 : ∀ j q, x4 (ix3 0 j q) = W.xd j q) (hx5 : ∀ j q, x5 (ix3 0 j q) = W.xb j q) (hx6 : ∀ j q, x6 (ix3 0 j q) = W.xc j q)
    (hx7 : ∀ q j, x7 (ix3 0 q j) = W.dw q j) (hx8 : ∀ j, x8 (ix3 0 0 j) = W.db j)
    (hx10 : ∀ j, x10 (ix3 0 0 j) = W.dd j) (hx11 : ∀ j e, x11 (ix3 0 j e) = W.ow j e)
    (hxe : ∀ (q : Fin 3) j, xe (ix2 ⟨q.val, by omega⟩ j) = rows W X (k + q.val) j)
    (hhs : ∀ s j, hs (ix2 s j) = state W (rows W X) k s j) :
    (∀ f (t : Fin 256) e, arg14.view.read (Elt Ideal) (arg14.view.writes (Elt Ideal) f (runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xe hs g).1.1) (ix3 0 t e)
        = out W (rows W X) (gate W X) (k + t.val) e) ∧
    (∀ f (q : Fin 3) j, arg15.view.read (Elt Ideal) (arg15.view.writes (Elt Ideal) f (runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xe hs g).1.2.1) (ix2 ⟨q.val, by omega⟩ j)
        = rows W X (k + 256 + q.val) j) ∧
    (∀ f s j, arg19.view.read (Elt Ideal) (arg19.view.writes (Elt Ideal) f (runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xe hs g).1.2.2) (ix2 s j)
        = state W (rows W X) (k + 256) s j) := by
  have l0 := load_whole arg2 harg2 x0 inb_S1x256x256_S1x256x256_0_0_0 zero3
  have l1 := load_whole arg3 harg3 x1 inb_S1x256x1024_S1x256x1024_0_0_0 zero3
  have l2 := load_whole arg4 harg4 x2 inb_S1x4x512_S1x4x512_0_0_0 zero3
  have l3 := load_whole arg5 harg5 x3 inb_S1x1x512_S1x1x512_0_0_0 zero3
  have l4 := load_whole arg6 harg6 x4 inb_S1x512x16_S1x512x16_0_0_0 zero3
  have l5 := load_whole arg7 harg7 x5 inb_S1x512x16_S1x512x16_0_0_0 zero3
  have l6 := load_whole arg8 harg8 x6 inb_S1x512x16_S1x512x16_0_0_0 zero3
  have l7 := load_whole arg9 harg9 x7 inb_S1x16x512_S1x16x512_0_0_0 zero3
  have l8 := load_whole arg10 harg10 x8 inb_S1x1x512_S1x1x512_0_0_0 zero3
  have l10 := load_whole arg12 harg12 x10 inb_S1x1x512_S1x1x512_0_0_0 zero3
  have l11 := load_whole arg13 harg13 x11 inb_S1x512x256_S1x512x256_0_0_0 zero3
  have hz : ∀ (t : Fin 256) j, (runNext.sl.r (F := Ideal) c arg2 harg2 arg3 harg3 x0 x1) (ix2 t j) = gate W X (k + t.val) j :=
    gate_cell W k X _ _ (fun t e => (congrFun l0 _).trans (hx0 t e)) (fun e q => (congrFun l1 _).trans (hx1 e q))
  have hx : ∀ (t : Fin 256) j, k0_pay6 (arg2.view.readAt (Elt Ideal) (Rect.unit ![0, 0, 0] S1x256x256.size inb_S1x256x256_S1x256x256_0_0_0).toLoadRect (harg2.unread x0))
      (arg3.view.readAt (Elt Ideal) (Rect.unit ![0, 0, 0] S1x256x1024.size inb_S1x256x1024_S1x256x1024_0_0_0).toLoadRect (harg3.unread x1)) (ix2 t j) = xin W X (k + t.val) j :=
    xin_cell W k X _ _ (fun t e => (congrFun l0 _).trans (hx0 t e)) (fun e q => (congrFun l1 _).trans (hx1 e q))
  have hE : ∀ (n : Fin 259) j, (runNext.sl.r_1 (F := Ideal) c arg2 harg2 arg3 harg3 arg15 harg15 x0 x1 xe) (ix2 n j) = rows W X (k + n.val) j := by
    intro n j
    refine (congrFun (load_all arg15 _ inb_S259x512_S259x512_0_0 zero2) (ix2 n j)).trans ?_
    by_cases hn : n.val < 3
    · refine (View.read_writes_cons_rows_of_not_mem (o := 3) (W := 256) arg15.view _ inb_S259x512_S256x512_3_0 _ _ (ix2 n j) rfl rfl (Or.inl hn)).trans ?_
      exact (congrFun (harg15.read_unread xe) (ix2 n j)).trans (hxe ⟨n.val, hn⟩ j)
    · have hn' : n.val - 3 < 256 := by omega
      refine (View.read_writes_cons_unit_of_mem arg15.view _ inb_S259x512_S256x512_3_0 _ _ (ix2 n j) (ix2 ⟨n.val - 3, hn'⟩ j) rfl ?_).trans ?_
      · intro a
        match a with
        | ⟨0, _⟩ => show n.val = 3 + (n.val - 3); omega
        | ⟨1, _⟩ => exact (Nat.zero_add _).symm
      · refine (hx ⟨n.val - 3, hn'⟩ j).trans ?_
        have hk3 : ¬ k + n.val < 3 := by omega
        have e : k + (n.val - 3) = k + n.val - 3 := by omega
        show xin W X (k + (n.val - 3)) j = rows W X (k + n.val) j
        rw [e]
        exact (if_neg hk3).symm
  have hu : ∀ (t : Fin 256) j, (runNext.sl.r_5 (F := Ideal) c arg2 harg2 arg3 harg3 arg4 harg4 arg5 harg5 arg15 harg15 x0 x1 x2 x3 xe) (ix2 t j) = act W (rows W X) (k + t.val) j :=
    act_cell W (rows W X) k _ _ _ hE (fun q j => (congrFun l2 _).trans (hx2 q j)) (fun j => (congrFun l3 _).trans (hx3 j))
  have hB : ∀ (t : Fin 256) s, (runNext.sl.r_6 (F := Ideal) c arg2 harg2 arg3 harg3 arg4 harg4 arg5 harg5 arg7 harg7 arg15 harg15 x0 x1 x2 x3 x5 xe) (ix2 t s) = bIn W (rows W X) (k + t.val) s :=
    bIn_cell W (rows W X) k _ _ _ hu _ (fun j s => (congrFun l5 _).trans (hx5 j s))
  have hC : ∀ (t : Fin 256) s, (runNext.sl.r_7 (F := Ideal) c arg2 harg2 arg3 harg3 arg4 harg4 arg5 harg5 arg8 harg8 arg15 harg15 x0 x1 x2 x3 x6 xe) (ix2 t s) = cOut W (rows W X) (k + t.val) s :=
    cOut_cell W (rows W X) k _ _ _ hu _ (fun j s => (congrFun l6 _).trans (hx6 j s))
  have hδ : ∀ (t : Fin 256) j, k0_pay21 (runNext.sl.r_8 (F := Ideal) c arg2 harg2 arg3 harg3 arg4 harg4 arg5 harg5 arg6 harg6 arg9 harg9 arg10 harg10 arg15 harg15 x0 x1 x2 x3 x4 x7 x8 xe) (runNext.sl.r_9 (F := Ideal) c arg2 harg2 arg3 harg3 arg4 harg4 arg5 harg5 arg6 harg6 arg9 harg9 arg10 harg10 arg15 harg15 x0 x1 x2 x3 x4 x7 x8 xe) (runNext.sl.r_10 (F := Ideal) c arg2 harg2 arg3 harg3 arg4 harg4 arg5 harg5 arg6 harg6 arg9 harg9 arg10 harg10 arg15 harg15 x0 x1 x2 x3 x4 x7 x8 xe) (runNext.sl.r_11 (F := Ideal) c arg2 harg2 arg3 harg3 arg4 harg4 arg5 harg5 arg6 harg6 arg9 harg9 arg10 harg10 arg15 harg15 x0 x1 x2 x3 x4 x7 x8 xe) (ix2 t j)
      = delta W (rows W X) (k + t.val) j :=
    delta_cell W (rows W X) k _ _ _ hu _ _ _ (fun j q => (congrFun l4 _).trans (hx4 j q))
      (fun q j => (congrFun l7 _).trans (hx7 q j)) (fun j => (congrFun l8 _).trans (hx8 j))
  have hr : ∀ (t : Fin 256) j, (runNext.sl.r_13 (F := Ideal) c arg2 harg2 arg3 harg3 arg4 harg4 arg5 harg5 arg6 harg6 arg9 harg9 arg10 harg10 arg15 harg15 x0 x1 x2 x3 x4 x7 x8 xe) (ix2 t j) = Ideal.exp (0 - delta W (rows W X) (k + t.val) j) :=
    base_cell _ _ _ _ (fun t j => delta W (rows W X) (k + t.val) j) hδ
  have hw : ∀ (t : Fin 256) j, (runNext.sl.r_12 (F := Ideal) c arg2 harg2 arg3 harg3 arg4 harg4 arg5 harg5 arg6 harg6 arg9 harg9 arg10 harg10 arg15 harg15 x0 x1 x2 x3 x4 x7 x8 xe) (ix2 t j) = delta W (rows W X) (k + t.val) j * act W (rows W X) (k + t.val) j := fun t j =>
    (weight_cell _ _ _ _ (fun t j => delta W (rows W X) (k + t.val) j) hδ _ t j).trans (by rw [hu])
  have hp2 : ∀ (t : Fin 256) j, (runNext.sl.r_14 (F := Ideal) c arg2 harg2 arg3 harg3 arg4 harg4 arg5 harg5 arg6 harg6 arg9 harg9 arg10 harg10 arg15 harg15 x0 x1 x2 x3 x4 x7 x8 xe) (ix2 t j) = power (Ideal.exp (0 - delta W (rows W X) (k + t.val) j)) 2 :=
    pow2 _ _ _ _ (fun t j => delta W (rows W X) (k + t.val) j) hδ
  have hp6 : ∀ (t : Fin 256) j, (runNext.sl.r_15 (F := Ideal) c arg2 harg2 arg3 harg3 arg4 harg4 arg5 harg5 arg6 harg6 arg9 harg9 arg10 harg10 arg15 harg15 x0 x1 x2 x3 x4 x7 x8 xe) (ix2 t j) = power (Ideal.exp (0 - delta W (rows W X) (k + t.val) j)) 6 :=
    pow6 _ _ (fun t j => Ideal.exp (0 - delta W (rows W X) (k + t.val) j)) hr hp2
  have hp9 : ∀ (t : Fin 256) j, (runNext.sl.r_16 (F := Ideal) c arg2 harg2 arg3 harg3 arg4 harg4 arg5 harg5 arg6 harg6 arg9 harg9 arg10 harg10 arg15 harg15 x0 x1 x2 x3 x4 x7 x8 xe) (ix2 t j) = power (Ideal.exp (0 - delta W (rows W X) (k + t.val) j)) 9 :=
    pow9 _ _ (fun t j => Ideal.exp (0 - delta W (rows W X) (k + t.val) j)) hr hp6
  have hp12 : ∀ (t : Fin 256) j, (runNext.sl.r_18 (F := Ideal) c arg2 harg2 arg3 harg3 arg4 harg4 arg5 harg5 arg6 harg6 arg9 harg9 arg10 harg10 arg15 harg15 x0 x1 x2 x3 x4 x7 x8 xe) (ix2 t j) = power (Ideal.exp (0 - delta W (rows W X) (k + t.val) j)) 12 :=
    pow12 _ _ (fun t j => Ideal.exp (0 - delta W (rows W X) (k + t.val) j)) hr hp9
  have hA : ∀ (t : Fin 256) s j, arg16.view.read (Elt Ideal) (arg16.view.writes (Elt Ideal) arg16.view.junk (runNext.sl.H14_16 (F := Ideal) c arg2 harg2 arg3 harg3 arg4 harg4 arg5 harg5 arg6 harg6 arg9 harg9 arg10 harg10 arg15 harg15 x0 x1 x2 x3 x4 x7 x8 xe)) (ix3 t s j)
      = decay W (rows W X) (k + t.val) s j :=
    read_slabs (F := Ideal) arg16.view arg16.view.junk _ _ _ _ _ _ _ _ _ _ _ _ _ _ _ _ (fun t s j => decay W (rows W X) (k + t.val) s j)
      (decay0 _ _ _ _ (fun t j => delta W (rows W X) (k + t.val) j) hδ)
      (decay1 _ _ _ _ (fun t j => delta W (rows W X) (k + t.val) j) hδ)
      (decay2 _ _ _ _ (fun t j => delta W (rows W X) (k + t.val) j) hδ)
      (decay3 _ _ (fun t j => Ideal.exp (0 - delta W (rows W X) (k + t.val) j)) hr hp2)
      (decay4 _ _ (fun t j => Ideal.exp (0 - delta W (rows W X) (k + t.val) j)) hr hp2)
      (decay5 _ _ (fun t j => Ideal.exp (0 - delta W (rows W X) (k + t.val) j)) hr hp2)
      (decay6 _ (fun t j => Ideal.exp (0 - delta W (rows W X) (k + t.val) j)) hp6)
      (decay7 _ _ (fun t j => Ideal.exp (0 - delta W (rows W X) (k + t.val) j)) hr hp6)
      (decay8 _ _ (fun t j => Ideal.exp (0 - delta W (rows W X) (k + t.val) j)) hr hp6)
      (decay9 _ _ (fun t j => Ideal.exp (0 - delta W (rows W X) (k + t.val) j)) hr hp6)
      (decay10 _ _ (fun t j => Ideal.exp (0 - delta W (rows W X) (k + t.val) j)) hr hp9)
      (decay11 _ _ (fun t j => Ideal.exp (0 - delta W (rows W X) (k + t.val) j)) hr hp9)
      (decay12 _ _ (fun t j => Ideal.exp (0 - delta W (rows W X) (k + t.val) j)) hr hp9)
      (decay13 _ _ (fun t j => Ideal.exp (0 - delta W (rows W X) (k + t.val) j)) hr hp12)
      (decay14 _ _ (fun t j => Ideal.exp (0 - delta W (rows W X) (k + t.val) j)) hr hp12)
      (decay15 _ _ (fun t j => Ideal.exp (0 - delta W (rows W X) (k + t.val) j)) hr hp12)
  have hD : ∀ (t : Fin 256) s j, arg17.view.read (Elt Ideal) (arg17.view.writes (Elt Ideal) arg17.view.junk (runNext.sl.H15_16 (F := Ideal) c arg2 harg2 arg3 harg3 arg4 harg4 arg5 harg5 arg6 harg6 arg7 harg7 arg9 harg9 arg10 harg10 arg15 harg15 x0 x1 x2 x3 x4 x5 x7 x8 xe)) (ix3 t s j)
      = drive W (rows W X) (k + t.val) s j :=
    read_slabs (F := Ideal) arg17.view arg17.view.junk _ _ _ _ _ _ _ _ _ _ _ _ _ _ _ _ (fun t s j => drive W (rows W X) (k + t.val) s j)
      (fun t j => (drive0 _ t j (runNext.sl.r_5 (F := Ideal) c arg2 harg2 arg3 harg3 arg4 harg4 arg5 harg5 arg15 harg15 x0 x1 x2 x3 xe) _ _ _ _).trans (congrArg₂ (· * ·) (hw t j) (hB t 0)))
      (fun t j => (drive1 _ t j (runNext.sl.r_5 (F := Ideal) c arg2 harg2 arg3 harg3 arg4 harg4 arg5 harg5 arg15 harg15 x0 x1 x2 x3 xe) _ _ _ _).trans (congrArg₂ (· * ·) (hw t j) (hB t 1)))
      (fun t j => (drive2 _ t j (runNext.sl.r_5 (F := Ideal) c arg2 harg2 arg3 harg3 arg4 harg4 arg5 harg5 arg15 harg15 x0 x1 x2 x3 xe) _ _ _ _).trans (congrArg₂ (· * ·) (hw t j) (hB t 2)))
      (fun t j => (drive3 _ _ t j).trans (congrArg₂ (· * ·) (hw t j) (hB t 3)))
      (fun t j => (drive4 _ _ t j).trans (congrArg₂ (· * ·) (hw t j) (hB t 4)))
      (fun t j => (drive5 _ _ t j).trans (congrArg₂ (· * ·) (hw t j) (hB t 5)))
      (fun t j => (drive6 _ _ t j).trans (congrArg₂ (· * ·) (hw t j) (hB t 6)))
      (fun t j => (drive7 _ _ t j).trans (congrArg₂ (· * ·) (hw t j) (hB t 7)))
      (fun t j => (drive8 _ _ t j).trans (congrArg₂ (· * ·) (hw t j) (hB t 8)))
      (fun t j => (drive9 _ _ t j).trans (congrArg₂ (· * ·) (hw t j) (hB t 9)))
      (fun t j => (drive10 _ _ t j).trans (congrArg₂ (· * ·) (hw t j) (hB t 10)))
      (fun t j => (drive11 _ _ t j).trans (congrArg₂ (· * ·) (hw t j) (hB t 11)))
      (fun t j => (drive12 _ _ t j).trans (congrArg₂ (· * ·) (hw t j) (hB t 12)))
      (fun t j => (drive13 _ _ t j).trans (congrArg₂ (· * ·) (hw t j) (hB t 13)))
      (fun t j => (drive14 _ _ t j).trans (congrArg₂ (· * ·) (hw t j) (hB t 14)))
      (fun t j => (drive15 _ _ t j).trans (congrArg₂ (· * ·) (hw t j) (hB t 15)))
  have hI : ∀ s j, (runNext.sl.r_19 (F := Ideal) c arg19 harg19 hs) (ix2 s j) = state W (rows W X) (k + 0) s j := fun s j =>
    (congrFun (load_whole arg19 harg19 hs inb_S16x512_S16x512_0_0 zero2) (ix2 s j)).trans (hhs s j)
  have htr : k0_t1_loop.trips = 64 := by decide +kernel
  have hL := loop_state Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runNext.sl.r_7 (F := Ideal) c arg2 harg2 arg3 harg3 arg4 harg4 arg5 harg5 arg8 harg8 arg15 harg15 x0 x1 x2 x3 x6 xe) (runNext.sl.r_19 (F := Ideal) c arg19 harg19 hs) 0#32
    (arg16.view.writes (Elt Ideal) arg16.view.junk (runNext.sl.H14_16 (F := Ideal) c arg2 harg2 arg3 harg3 arg4 harg4 arg5 harg5 arg6 harg6 arg9 harg9 arg10 harg10 arg15 harg15 x0 x1 x2 x3 x4 x7 x8 xe)) (arg17.view.writes (Elt Ideal) arg17.view.junk (runNext.sl.H15_16 (F := Ideal) c arg2 harg2 arg3 harg3 arg4 harg4 arg5 harg5 arg6 harg6 arg7 harg7 arg9 harg9 arg10 harg10 arg15 harg15 x0 x1 x2 x3 x4 x5 x7 x8 xe)) (runNext.sl.r_19 (F := Ideal) c arg19 harg19 hs)
    (fun n => decay W (rows W X) (k + n)) (fun n => drive W (rows W X) (k + n)) (fun n => state W (rows W X) (k + n))
    (fun n s j => rfl) hA hD hI k0_t1_loop.trips le_rfl
  obtain ⟨hL1, hL2⟩ := hL
  have hL3 : ∀ (t : Fin 256) s j, _ := fun t s j => hL2 (harg18.unread g) t s j (by rw [htr]; omega)
  rw [htr] at hL1
  refine ⟨fun f t e => ?_, fun f q j => ?_, fun f s j => ?_⟩
  · refine (read_store_whole arg14 f inb_S1x256x256_S1x256x256_0_0_0 zero3 (k0_pay1 (runNext.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x10 x11 xe hs g)) [] (ix3 0 t e)).trans ?_
    exact out_cell W (rows W X) k _ _ _ _ _ _ _ _ _ _ _ _ _ _ _ _ _ _ _ _ _ (gate W X) hz hu hC
      (fun j => (congrFun l10 _).trans (hx10 j)) (fun j e => (congrFun l11 _).trans (hx11 j e))
      (fun t j => (load_slab0 arg18 _ t j).trans (hL3 t 0 j))
      (fun t j => (load_slab1 arg18 _ t j).trans (hL3 t 1 j))
      (fun t j => (load_slab2 arg18 _ t j).trans (hL3 t 2 j))
      (fun t j => (load_slab3 arg18 _ t j).trans (hL3 t 3 j))
      (fun t j => (load_slab4 arg18 _ t j).trans (hL3 t 4 j))
      (fun t j => (load_slab5 arg18 _ t j).trans (hL3 t 5 j))
      (fun t j => (load_slab6 arg18 _ t j).trans (hL3 t 6 j))
      (fun t j => (load_slab7 arg18 _ t j).trans (hL3 t 7 j))
      (fun t j => (load_slab8 arg18 _ t j).trans (hL3 t 8 j))
      (fun t j => (load_slab9 arg18 _ t j).trans (hL3 t 9 j))
      (fun t j => (load_slab10 arg18 _ t j).trans (hL3 t 10 j))
      (fun t j => (load_slab11 arg18 _ t j).trans (hL3 t 11 j))
      (fun t j => (load_slab12 arg18 _ t j).trans (hL3 t 12 j))
      (fun t j => (load_slab13 arg18 _ t j).trans (hL3 t 13 j))
      (fun t j => (load_slab14 arg18 _ t j).trans (hL3 t 14 j))
      (fun t j => (load_slab15 arg18 _ t j).trans (hL3 t 15 j))
      t e
  · refine (View.read_writes_cons_unit_of_mem arg15.view f inb_S259x512_S3x512_0_0 (k0_pay11 (runNext.sl.r_1 (F := Ideal) c arg2 harg2 arg3 harg3 arg15 harg15 x0 x1 xe)) (runNext.sl.H13_1 (F := Ideal) c arg2 harg2 arg3 harg3 x0 x1) (ix2 ⟨q.val, by omega⟩ j) (ix2 q j) rfl ?_).trans ?_
    · intro a
      match a with
      | ⟨0, _⟩ => exact (Nat.zero_add _).symm
      | ⟨1, _⟩ => exact (Nat.zero_add _).symm
    · refine (tail_cell _ q j).trans ((hE _ j).trans ?_)
      have e : k + (256 + q.val) = k + 256 + q.val := by omega
      show rows W X (k + (256 + q.val)) j = _
      rw [e]
  · refine (read_store_whole arg19 f inb_S16x512_S16x512_0_0 zero2 _ _ (ix2 s j)).trans ?_
    refine (last_cell _ s j).trans ?_
    exact hL1 s j

end Cert.KernelIdeal.Body

end
-- ==== Proof.Arguments.lean ====
module

public import proofs.«01_k».proof.Proof.Spec

@[expose] public section

set_option maxRecDepth 16384

noncomputable section

/-! The weights and the input rows of a direction, read off the argument arrays. -/

namespace Cert.Scan

open Idealize.ShloMosaic Idealize.ShloMosaic.Tactic

/-- The weights of direction `d`. -/
def weightsOf (inw : FVec Ideal ⟨3, ![2, 256, 1024]⟩ .f32) (cw : FVec Ideal ⟨3, ![2, 512, 4]⟩ .f32)
    (cb : FVec Ideal ⟨2, ![2, 512]⟩ .f32) (xp : FVec Ideal ⟨3, ![2, 512, 48]⟩ .f32)
    (dw : FVec Ideal ⟨3, ![2, 16, 512]⟩ .f32) (db : FVec Ideal ⟨2, ![2, 512]⟩ .f32)
    (dd : FVec Ideal ⟨2, ![2, 512]⟩ .f32) (ow : FVec Ideal ⟨3, ![2, 512, 256]⟩ .f32) (d : Fin 2) : Weights where
  inw i q := inw (ix3 d i q)
  cw k j := cw (ix3 d j k)
  cb j := cb (ix2 d j)
  xd j s := xp (ix3 d j ⟨s.val, by omega⟩)
  xb j s := xp (ix3 d j ⟨16 + s.val, by omega⟩)
  xc j s := xp (ix3 d j ⟨32 + s.val, by omega⟩)
  dw s j := dw (ix3 d s j)
  db j := db (ix2 d j)
  dd j := dd (ix2 d j)
  ow j e := ow (ix3 d j e)

/-- The rows direction `d` scans: the input's from the first, or from the last. -/
def inputOf (x : FVec Ideal ⟨2, ![4096, 256]⟩ .f32) (d : Fin 2) (n : ℕ) (e : Fin 256) : EReal :=
  if h : n < 4096 then x (ix2 ⟨if d.val = 0 then n else 4095 - n, by split <;> omega⟩ e) else 0

end Cert.Scan

end
-- ==== Proof.KernelIdeal.Windows.lean ====
module

public import proofs.«01_k».proof.Proof.Arguments
public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

/-! The blocks that the launch hands to the body at point `t = 16 d + c`: chunk `c` of direction `d` of the input, and the
    weights of direction `d`, each as elements of the arguments. -/

namespace Cert.KernelIdeal.Body

open Cert.KernelIdeal Cert.KernelIdeal.Gen
open Idealize.ShloMosaic Idealize.ShloMosaic.TcCoe Idealize.ShloMosaic.Tactic
open Cert.Scan

variable (m : (ℓ : Loc nD τ sig) → Buf (Elt Ideal) ℓ)

theorem coord0 (t : Fin cfg0.N) : (grid0.coords t 0).val = t.val / 16 := by
  have h : t.val < 32 := Nat.lt_of_lt_of_eq t.isLt N_0
  have e : (grid0.coords t 0).val = t.val / 16 % 2 := Pipeline.Grid.coords_val t 0 (by decide) rfl
  omega

theorem coord1 (t : Fin cfg0.N) : (grid0.coords t 1).val = t.val % 16 := by
  have e : (grid0.coords t 1).val = t.val / 1 % 16 := Pipeline.Grid.coords_val t 1 (by decide) rfl
  omega

/-- The weights' windows at point `t`: the direction's block. -/
theorem index_weights (t : Fin cfg0.N) : win0_1.index t = ![t.val / 16, 0, 0] := by
  have h : t.val < 32 := Nat.lt_of_lt_of_eq t.isLt N_0
  show cc0_transform_1 (grid0.coords t) = _
  unfold cc0_transform_1
  simp only [coord0]
  have e : (BitVec.ofNat 32 (t.val / 16)).toNat = t.val / 16 := by rw [BitVec.toNat_ofNat]; omega
  rw [e]; rfl

/-- The input's and the result's windows at point `t`: the direction's chunk. -/
theorem index_rows (t : Fin cfg0.N) : win0_0.index t = ![t.val / 16, t.val % 16, 0] := by
  have h : t.val < 32 := Nat.lt_of_lt_of_eq t.isLt N_0
  show cc0_transform_0 (grid0.coords t) = _
  unfold cc0_transform_0
  simp only [coord0, coord1]
  have e : (BitVec.ofNat 32 (t.val / 16)).toNat = t.val / 16 := by rw [BitVec.toNat_ofNat]; omega
  have e' : (BitVec.ofNat 32 (t.val % 16)).toNat = t.val % 16 := by rw [BitVec.toNat_ofNat]; omega
  rw [e, e']; rfl

theorem index_2 (t : Fin cfg0.N) : win0_2.index t = ![t.val / 16, 0, 0] := index_weights t
theorem index_3 (t : Fin cfg0.N) : win0_3.index t = ![t.val / 16, 0, 0] := index_weights t
theorem index_4 (t : Fin cfg0.N) : win0_4.index t = ![t.val / 16, 0, 0] := index_weights t
theorem index_5 (t : Fin cfg0.N) : win0_5.index t = ![t.val / 16, 0, 0] := index_weights t
theorem index_6 (t : Fin cfg0.N) : win0_6.index t = ![t.val / 16, 0, 0] := index_weights t
theorem index_7 (t : Fin cfg0.N) : win0_7.index t = ![t.val / 16, 0, 0] := index_weights t
theorem index_8 (t : Fin cfg0.N) : win0_8.index t = ![t.val / 16, 0, 0] := index_weights t
theorem index_10 (t : Fin cfg0.N) : win0_10.index t = ![t.val / 16, 0, 0] := index_weights t
theorem index_11 (t : Fin cfg0.N) : win0_11.index t = ![t.val / 16, 0, 0] := index_weights t
theorem index_12 (t : Fin cfg0.N) : win0_12.index t = ![t.val / 16, t.val % 16, 0] := index_rows t

variable (c : Dev nD)

/-- The weights of direction `d`, as the launch finds them. -/
def wts (d : Fin 2) : Weights :=
  weightsOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg8)) (m ((c : Thread nD τ).loc main_arg9)) d

/-- The rows direction `d` scans, as the launch finds them. -/
def inp (d : Fin 2) : ℕ → Fin 256 → EReal := inputOf (m ((c : Thread nD τ).loc main_arg0)) d

variable (t : Fin cfg0.N) (d : Fin 2) (hd : d.val = t.val / 16)
include hd

theorem block_1 (i : Fin 256) (q : Fin 1024) : iblk m c 1 t (ix3 0 i q) = (wts m c d).inw i q := by
  have e : iblk m c 1 t (ix3 0 i q) = V m c main_arg1 (ix3 d i q) := by blk_ext [iblk, index_weights]
  rw [e]; entry_read; first | rfl | (pointwise [wts, weightsOf])

theorem block_2 (i : Fin 4) (j : Fin 512) : iblk m c 2 t (ix3 0 i j) = (wts m c d).cw i j := by
  have e : iblk m c 2 t (ix3 0 i j) = V m c main_v1 (ix3 d i j) := by blk_ext [iblk, index_2]
  rw [e]; entry_read; first | rfl | (pointwise [wts, weightsOf])

theorem block_3 (j : Fin 512) : iblk m c 3 t (ix3 0 0 j) = (wts m c d).cb j := by
  have e : iblk m c 3 t (ix3 0 0 j) = V m c main_v5 (ix3 d 0 j) := by blk_ext [iblk, index_3]
  rw [e]; entry_read; first | rfl | (pointwise [wts, weightsOf])

theorem block_4 (j : Fin 512) (s : Fin 16) : iblk m c 4 t (ix3 0 j s) = (wts m c d).xd j s := by
  have e : iblk m c 4 t (ix3 0 j s) = V m c main_v2 (ix3 d j s) := by blk_ext [iblk, index_4]
  rw [e]; entry_read; first | rfl | (pointwise [wts, weightsOf])

theorem block_5 (j : Fin 512) (s : Fin 16) : iblk m c 5 t (ix3 0 j s) = (wts m c d).xb j s := by
  have e : iblk m c 5 t (ix3 0 j s) = V m c main_v3 (ix3 d j s) := by blk_ext [iblk, index_5]
  rw [e]; entry_read; first | rfl | (pointwise [wts, weightsOf])

theorem block_6 (j : Fin 512) (s : Fin 16) : iblk m c 6 t (ix3 0 j s) = (wts m c d).xc j s := by
  have e : iblk m c 6 t (ix3 0 j s) = V m c main_v4 (ix3 d j s) := by blk_ext [iblk, index_6]
  rw [e]; entry_read; first | rfl | (pointwise [wts, weightsOf])

theorem block_7 (s : Fin 16) (j : Fin 512) : iblk m c 7 t (ix3 0 s j) = (wts m c d).dw s j := by
  have e : iblk m c 7 t (ix3 0 s j) = V m c main_arg5 (ix3 d s j) := by blk_ext [iblk, index_7]
  rw [e]; entry_read; first | rfl | (pointwise [wts, weightsOf])

theorem block_8 (j : Fin 512) : iblk m c 8 t (ix3 0 0 j) = (wts m c d).db j := by
  have e : iblk m c 8 t (ix3 0 0 j) = V m c main_v6 (ix3 d 0 j) := by blk_ext [iblk, index_8]
  rw [e]; entry_read; first | rfl | (pointwise [wts, weightsOf])

theorem block_10 (j : Fin 512) : iblk m c 10 t (ix3 0 0 j) = (wts m c d).dd j := by
  have e : iblk m c 10 t (ix3 0 0 j) = V m c main_v7 (ix3 d 0 j) := by blk_ext [iblk, index_10]
  rw [e]; entry_read; first | rfl | (pointwise [wts, weightsOf])

theorem block_11 (j : Fin 512) (e : Fin 256) : iblk m c 11 t (ix3 0 j e) = (wts m c d).ow j e := by
  have e' : iblk m c 11 t (ix3 0 j e) = V m c main_arg9 (ix3 d j e) := by blk_ext [iblk, index_11]
  rw [e']; entry_read; first | rfl | (pointwise [wts, weightsOf])

theorem block_0 (r : Fin 256) (e : Fin 256) : iblk m c 0 t (ix3 0 r e) = inp m c d (256 * (t.val % 16) + r.val) e := by
  have hb : 256 * (t.val % 16) + r.val < 4096 := by omega
  have e' : iblk m c 0 t (ix3 0 r e) = V m c main_v11 (ix3 d ⟨256 * (t.val % 16) + r.val, hb⟩ e) := by
    blk_ext [iblk, index_rows]
  rw [e']; clear e'
  generalize 256 * (t.val % 16) + r.val = n at hb ⊢
  clear hd
  unfold inp inputOf
  rw [dif_pos hb]
  entry_read
  match d with
  | 0 => pointwise
  | 1 =>
    pointwise
    refine congrArg (m ((c : Thread nD τ).loc main_arg0)) (congrArg₂ (fun a b => ix2 a b) (Eq.trans (if_pos (by decide)) (Fin.ext ?_)) (if_neg (by decide)))
    show 4096 - (n + 1) = 4095 - n
    omega

end Cert.KernelIdeal.Body

end
-- ==== Proof.KernelIdeal.Frame.lean ====
module

public import proofs.«01_k».proof.Proof.KernelIdeal.ValuesFirst
public import proofs.«01_k».proof.Proof.KernelIdeal.ValuesNext
public import proofs.«01_k».proof.Proof.KernelIdeal.Windows

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Scan

variable (m : (ℓ : Loc nD τ sig) → Buf (Elt Ideal) ℓ) (ρ : Dev nD → PrngReg)

/-! The launch with its result named: chunk `c` of direction `d` receives rows `256 c`, `256 c + 1`, … of `Scan.out`, and
    between two chunks of a direction the scratch buffers carry the last three projected rows and the state. -/

/-- The direction of point `n`. -/
def dir (n : ℕ) : Fin 2 := ⟨n / 16 % 2, Nat.mod_lt _ (by decide)⟩

/-- The result of direction `d` at row `n`, column `e`. -/
def resultAt (c : Dev nD) (d : Fin 2) (n : ℕ) (e : Fin 256) : EReal :=
  out (wts m c d) (rows (wts m c d) (inp m c d)) (gate (wts m c d) (inp m c d)) n e

/-- The block of the result that point `t` leaves. -/
def block (c : Dev nD) (t : ℕ) : Vec Ideal S1x256x256 .f32 := fun y =>
  resultAt m c (dir t) (256 * (t % 16) + (y 1).val) (y 2)

/-- What the scratch buffers hold before point `n`, when it does not begin a direction. -/
def Carried (c : Dev nD) (n : ℕ) (xe : Vec Ideal S259x512 .f32) (hs : Vec Ideal S16x512 .f32) : Prop :=
  n % 16 ≠ 0 →
    (∀ (q : Fin 3) j, xe (ix2 ⟨q.val, by omega⟩ j) = rows (wts m c (dir n)) (inp m c (dir n)) (256 * (n % 16) + q.val) j) ∧
    ∀ s j, hs (ix2 s j) = state (wts m c (dir n)) (rows (wts m c (dir n)) (inp m c (dir n))) (256 * (n % 16)) s j

/-- The scratch buffers and the generator before point `n`. -/
def between (c : Dev nD) (n : ℕ) : sProp 𝕄 :=
  iprop((∃ xe, ∃ hs, ⌜Carried m c n xe hs⌝ ∗ owns (c : Thread nD τ) sc0 fullShare xe ∗ owns (c : Thread nD τ) sc4 fullShare hs)
    ∗ (∃ d, owns (c : Thread nD τ) sc1 fullShare d) ∗ (∃ d, owns (c : Thread nD τ) sc2 fullShare d)
    ∗ (∃ d, owns (c : Thread nD τ) sc3 fullShare d) ∗ (∃ r, prngReg c r))

/-- The launch's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => block m c t.val
  Φ t := between m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = block m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t))

theorem dir_val (t : Fin cfg0.N) : (dir t.val).val = t.val / 16 := by
  have h : t.val < 32 := Nat.lt_of_lt_of_eq t.isLt N_0
  show t.val / 16 % 2 = _
  omega

theorem eta3 (y : S1x256x256.Idx) : y = ix3 0 (y 1) (y 2) := by
  funext a
  match a with
  | ⟨0, _⟩ => exact Subsingleton.elim (α := Fin 1) _ _
  | ⟨1, _⟩ => rfl
  | ⟨2, _⟩ => rfl

/-- What a point leaves for the next is what the next expects. -/
theorem carried_succ (c : Dev nD) (n : ℕ) (xe : Vec Ideal S259x512 .f32) (hs : Vec Ideal S16x512 .f32)
    (hxe : ∀ (q : Fin 3) j, xe (ix2 ⟨q.val, by omega⟩ j) = rows (wts m c (dir n)) (inp m c (dir n)) (256 * (n % 16) + 256 + q.val) j)
    (hhs : ∀ s j, hs (ix2 s j) = state (wts m c (dir n)) (rows (wts m c (dir n)) (inp m c (dir n))) (256 * (n % 16) + 256) s j) :
    Carried m c (n + 1) xe hs := fun h => by
  have e : dir (n + 1) = dir n := Fin.ext (show (n + 1) / 16 % 2 = n / 16 % 2 by omega)
  have e' : 256 * ((n + 1) % 16) = 256 * (n % 16) + 256 := by omega
  rw [e, e']
  exact ⟨hxe, hhs⟩

/-- The values the run leaves at point `t`. -/
theorem atFirst (c : Dev nD) (t : Fin cfg0.N) (h0 : t.val % 16 = 0) (g : Vec Ideal S256x16x512 .f32) :
    (∀ f, (st12 t).view.read (Elt Ideal) ((st12 t).view.writes (Elt Ideal) f (runFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g).1.1) = block m c t.val) ∧
    ∀ f f', Carried m c (t.val + 1) (sc0.view.read (Elt Ideal) (sc0.view.writes (Elt Ideal) f (runFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g).1.2.1))
      (sc4.view.read (Elt Ideal) (sc4.view.writes (Elt Ideal) f' (runFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g).1.2.2)) := by
  have hd := dir_val t
  have hv := valuesFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g
    (wts m c (dir t.val)) (inp m c (dir t.val)) (256 * (t.val % 16))
    (block_0 m c t _ hd) (block_1 m c t _ hd) (block_2 m c t _ hd) (block_3 m c t _ hd) (block_4 m c t _ hd) (block_5 m c t _ hd)
    (block_6 m c t _ hd) (block_7 m c t _ hd) (block_8 m c t _ hd) (block_10 m c t _ hd) (block_11 m c t _ hd)
    (by rw [h0])
  refine ⟨fun f => ?_, fun f f' => ?_⟩
  · funext y
    rw [eta3 y]
    exact hv.1 f (y 1) (y 2)
  · exact carried_succ m c t.val _ _ (hv.2.1 f) (hv.2.2 f')

/-- The values the run leaves at point `t`. -/
theorem atNext (c : Dev nD) (t : Fin cfg0.N) (h0 : ¬ t.val % 16 = 0) (xe : Vec Ideal S259x512 .f32) (hs : Vec Ideal S16x512 .f32) (hC : Carried m c t.val xe hs) (g : Vec Ideal S256x16x512 .f32) :
    (∀ f, (st12 t).view.read (Elt Ideal) ((st12 t).view.writes (Elt Ideal) f (runNext c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xe hs g).1.1) = block m c t.val) ∧
    ∀ f f', Carried m c (t.val + 1) (sc0.view.read (Elt Ideal) (sc0.view.writes (Elt Ideal) f (runNext c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xe hs g).1.2.1))
      (sc4.view.read (Elt Ideal) (sc4.view.writes (Elt Ideal) f' (runNext c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xe hs g).1.2.2)) := by
  have hd := dir_val t
  have hv := valuesNext c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xe hs g
    (wts m c (dir t.val)) (inp m c (dir t.val)) (256 * (t.val % 16))
    (block_0 m c t _ hd) (block_1 m c t _ hd) (block_2 m c t _ hd) (block_3 m c t _ hd) (block_4 m c t _ hd) (block_5 m c t _ hd)
    (block_6 m c t _ hd) (block_7 m c t _ hd) (block_8 m c t _ hd) (block_10 m c t _ hd) (block_11 m c t _ hd)
    (hC h0).1 (hC h0).2
  refine ⟨fun f => ?_, fun f f' => ?_⟩
  · funext y
    rw [eta3 y]
    exact hv.1 f (y 1) (y 2)
  · exact carried_succ m c t.val _ _ (hv.2.1 f) (hv.2.2 f')

set_option maxHeartbeats 2000000 in
/-- The body at any point, by the two runs. -/
theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = between m c (t.val + 1) from rfl, show (dats m 0 c).Φ t.castSucc = between m c t.val from rfl]
  unfold between
  by_cases h0 : t.val % 16 = 0
  · iintro ⟨⟨⟨%xe, %hs, %hC, S0, S4⟩, S1, S2, ⟨%g, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hv := atFirst m c t h0 g
    iapply ((runFirst c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) ((firstChunk_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexists _; iexact S0
    isplitl [S1]; · iexact S1
    isplitl [S2]; · iexact S2
    isplitl [S3]; · iexact S3
    isplitl [S4]; · iexists _; iexact S4
    iintro ⟨H0, H1, H2, H3, H4, H5, H6, H7, H8, H9, H10, H11, ⟨%f12, H12⟩, ⟨%f13, S0⟩, S1, S2, S3, ⟨%f17, S4⟩⟩
    isplitl [S0 S1 S2 S3 S4 Hg]
    · isplitl [S0 S4]
      · iexists _, _
        isplitr; · ipureintro; exact hv.2 f13 f17
        isplitl [S0]
        · unfold owns; iexists _; isplitr; swap; · iexact S0
          ipureintro; rfl
        · unfold owns; iexists _; isplitr; swap; · iexact S4
          ipureintro; rfl
      isplitl [S1]; · iexact S1
      isplitl [S2]; · iexact S2
      isplitl [S3]; · iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr; swap; · iexact H12
    ipureintro; exact hv.1 f12
  · iintro ⟨⟨⟨%xe, %hs, %hC, S0, S4⟩, S1, S2, ⟨%g, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hv := atNext m c t h0 xe hs hC g
    iapply ((runNext c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) sc0 (Memref.isWhole_whole _) sc1 (Memref.isWhole_whole _) sc2 (Memref.isWhole_whole _) sc3 (Memref.isWhole_whole _) sc4 (Memref.isWhole_whole _) (fun h => h0 ((firstChunk_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xe hs g).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, H11, ⟨%f12, H12⟩, ⟨%f13, S0⟩, S1, S2, S3, ⟨%f17, S4⟩⟩
    isplitl [S0 S1 S2 S3 S4 Hg]
    · isplitl [S0 S4]
      · iexists _, _
        isplitr; · ipureintro; exact hv.2 f13 f17
        isplitl [S0]
        · unfold owns; iexists _; isplitr; swap; · iexact S0
          ipureintro; rfl
        · unfold owns; iexists _; isplitr; swap; · iexact S4
          ipureintro; rfl
      isplitl [S1]; · iexact S1
      isplitl [S2]; · iexact S2
      isplitl [S3]; · iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr; swap; · iexact H12
    ipureintro; exact hv.1 f12

theorem body_row (t : Fin cfg0.N) :
    defs₀ (F := Ideal) .tc cfg0.body (cfg0.bodyArgs t (cfg0.slots t)) = bodyAt0 t := by
  unfold defs₀; rw [Defs.onTc_tc]

theorem obligation (c : Dev nD) :
    BodyObligation (dats m 0 c) (defs₀ (F := Ideal)) Variants.none () Set.univ := fun t => by
  rw [bigSep_W0, bigSep_W0, body_row]
  exact triple_restated (body_at m c t) rfl .rfl fun _ => .rfl

theorem enter (c : Dev nD) : Pipeline.ΦA spec0 c ⊢ (dats m 0 c).Φ 0 := by
  rw [entry_eq, show (dats m 0 c).Φ 0 = between m c 0 from rfl]
  unfold between
  iintro ⟨⟨⟨%xe, S0⟩, S1, S2, S3, ⟨%hs, S4⟩⟩, Hg⟩
  isplitl [S0 S4]
  · iexists xe, hs
    isplitr; · ipureintro; exact fun h => absurd rfl h
    isplitl [S0]; · iexact S0
    iexact S4
  isplitl [S1]; · iexact S1
  isplitl [S2]; · iexact S2
  isplitl [S3]; · iexact S3
  iexact Hg

theorem leave (c : Dev nD) : (dats m 0 c).Φ (Fin.last cfg0.N) ⊢ Pipeline.ΦA spec0 c := by
  rw [entry_eq, show (dats m 0 c).Φ (Fin.last cfg0.N) = between m c cfg0.N from rfl]
  unfold between
  iintro ⟨⟨%xe, %hs, -, S0, S4⟩, S1, S2, S3, Hg⟩
  isplitl [S0 S1 S2 S3 S4]
  · isplitl [S0]; · iexists _; iexact S0
    isplitl [S1]; · iexact S1
    isplitl [S2]; · iexact S2
    isplitl [S3]; · iexact S3
    iexists _; iexact S4
  iexact Hg

set_option backward.isDefEq.respectTransparency.types false in
/-- The whole program runs to the end, every counter at zero and every array of the launch as its proof data say. -/
theorem run_all : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The result array after the launch. -/
def result (c : Dev nD) : FVec Ideal S2x4096x256 .f32 := fun y => resultAt m c (y 0) (y 1).val (y 2)

theorem result_eq (c : Dev nD) : (dats m 0 c).arrAt 12 cfg0.N = result m c := by
  refine (dats m 0 c).arrAt_eq_of_covers 12 _ (by decide +kernel) fun t hf y => ?_
  blk_simp
  rw [after_12]
  have ht : t.val < 32 := Nat.lt_of_lt_of_eq t.isLt N_0
  show resultAt m c (dir t.val) (256 * (t.val % 16) + (y 1).val) (y 2) = result m c ((win0_12.blk t).view.emb y)
  have e0 : ((win0_12.blk t).view.emb y 0).val = t.val / 16 := by blk_simp [index_12] <;> omega
  have e1 : ((win0_12.blk t).view.emb y 1).val = 256 * (t.val % 16) + (y 1).val := by blk_simp [index_12] <;> omega
  have e2 : ((win0_12.blk t).view.emb y 2).val = (y 2).val := by blk_simp [index_12]
  unfold result
  rw [e1]
  refine congrArg₂ (fun d e => resultAt m c d (256 * (t.val % 16) + (y 1).val) e) (Fin.ext ?_) (Fin.ext e2.symm)
  exact (dir_val t).trans e0.symm

/-- The program ends with its ten arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c => ⟨
      ((hh.1 c).2 main_arg0 (Pipeline.mem_restRefs_of main_arg0 (by decide) (by decide))).trans (V_main_arg0 m c),
      ((hh.1 c).1 1).trans (((dats m 0 c).arrAt_in 1 rfl _).trans ((A_eq m c 1).trans (V_main_arg1 m c))),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      ((hh.1 c).1 7).trans (((dats m 0 c).arrAt_in 7 rfl _).trans ((A_eq m c 7).trans (V_main_arg5 m c))),
      ((hh.1 c).2 main_arg6 (Pipeline.mem_restRefs_of main_arg6 (by decide) (by decide))).trans (V_main_arg6 m c),
      ((hh.1 c).2 main_arg7 (Pipeline.mem_restRefs_of main_arg7 (by decide) (by decide))).trans (V_main_arg7 m c),
      ((hh.1 c).2 main_arg8 (Pipeline.mem_restRefs_of main_arg8 (by decide) (by decide))).trans (V_main_arg8 m c),
      ((hh.1 c).1 11).trans (((dats m 0 c).arrAt_in 11 rfl _).trans ((A_eq m c 11).trans (V_main_arg9 m c)))⟩, hh.2⟩) (run_all m ρ)

/-- The result array at the end. -/
theorem value : θ_run defs (onTc (τ := τ) (main (F := Ideal))) ⟨m, fun _ => 0, ρ⟩ (fun r => ∀ c : Dev nD,
      r.2.mem ((c.tc : Thread nD τ).loc main_v12) = result m c) :=
  (θ_run defs _ _).mono (fun _ hh c => ((hh.1 c).1 12).trans (result_eq m c)) (run_all m ρ)

end Cert.KernelIdeal.Body

end
-- ==== Proof.Rates.lean ====
module

public import proofs.«01_k».proof.Proof.Spec
public import proofs.«01_k».proof.Pre_decay_rates_are_one_to_sixteen
public import Idealize.ShloMosaic.Lib.Pointwise
public import Idealize.ShloMosaic.Lib.DynamicIndex
public import Idealize.ShloMosaic.Lib.Claim

@[expose] public section

set_option maxRecDepth 16384

noncomputable section

namespace Cert.Scan

open Idealize.ShloMosaic Idealize.ShloMosaic.Tactic

/-- The exponential of the logarithm of a positive whole number. -/
theorem exp_log_succ (s : ℕ) : Ideal.exp (Ideal.log (((s : ℝ) + 1 : ℝ) : EReal)) = (((s : ℝ) + 1 : ℝ) : EReal) := by
  have h : (0 : ℝ) < (s : ℝ) + 1 := by positivity
  rw [Ideal.log_coe, if_neg (not_le.mpr h), Ideal.exp_coe, Real.exp_log h]

/-- Repeated multiplication by `exp (-x)` is the exponential of the multiple of `-x`. -/
theorem power_exp (x : EReal) : ∀ s : ℕ, power (Ideal.exp (0 - x)) s = Ideal.exp (x * -(((s : ℝ) + 1 : ℝ) : EReal)) := by
  intro s
  have h : ∀ s : ℕ, (0 : ℝ) < (s : ℝ) + 1 := fun s => by positivity
  have hn : ∀ s : ℕ, (-(((s : ℝ) + 1 : ℝ) : EReal)) < 0 := fun s => by
    rw [← EReal.coe_neg, ← EReal.coe_zero, EReal.coe_lt_coe_iff]
    linarith [h s]
  rw [sub_eq_add_neg, zero_add]
  induction x using EReal.rec with
  | bot =>
    rw [EReal.neg_bot, Ideal.exp_top, EReal.bot_mul_of_neg (hn s), Ideal.exp_top]
    induction s with
    | zero => rfl
    | succ s ih => rw [power, ih, EReal.top_mul_top]
  | top =>
    rw [EReal.neg_top, Ideal.exp_bot, EReal.top_mul_of_neg (hn s), Ideal.exp_bot]
    induction s with
    | zero => rfl
    | succ s ih => rw [power, mul_zero]
  | coe r =>
    induction s with
    | zero =>
      rw [power, ← EReal.coe_neg, ← EReal.coe_neg, ← EReal.coe_mul, Ideal.exp_coe, Ideal.exp_coe]
      congr 2
      push_cast
      ring
    | succ s ih =>
      rw [power, ih, ← EReal.coe_neg, ← EReal.coe_neg, ← EReal.coe_neg, ← EReal.coe_mul, ← EReal.coe_mul, Ideal.exp_coe, Ideal.exp_coe,
        Ideal.exp_coe, ← EReal.coe_mul, ← Real.exp_add]
      congr 2
      push_cast
      ring

open Cert.Pre_decay_rates_are_one_to_sixteen in
/-- What the precondition says of the decay rates. -/
theorem rates [Cert.Pre_decay_rates_are_one_to_sixteen.Facts] (x : FVec Ideal ⟨2, ![4096, 256]⟩ .f32) (inw : FVec Ideal ⟨3, ![2, 256, 1024]⟩ .f32) (cw : FVec Ideal ⟨3, ![2, 512, 4]⟩ .f32)
    (cb : FVec Ideal ⟨2, ![2, 512]⟩ .f32) (xp : FVec Ideal ⟨3, ![2, 512, 48]⟩ .f32)
    (dw : FVec Ideal ⟨3, ![2, 16, 512]⟩ .f32) (db : FVec Ideal ⟨2, ![2, 512]⟩ .f32) (al : FVec Ideal ⟨3, ![2, 512, 16]⟩ .f32)
    (dd : FVec Ideal ⟨2, ![2, 512]⟩ .f32) (ow : FVec Ideal ⟨3, ![2, 512, 256]⟩ .f32)
    (h : fn (F := Ideal) x inw cw cb xp dw db al dd ow = fun _ => 1#1) (d : Fin 2) (j : Fin 512) (s : Fin 16) :
    al (ix3 d j s) = Ideal.log (((s.val : ℝ) + 1 : ℝ) : EReal) := by
  have q := congrFun h (ix3 d j s)
  simp only [fn] at q
  revert q
  pointwise
  intro q
  by_cases e : al (ix3 d j s) = Ideal.log (FloatOps.sitofp (F := Ideal) FTy.f32 (IntOp.addi (1#32) (BitVec.ofNat 32 s.val)))
  · rw [e]
    refine congrArg Ideal.log ?_
    show (((1#32 + BitVec.ofNat 32 s.val).toInt : ℝ) : EReal) = _
    have t : (1#32 + BitVec.ofNat 32 s.val).toInt = (s.val : ℤ) + 1 := by
      fin_cases s <;> rfl
    rw [t]
    push_cast
    rfl
  · rw [decide_eq_false e] at q
    exact absurd q (by decide)

end Cert.Scan

end
-- ==== Proof.ReferenceIdeal.Frame.lean ====
module

public import proofs.«01_k».proof.Proof.Gen.ReferenceIdeal.Run
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The buffers written before the loop. -/
abbrev writtenBefore : List (Ref sig .tc) := hostOps0_W ++ hostOps0_1_W ++ hostOps0_2_W ++ hostOps0_3_W ++ hostOps0_4_W

/-- The buffers written by a trip of the loop. -/
abbrev writtenInside : List (Ref sig .tc) :=
  condOps_W ++ while0Ops0_W ++ while0Ops0_1_W ++ while0Ops0_2_W ++ while0Ops0_3_W ++ while0Ops0_4_W ++ while0Ops0_5_W

/-- The buffers written after the loop. -/
abbrev writtenAfter : List (Ref sig .tc) :=
  [main_v79, main_v80, main_v81, main_v82, main_v83, main_v84, main_v85, main_cst_5, main_v86, main_v87, main_cst_6, main_v88, main_v89,
    main_v90, main_v91, main_v92]

theorem after_writes : (hostOps0_5 : List (HloOp τ sig (Elt F))).Forall fun op =>
    op.writes ⊆ (writtenAfter.map (Proc.devRef (τ := τ) .tc)).toFinset :=
  StableHlo.forall_writes_sub_of_map rfl

/-- A buffer that is not written before the loop is at its launch contents when the loop is entered. -/
theorem entry_keeps (c : Dev nD) (r : Ref sig .tc) (h : r ∉ writtenBefore) :
    entryContents preI m c (Proc.devRef .tc r) = launchContents m c (Proc.devRef .tc r) := by
  simp only [writtenBefore, List.mem_append, not_or] at h
  obtain ⟨⟨⟨⟨h0, h1⟩, h2⟩, h3⟩, h4⟩ := h
  simp only [entryContents, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that no trip writes is, before each trip, what it was when the loop was entered. -/
theorem trips_keep (c : Dev nD) (r : Ref sig .tc) (h : r ∉ writtenInside) :
    ∀ k, atK m k c (Proc.devRef .tc r) = entryContents preI m c (Proc.devRef .tc r)
  | 0 => rfl
  | k + 1 => by
    have ih := trips_keep c r h k
    simp only [writtenInside, List.mem_append, not_or] at h
    obtain ⟨⟨⟨⟨⟨⟨hc, h0⟩, h1⟩, h2⟩, h3⟩, h4⟩, h5⟩ := h
    rw [show atK m (k + 1) c = afterL bodyI (after condOps (atK m k c)) from rfl]
    simp only [afterL_cons, afterL_nil]
    rw [after_of_writes_sub _ _ while0Ops0_5_writes h5, after_of_writes_sub _ _ while0Ops0_4_writes h4,
      after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc]
    exact ih

/-- A buffer that nothing writes ends at its launch contents. -/
theorem final_keeps (c : Dev nD) (r : Ref sig .tc) (h0 : r ∉ writtenBefore) (h1 : r ∉ writtenInside) (h2 : r ∉ writtenAfter) :
    finalContents condOps preI bodyI postI 4096 m c (Proc.devRef .tc r) = launchContents m c (Proc.devRef .tc r) := by
  have hc : r ∉ condOps_W := fun hr => h1 (by simp only [writtenInside, List.mem_append]; tauto)
  rw [show finalContents condOps preI bodyI postI 4096 m c = afterL postI (after condOps (atK m 4096 c)) from rfl]
  simp only [afterL_cons, afterL_nil]
  rw [after_of_writes_sub _ _ after_writes h2, after_of_writes_sub _ _ condOps_writes hc, trips_keep m c r h1, entry_keeps m c r h0]

/-- The reference runs to completion, leaves its ten arguments as they were, and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine θ_run_mono (run_fold m ρ) fun r hr => ⟨fun c => ?_, ?_⟩
  · have key : ∀ b : Ref sig .tc, (Proc.devRef .tc b : DevRef τ sig).isScoped = false → b ∉ writtenBefore → b ∉ writtenInside → b ∉ writtenAfter →
        r.2.mem ((c.tc : Thread nD τ).loc b) = m ((c.tc : Thread nD τ).loc b) :=
      fun b hb h0 h1 h2 => (hr c b hb).trans (final_keeps m c b h0 h1 h2)
    refine ⟨?_, ?_, ?_, ?_, ?_, ?_, ?_, ?_, ?_, ?_⟩ <;> exact key _ rfl (by decide +kernel) (by decide +kernel) (by decide +kernel)
  · funext ⟨_, sm⟩
    cases sm with
    | reg s => exact s.elim0
    | dma s => exact s.elim0

end Cert.ReferenceIdeal.Body

end
-- ==== Proof.ReferenceIdeal.Project.lean ====
module

public import proofs.«01_k».proof.Proof.Arguments
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

/-- The contents of the tensor core's buffers. -/
local notation "𝕍" => Valuation τ sig (Elt Ideal)

/-- The rows, as read forward and from the last to the first, one under the other. -/
def pairRows (x : FVec Ideal S4096x256 .f32) : FVec Ideal S2x4096x256 .f32 :=
  concatenate S2x4096x256 0
    [⟨S1x4096x256, broadcastInDim S1x4096x256 ![1, 2] bcast_S4096x256_S1x4096x256_1_2 x⟩,
      ⟨S1x4096x256, broadcastInDim S1x4096x256 ![1, 2] bcast_S4096x256_S1x4096x256_1_2 (Host.reverse [0] x)⟩]
    concatenates_S1x4096x256_S1x4096x256_S2x4096x256_d0

theorem pairRows_at (x : FVec Ideal S4096x256 .f32) (d : Fin 2) (n : Fin 4096) (e : Fin 256) :
    pairRows x (ix3 d n e) = inputOf x d n.val e := by
  unfold pairRows inputOf
  rw [dif_pos n.isLt]
  fin_cases d
  · pointwise
  · pointwise
    refine congrArg x (congrArg₂ (fun a b => ix2 a b) (Eq.trans (if_pos (by decide)) (Fin.ext ?_)) (if_neg (by decide)))
    show 4096 - (n.val + 1) = 4095 - n.val
    omega

theorem projIn_read (V : 𝕍) :
    after (hostOps0 (F := Ideal)) V (Proc.devRef .tc main_v5)
      = extractStridedSlice S2x4096x512 ![0, 0, 0] (Host.dotGeneral (φ₁ := .f32) (φ₂ := .f32) dot_S2x4096x256_S2x256x1024_S2x4096x1024_2_1_1_2_0_0 none
          (pairRows (V (Proc.devRef .tc main_arg0))) (V (Proc.devRef .tc main_arg1))) slices_S2x4096x1024_S2x4096x512_0_0_0 := by
  unfold pairRows
  after_results

theorem projGate_read (V : 𝕍) :
    after (hostOps0 (F := Ideal)) V (Proc.devRef .tc main_v6)
      = extractStridedSlice S2x4096x512 ![0, 0, 512] (Host.dotGeneral (φ₁ := .f32) (φ₂ := .f32) dot_S2x4096x256_S2x256x1024_S2x4096x1024_2_1_1_2_0_0 none
          (pairRows (V (Proc.devRef .tc main_arg0))) (V (Proc.devRef .tc main_arg1))) slices_S2x4096x1024_S2x4096x512_0_0_512 := by
  unfold pairRows
  after_results

theorem projIn_at (p : FVec Ideal S2x4096x256 .f32) (w : FVec Ideal S2x256x1024 .f32) (d : Fin 2) (n : Fin 4096) (j : Fin 512) :
    extractStridedSlice S2x4096x512 ![0, 0, 0] (Host.dotGeneral (φ₁ := .f32) (φ₂ := .f32) dot_S2x4096x256_S2x256x1024_S2x4096x1024_2_1_1_2_0_0 none
        p w) slices_S2x4096x1024_S2x4096x512_0_0_0 (ix3 d n j)
      = ∑ i : Fin 256, p (ix3 d n i) * w (ix3 d i ⟨j.val, by omega⟩) := by
  pointwise

theorem projGate_at (p : FVec Ideal S2x4096x256 .f32) (w : FVec Ideal S2x256x1024 .f32) (d : Fin 2) (n : Fin 4096) (j : Fin 512) :
    extractStridedSlice S2x4096x512 ![0, 0, 512] (Host.dotGeneral (φ₁ := .f32) (φ₂ := .f32) dot_S2x4096x256_S2x256x1024_S2x4096x1024_2_1_1_2_0_0 none
        p w) slices_S2x4096x1024_S2x4096x512_0_0_512 (ix3 d n j)
      = ∑ i : Fin 256, p (ix3 d n i) * w (ix3 d i ⟨512 + j.val, by omega⟩) := by
  pointwise

theorem pad_read (V : 𝕍) :
    after (hostOps0_1 (F := Ideal)) V (Proc.devRef .tc main_v7)
      = pad S2x4099x512 ![0, 3, 0] ![0, 0, 0] ![0, 0, 0] (V (Proc.devRef .tc main_v5)) (sitofp (F := Ideal) .f32 (V (Proc.devRef .tc main_c)))
          pads_S2x4096x512_S2x4099x512_000_300_000 h_S_ := by
  after_reads_simp
  rfl

theorem pad_at (v : FVec Ideal S2x4096x512 .f32) (d : Fin 2) (n : Fin 4099) (j : Fin 512) :
    pad S2x4099x512 ![0, 3, 0] ![0, 0, 0] ![0, 0, 0] v (sitofp (F := Ideal) .f32 (constantI S_ 32 0#32))
          pads_S2x4096x512_S2x4099x512_000_300_000 h_S_ (ix3 d n j)
      = if h : n.val < 3 then 0 else v (ix3 d ⟨n.val - 3, by omega⟩ j) := by
  pointwise
  by_cases h : n.val < 3
  · rw [dif_pos h, dif_neg (by omega)]
    show (((0#32 : BitVec 32).toInt : ℝ) : EReal) = 0
    simp
  · rw [dif_neg h, dif_pos (by omega)]

end Cert.ReferenceIdeal.Body

end
-- ==== Proof.ReferenceIdeal.Convolve.lean ====
module

public import proofs.«01_k».proof.Proof.Arguments
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

/-- The contents of the tensor core's buffers. -/
local notation "𝕍" => Valuation τ sig (Elt Ideal)

theorem conv_at (V : 𝕍) (p : FVec Ideal S2x4099x512 .f32) (cw : FVec Ideal S2x512x4 .f32) (cb : FVec Ideal S2x512 .f32)
    (hp : V (Proc.devRef .tc main_v7) = p) (hw : V (Proc.devRef .tc main_arg2) = cw) (hb : V (Proc.devRef .tc main_arg3) = cb)
    (d : Fin 2) (n : Fin 4096) (j : Fin 512) :
    (after (hostOps0_2 (F := Ideal)) V (Proc.devRef .tc main_v39) : FVec Ideal S2x4096x512 .f32) (ix3 d n j)
      = cb (ix2 d j) + p (ix3 d ⟨n.val, by omega⟩ j) * cw (ix3 d j 0) + p (ix3 d ⟨n.val + 1, by omega⟩ j) * cw (ix3 d j 1)
        + p (ix3 d ⟨n.val + 2, by omega⟩ j) * cw (ix3 d j 2) + p (ix3 d ⟨n.val + 3, by omega⟩ j) * cw (ix3 d j 3) := by
  after_reads_simp
  rw [hp, hw, hb]
  pointwise
  rw [show (⟨1 + n.val, by omega⟩ : Fin 4099) = ⟨n.val + 1, by omega⟩ from Fin.ext (Nat.add_comm _ _),
    show (⟨2 + n.val, by omega⟩ : Fin 4099) = ⟨n.val + 2, by omega⟩ from Fin.ext (Nat.add_comm _ _),
    show (⟨3 + n.val, by omega⟩ : Fin 4099) = ⟨n.val + 3, by omega⟩ from Fin.ext (Nat.add_comm _ _)]
  simp only [add_assoc]

theorem act_read (V : 𝕍) (u : FVec Ideal S2x4096x512 .f32)
    (h : after (hostOps0_2 (F := Ideal)) V (Proc.devRef .tc main_v39) = u) (d : Fin 2) (n : Fin 4096) (j : Fin 512) :
    (after (hostOps0_2 (F := Ideal)) V (Proc.devRef .tc main_v46) : FVec Ideal S2x4096x512 .f32) (ix3 d n j)
      = silu (u (ix3 d n j)) := by
  have e : @Eq (FVec Ideal S2x4096x512 .f32) (after (hostOps0_2 (F := Ideal)) V (Proc.devRef .tc main_v46))
      (mulf (after (hostOps0_2 (F := Ideal)) V (Proc.devRef .tc main_v39) : FVec Ideal S2x4096x512 .f32)
        (Host.divf (broadcastInDim S2x4096x512 ![] bcast_S_S2x4096x512 (constant S_ .f32 0x3F800000#32))
          (addf (broadcastInDim S2x4096x512 ![] bcast_S_S2x4096x512 (constant S_ .f32 0x3F800000#32))
            (Host.exp (Host.negf (after (hostOps0_2 (F := Ideal)) V (Proc.devRef .tc main_v39) : FVec Ideal S2x4096x512 .f32)))))) := by
    after_reads_simp
  rw [e, h]
  pointwise
  rfl

theorem mix_read (V : 𝕍) (u : FVec Ideal S2x4096x512 .f32) (w : FVec Ideal S2x512x48 .f32)
    (h : after (hostOps0_2 (F := Ideal)) V (Proc.devRef .tc main_v46) = u) (hw : V (Proc.devRef .tc main_arg4) = w)
    (d : Fin 2) (n : Fin 4096) (s : Fin 48) :
    (after (hostOps0_2 (F := Ideal)) V (Proc.devRef .tc main_v47) : FVec Ideal S2x4096x48 .f32) (ix3 d n s)
      = ∑ j : Fin 512, u (ix3 d n j) * w (ix3 d j s) := by
  have e : @Eq (FVec Ideal S2x4096x48 .f32) (after (hostOps0_2 (F := Ideal)) V (Proc.devRef .tc main_v47))
      (Host.dotGeneral (φ₁ := .f32) (φ₂ := .f32) dot_S2x4096x512_S2x512x48_S2x4096x48_2_1_1_2_0_0 none
          (after (hostOps0_2 (F := Ideal)) V (Proc.devRef .tc main_v46) : FVec Ideal S2x4096x512 .f32) (V (Proc.devRef .tc main_arg4))) := by
    after_reads_simp
  rw [e, h, hw]
  pointwise

theorem step_read (V : 𝕍) (u : FVec Ideal S2x4096x48 .f32) (w : FVec Ideal S2x16x512 .f32) (b : FVec Ideal S2x512 .f32)
    (h : after (hostOps0_2 (F := Ideal)) V (Proc.devRef .tc main_v47) = u) (hw : V (Proc.devRef .tc main_arg5) = w)
    (hb : V (Proc.devRef .tc main_arg6) = b) (d : Fin 2) (n : Fin 4096) (j : Fin 512) :
    (after (hostOps0_2 (F := Ideal)) V (Proc.devRef .tc main_v52) : FVec Ideal S2x4096x512 .f32) (ix3 d n j)
      = (∑ s : Fin 16, u (ix3 d n ⟨s.val, by omega⟩) * w (ix3 d s j)) + b (ix2 d j) := by
  have e : @Eq (FVec Ideal S2x4096x512 .f32) (after (hostOps0_2 (F := Ideal)) V (Proc.devRef .tc main_v52))
      (addf (Host.dotGeneral (φ₁ := .f32) (φ₂ := .f32) dot_S2x4096x16_S2x16x512_S2x4096x512_2_1_1_2_0_0 none
          (extractStridedSlice S2x4096x16 ![0, 0, 0] (after (hostOps0_2 (F := Ideal)) V (Proc.devRef .tc main_v47) : FVec Ideal S2x4096x48 .f32)
            slices_S2x4096x48_S2x4096x16_0_0_0) (V (Proc.devRef .tc main_arg5)))
          (broadcastInDim S2x4096x512 ![0, 1, 2] bcast_S2x1x512_S2x4096x512_0_1_2
            (broadcastInDim S2x1x512 ![0, 2] bcast_S2x512_S2x1x512_0_2 (V (Proc.devRef .tc main_arg6))))) := by
    after_reads_simp
  rw [e, h, hw, hb]
  pointwise

/-- An array of zeros. -/
def zeros : FVec Ideal S2x4096x512 .f32 := broadcastInDim S2x4096x512 ![] bcast_S_S2x4096x512 (constant S_ .f32 0x00000000#32)

theorem softplus_read (V : 𝕍) (u : FVec Ideal S2x4096x512 .f32) (h : V (Proc.devRef .tc main_v52) = u)
    (d : Fin 2) (n : Fin 4096) (j : Fin 512) :
    (after (hostOps0_3 (F := Ideal)) V (Proc.devRef .tc main_v53) : FVec Ideal S2x4096x512 .f32) (ix3 d n j)
      = softplus (u (ix3 d n j)) := by
  have e : @Eq (FVec Ideal S2x4096x512 .f32) (after (hostOps0_3 (F := Ideal)) V (Proc.devRef .tc main_v53))
      (select (cmpf .une (subf u zeros) (subf u zeros)) (addf u zeros)
        (addf (maximumf u zeros) (Host.log1p (Host.exp (Host.negf (Host.absf (subf u zeros))))))) := by
    after_reads_simp
    rw [h]
    simp only [TRef.ofBuf_toBuf]
    rfl
  rw [e]
  unfold zeros
  pointwise
  rw [if_neg (fun q => q rfl)]
  unfold softplus
  rw [sub_eq_add_neg, zero_add]

end Cert.ReferenceIdeal.Body

end
-- ==== Proof.ReferenceIdeal.Enter.lean ====
module

public import proofs.«01_k».proof.Proof.Arguments
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

/-- The contents of the tensor core's buffers. -/
local notation "𝕍" => Valuation τ sig (Elt Ideal)

variable (V : 𝕍) (u dl : FVec Ideal S2x4096x512 .f32) (mx : FVec Ideal S2x4096x48 .f32) (al : FVec Ideal S2x512x16 .f32)
  (hu : V (Proc.devRef .tc main_v46) = u) (hd : V (Proc.devRef .tc main_v53) = dl)
  (hm : V (Proc.devRef .tc main_v47) = mx) (ha : V (Proc.devRef .tc main_arg7) = al)

include hd ha in
theorem decay_read (n : Fin 4096) (d : Fin 2) (j : Fin 512) (s : Fin 16) :
    (after (hostOps0_4 (F := Ideal)) V (Proc.devRef .tc main_v78_0) : FVec Ideal S4096x2x512x16 .f32) (ix4 n d j s)
      = Ideal.exp (dl (ix3 d n j) * -Ideal.exp (al (ix3 d j s))) := by
  after_reads_simp
  rw [hd, ha]
  simp only [id]
  pointwise

include hu hd hm in
theorem drive_read (n : Fin 4096) (d : Fin 2) (j : Fin 512) (s : Fin 16) :
    (after (hostOps0_4 (F := Ideal)) V (Proc.devRef .tc main_v78_1) : FVec Ideal S4096x2x512x16 .f32) (ix4 n d j s)
      = dl (ix3 d n j) * mx (ix3 d n ⟨16 + s.val, by omega⟩) * u (ix3 d n j) := by
  after_reads_simp
  rw [hu, hd, hm]
  simp only [id]
  pointwise

include hm in
theorem cOut_read (n : Fin 4096) (d : Fin 2) (s : Fin 16) :
    (after (hostOps0_4 (F := Ideal)) V (Proc.devRef .tc main_v78_2) : FVec Ideal S4096x2x16 .f32) (ix3 n d s)
      = mx (ix3 d n ⟨32 + s.val, by omega⟩) := by
  after_reads_simp
  rw [hm]
  simp only [id]
  pointwise

theorem start_read (d : Fin 2) (j : Fin 512) (s : Fin 16) :
    (after (hostOps0_4 (F := Ideal)) V (Proc.devRef .tc main_v78_4) : FVec Ideal S2x512x16 .f32) (ix3 d j s) = (0 : EReal) := by
  after_reads_simp
  simp only [id]
  pointwise

end Cert.ReferenceIdeal.Body

end
-- ==== Proof.ReferenceIdeal.Step.lean ====
module

public import proofs.«01_k».proof.Proof.Arguments
public import proofs.«01_k».proof.Proof.Gen.ReferenceIdeal.Run
public import Idealize.ShloMosaic.Lib.Pointwise
public import Idealize.ShloMosaic.Lib.DynamicIndex
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

/-- The contents of the tensor core's buffers. -/
local notation "𝕍" => Valuation τ sig (Elt Ideal)

variable (V : 𝕍) (k : Fin 4096) (hk : V (Proc.devRef .tc main_v78_3) = fun _ => Scf.iv 0#32 1#32 k.val)

theorem counter_toInt (k : Fin 4096) : (Scf.iv 0#32 1#32 k.val).toInt = (k.val : ℤ) := by
  have h := k.isLt
  simp only [Scf.iv, BitVec.zero_add, BitVec.mul_one, BitVec.one_mul]
  exact toInt_ofNat_of_lt (by omega)

theorem slab_fits (k : Fin 4096) : S4096x2x512x16.Slices ![k.val, 0, 0, 0] S1x2x512x16 :=
  ⟨rfl, fun a => by
    have h := k.isLt
    fin_cases a
    · show k.val + 1 ≤ 4096
      omega
    · show 0 + 2 ≤ 2
      omega
    · show 0 + 512 ≤ 512
      omega
    · show 0 + 16 ≤ 16
      omega⟩

theorem row_fits (k : Fin 4096) : S4096x2x16.Slices ![k.val, 0, 0] S1x2x16 :=
  ⟨rfl, fun a => by
    have h := k.isLt
    fin_cases a
    · show k.val + 1 ≤ 4096
      omega
    · show 0 + 2 ≤ 2
      omega
    · show 0 + 16 ≤ 16
      omega⟩

theorem line_fits (k : Fin 4096) : S4096x2x512.Slices ![k.val, 0, 0] S1x2x512 :=
  ⟨rfl, fun a => by
    have h := k.isLt
    fin_cases a
    · show k.val + 1 ≤ 4096
      omega
    · show 0 + 2 ≤ 2
      omega
    · show 0 + 512 ≤ 512
      omega⟩

/-- The slab of one step. -/
theorem slab_at (x : FVec Ideal S4096x2x512x16 .f32) (start : Fin 4 → ℤ) (f : S4096x2x512x16.Slices (fun _ => 0) S1x2x512x16)
    (k : Fin 4096) (h0 : start 0 = k.val) (h1 : start 1 = 0) (h2 : start 2 = 0) (h3 : start 3 = 0)
    (d : Fin 2) (j : Fin 512) (s : Fin 16) :
    Host.dynamicSlice S1x2x512x16 x start f (ix4 0 d j s) = x (ix4 k d j s) := by
  rw [Host.dynamicSlice_eq_extractStridedSlice S1x2x512x16 x start ![k.val, 0, 0, 0] f (slab_fits k)
    (fun a => by fin_cases a <;> assumption)]
  pointwise

/-- The row of one step. -/
theorem row_at (x : FVec Ideal S4096x2x16 .f32) (start : Fin 3 → ℤ) (f : S4096x2x16.Slices (fun _ => 0) S1x2x16)
    (k : Fin 4096) (h0 : start 0 = k.val) (h1 : start 1 = 0) (h2 : start 2 = 0) (d : Fin 2) (s : Fin 16) :
    Host.dynamicSlice S1x2x16 x start f (ix3 0 d s) = x (ix3 k d s) := by
  rw [Host.dynamicSlice_eq_extractStridedSlice S1x2x16 x start ![k.val, 0, 0] f (row_fits k)
    (fun a => by fin_cases a <;> assumption)]
  pointwise

/-- One step's line written into the results: that line is new, the others are as they were. -/
theorem line_at (x : FVec Ideal S4096x2x512 .f32) (y : FVec Ideal S1x2x512 .f32) (start : Fin 3 → ℤ)
    (f : S4096x2x512.Slices (fun _ => 0) S1x2x512)
    (k : Fin 4096) (h0 : start 0 = k.val) (h1 : start 1 = 0) (h2 : start 2 = 0) (n : Fin 4096) (d : Fin 2) (j : Fin 512) :
    Host.dynamicUpdateSlice x y start f (ix3 n d j) = if n = k then y (ix3 0 d j) else x (ix3 n d j) := by
  have hd := d.isLt
  have hj := j.isLt
  rw [Host.dynamicUpdateSlice_eq_updateSlice x y start f ![k.val, 0, 0] (fun a => by
      have h := k.isLt
      fin_cases a
      · show (min (max (start 0) 0) (4095 : ℤ)).toNat = k.val
        omega
      · show (min (max (start 1) 0) (0 : ℤ)).toNat = 0
        omega
      · show (min (max (start 2) 0) (0 : ℤ)).toNat = 0
        omega) (line_fits k)]
  pointwise
  by_cases h : n = k
  · subst h
    rw [if_pos rfl, dif_pos ⟨le_rfl, Nat.lt_succ_self _⟩]
    exact congrArg (fun q => y (ix3 q d j)) (Fin.ext (Nat.sub_self _))
  · rw [if_neg h, dif_neg (fun q => h (Fin.ext (by omega)))]

include hk in
theorem state_read (a b : FVec Ideal S4096x2x512x16 .f32) (h : FVec Ideal S2x512x16 .f32)
    (ha : V (Proc.devRef .tc main_v78_0) = a) (hb : V (Proc.devRef .tc main_v78_1) = b) (hh : V (Proc.devRef .tc main_v78_4) = h)
    (d : Fin 2) (j : Fin 512) (s : Fin 16) :
    (res_main_while0b_v97 V : FVec Ideal S2x512x16 .f32) (ix3 d j s)
      = a (ix4 k d j s) * h (ix3 d j s) + b (ix4 k d j s) := by
  unfold res_main_while0b_v97
  rw [ha, hb, hh, hk]
  have e : ∀ x : FVec Ideal S4096x2x512x16 .f32, shapeCast S2x512x16 (Host.dynamicSlice S1x2x512x16 x
      (fun q => (((![fun _ => Scf.iv 0#32 1#32 k.val, constantI S_ 32 0#32, constantI S_ 32 0#32, constantI S_ 32 0#32] :
        Fin 4 → (⟨S_, .i32⟩ : BufTy).Contents (Elt Ideal))) q (Shape.Idx.first h_S_)).toInt) sliceFits_S4096x2x512x16_S1x2x512x16)
      shapeCasts_S1x2x512x16_S2x512x16 (ix3 d j s) = x (ix4 k d j s) := fun x => by
    have c := slab_at x (fun q => (((![fun _ => Scf.iv 0#32 1#32 k.val, constantI S_ 32 0#32, constantI S_ 32 0#32, constantI S_ 32 0#32] :
        Fin 4 → (⟨S_, .i32⟩ : BufTy).Contents (Elt Ideal))) q (Shape.Idx.first h_S_)).toInt) sliceFits_S4096x2x512x16_S1x2x512x16
        k (counter_toInt k) rfl rfl rfl d j s
    generalize Host.dynamicSlice S1x2x512x16 x _ _ = y at c ⊢
    rw [← c]
    pointwise
  show shapeCast _ _ _ _ * h (ix3 d j s) + shapeCast _ _ _ _ = _
  exact congrArg₂ (· + ·) (congrArg (· * _) (e a)) (e b)

include hk in
theorem line_read (r : FVec Ideal S2x512x16 .f32) (c : FVec Ideal S4096x2x16 .f32) (y : FVec Ideal S4096x2x512 .f32)
    (hr : res_main_while0b_v97 V = r) (hc : V (Proc.devRef .tc main_v78_2) = c) (hy : V (Proc.devRef .tc main_v78_5) = y)
    (n : Fin 4096) (d : Fin 2) (j : Fin 512) :
    (step_main_v78_5 V : FVec Ideal S4096x2x512 .f32) (ix3 n d j)
      = if n = k then ∑ s : Fin 16, r (ix3 d j s) * c (ix3 k d s) else y (ix3 n d j) := by
  unfold step_main_v78_5
  rw [hr, hc, hy, hk]
  simp only [id]
  refine (line_at y _ _ _ k (counter_toInt k) rfl rfl n d j).trans (ite_congr rfl (fun _ => ?_) fun _ => rfl)
  have e := fun s : Fin 16 => row_at c (fun q => (((![fun _ => Scf.iv 0#32 1#32 k.val, constantI S_ 32 0#32, constantI S_ 32 0#32] :
        Fin 3 → (⟨S_, .i32⟩ : BufTy).Contents (Elt Ideal))) q (Shape.Idx.first h_S_)).toInt) sliceFits_S4096x2x16_S1x2x16
        k (counter_toInt k) rfl rfl d s
  generalize Host.dynamicSlice S1x2x16 c _ _ = z at e ⊢
  pointwise
  exact Finset.sum_congr rfl fun s _ => congrArg (_ * ·) (e s)

end Cert.ReferenceIdeal.Body

end
-- ==== Proof.ReferenceIdeal.Leave.lean ====
module

public import proofs.«01_k».proof.Proof.Arguments
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

/-- The contents of the tensor core's buffers. -/
local notation "𝕍" => Valuation τ sig (Elt Ideal)

theorem out_read (V : 𝕍) (u z : FVec Ideal S2x4096x512 .f32) (y : FVec Ideal S4096x2x512 .f32) (dd : FVec Ideal S2x512 .f32)
    (ow : FVec Ideal S2x512x256 .f32)
    (hu : V (Proc.devRef .tc main_v46) = u) (hz : V (Proc.devRef .tc main_v6) = z) (hy : V (Proc.devRef .tc main_v78_5) = y)
    (hdd : V (Proc.devRef .tc main_arg8) = dd) (how : V (Proc.devRef .tc main_arg9) = ow)
    (d : Fin 2) (n : Fin 4096) (e : Fin 256) :
    (after (hostOps0_5 (F := Ideal)) V (Proc.devRef .tc main_v92) : FVec Ideal S2x4096x256 .f32) (ix3 d n e)
      = ∑ j : Fin 512, (y (ix3 n d j) + dd (ix2 d j) * u (ix3 d n j)) * silu (z (ix3 d n j)) * ow (ix3 d j e) := by
  after_reads_simp
  rw [hu, hz, hy, hdd, how]
  pointwise
  rfl

end Cert.ReferenceIdeal.Body

end
-- ==== Proof.ReferenceIdeal.Scan.lean ====
module

public import proofs.«01_k».proof.Proof.Rates
public import proofs.«01_k».proof.Proof.ReferenceIdeal.Frame
public import proofs.«01_k».proof.Proof.ReferenceIdeal.Project
public import proofs.«01_k».proof.Proof.ReferenceIdeal.Convolve
public import proofs.«01_k».proof.Proof.ReferenceIdeal.Enter
public import proofs.«01_k».proof.Proof.ReferenceIdeal.Step
public import proofs.«01_k».proof.Proof.ReferenceIdeal.Leave

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo Idealize.ShloMosaic.Tactic
open Cert.Scan

variable (m : (ℓ : Loc nD τ sig) → Buf (Elt Ideal) ℓ) (c : Dev nD)

/-- The weights of direction `d`. -/
abbrev wts (d : Fin 2) : Weights :=
  weightsOf (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg8)) (m ((c.tc : Thread nD τ).loc main_arg9)) d

/-- The rows direction `d` scans. -/
abbrev inp (d : Fin 2) : ℕ → Fin 256 → EReal := inputOf (m ((c.tc : Thread nD τ).loc main_arg0)) d

/-- The rows its convolution runs over. -/
abbrev padded (d : Fin 2) : ℕ → Fin 512 → EReal := rows (wts m c d) (inp m c d)

/-- The contents after each of the stretches before the loop. -/
def after1 : Valuation τ sig (Elt Ideal) := after hostOps0 (launchContents m c)
def after2 : Valuation τ sig (Elt Ideal) := after hostOps0_1 (after1 m c)
def after3 : Valuation τ sig (Elt Ideal) := after hostOps0_2 (after2 m c)
def after4 : Valuation τ sig (Elt Ideal) := after hostOps0_3 (after3 m c)

theorem entry_eq : entryContents preI m c = after hostOps0_4 (after4 m c) := rfl

theorem keep1 (r : Ref sig .tc) (h : r ∉ hostOps0_W) : after1 m c (Proc.devRef .tc r) = m ((c.tc : Thread nD τ).loc r) :=
  after_of_writes_sub _ _ hostOps0_writes h
theorem keep2 (r : Ref sig .tc) (h : r ∉ hostOps0_1_W) : after2 m c (Proc.devRef .tc r) = after1 m c (Proc.devRef .tc r) :=
  after_of_writes_sub _ _ hostOps0_1_writes h
theorem keep3 (r : Ref sig .tc) (h : r ∉ hostOps0_2_W) : after3 m c (Proc.devRef .tc r) = after2 m c (Proc.devRef .tc r) :=
  after_of_writes_sub _ _ hostOps0_2_writes h
theorem keep4 (r : Ref sig .tc) (h : r ∉ hostOps0_3_W) : after4 m c (Proc.devRef .tc r) = after3 m c (Proc.devRef .tc r) :=
  after_of_writes_sub _ _ hostOps0_3_writes h
theorem keep5 (r : Ref sig .tc) (h : r ∉ hostOps0_4_W) : entryContents preI m c (Proc.devRef .tc r) = after4 m c (Proc.devRef .tc r) :=
  after_of_writes_sub _ _ hostOps0_4_writes h

/-- The projected rows. -/
theorem xin_at (d : Fin 2) (n : Fin 4096) (j : Fin 512) :
    (after1 m c (Proc.devRef .tc main_v5) : FVec Ideal S2x4096x512 .f32) (ix3 d n j) = xin (wts m c d) (inp m c d) n.val j := by
  unfold after1
  rw [projIn_read, projIn_at]
  exact Finset.sum_congr (M := EReal) rfl fun i _ => congrArg (· * _) (pairRows_at _ d n i)

theorem gate_at (d : Fin 2) (n : Fin 4096) (j : Fin 512) :
    (after1 m c (Proc.devRef .tc main_v6) : FVec Ideal S2x4096x512 .f32) (ix3 d n j) = gate (wts m c d) (inp m c d) n.val j := by
  unfold after1
  rw [projGate_read, projGate_at]
  exact Finset.sum_congr (M := EReal) rfl fun i _ => congrArg (· * _) (pairRows_at _ d n i)

theorem zero_at : after1 m c (Proc.devRef .tc main_c) = constantI S_ 32 0#32 := by
  unfold after1
  after_reads_simp

/-- The projected rows after three rows of zeros. -/
theorem padded_at (d : Fin 2) (n : Fin 4099) (j : Fin 512) :
    (after2 m c (Proc.devRef .tc main_v7) : FVec Ideal S2x4099x512 .f32) (ix3 d n j) = padded m c d n.val j := by
  unfold after2
  rw [pad_read, zero_at, pad_at]
  unfold padded rows
  by_cases h : n.val < 3
  · rw [dif_pos h, if_pos h]
  · rw [dif_neg h, if_neg h]
    exact xin_at m c d ⟨n.val - 3, by omega⟩ j

theorem act_at (d : Fin 2) (n : Fin 4096) (j : Fin 512) :
    (after3 m c (Proc.devRef .tc main_v46) : FVec Ideal S2x4096x512 .f32) (ix3 d n j) = act (wts m c d) (padded m c d) n.val j := by
  unfold after3
  rw [act_read _ _ rfl]
  unfold act
  refine congrArg silu ?_
  rw [conv_at _ _ _ _ rfl ((keep2 m c main_arg2 (by decide)).trans (keep1 m c main_arg2 (by decide)))
    ((keep2 m c main_arg3 (by decide)).trans (keep1 m c main_arg3 (by decide)))]
  rw [padded_at, padded_at, padded_at, padded_at]
  rfl

/-- The projection of the activations that the step size, the input and the output are made from. -/
theorem mix_at (d : Fin 2) (n : Fin 4096) (s : Fin 48) :
    (after3 m c (Proc.devRef .tc main_v47) : FVec Ideal S2x4096x48 .f32) (ix3 d n s)
      = ∑ j : Fin 512, act (wts m c d) (padded m c d) n.val j
          * (m ((c.tc : Thread nD τ).loc main_arg4) : FVec Ideal S2x512x48 .f32) (ix3 d j s) := by
  unfold after3
  rw [mix_read _ _ _ rfl ((keep2 m c main_arg4 (by decide)).trans (keep1 m c main_arg4 (by decide)))]
  exact Finset.sum_congr (M := EReal) rfl fun j _ => congrArg (· * _) (act_at m c d n j)

theorem delta_at (d : Fin 2) (n : Fin 4096) (j : Fin 512) :
    (after4 m c (Proc.devRef .tc main_v53) : FVec Ideal S2x4096x512 .f32) (ix3 d n j) = delta (wts m c d) (padded m c d) n.val j := by
  unfold after4
  rw [softplus_read _ _ rfl]
  unfold delta
  refine congrArg softplus ?_
  unfold after3
  rw [step_read _ _ _ _ rfl ((keep2 m c main_arg5 (by decide)).trans (keep1 m c main_arg5 (by decide)))
    ((keep2 m c main_arg6 (by decide)).trans (keep1 m c main_arg6 (by decide)))]
  refine congrArg (· + _) (Finset.sum_congr (M := EReal) rfl fun s _ => congrArg (· * _) ?_)
  exact mix_at m c d n ⟨s.val, by omega⟩

/-- The entries of the logarithms of the decay rates. -/
def Rated : Prop := ∀ (d : Fin 2) (j : Fin 512) (s : Fin 16),
  (m ((c.tc : Thread nD τ).loc main_arg7) : FVec Ideal S2x512x16 .f32) (ix3 d j s) = Ideal.log (((s.val : ℝ) + 1 : ℝ) : EReal)

theorem decay_at (hr : Rated m c) (n : Fin 4096) (d : Fin 2) (j : Fin 512) (s : Fin 16) :
    (entryContents preI m c (Proc.devRef .tc main_v78_0) : FVec Ideal S4096x2x512x16 .f32) (ix4 n d j s)
      = decay (wts m c d) (padded m c d) n.val s j := by
  rw [entry_eq, decay_read (after4 m c) _ _ rfl ((keep4 m c main_arg7 (by decide)).trans ((keep3 m c main_arg7 (by decide)).trans
    ((keep2 m c main_arg7 (by decide)).trans (keep1 m c main_arg7 (by decide))))), delta_at, hr d j s, exp_log_succ]
  unfold decay
  rw [power_exp]

theorem drive_at (n : Fin 4096) (d : Fin 2) (j : Fin 512) (s : Fin 16) :
    (entryContents preI m c (Proc.devRef .tc main_v78_1) : FVec Ideal S4096x2x512x16 .f32) (ix4 n d j s)
      = drive (wts m c d) (padded m c d) n.val s j := by
  rw [entry_eq, drive_read (after4 m c) _ _ _ (keep4 m c main_v46 (by decide)) rfl (keep4 m c main_v47 (by decide)),
    delta_at, act_at, mix_at]
  exact mul_right_comm (_ : EReal) _ _

theorem cOut_at (n : Fin 4096) (d : Fin 2) (s : Fin 16) :
    (entryContents preI m c (Proc.devRef .tc main_v78_2) : FVec Ideal S4096x2x16 .f32) (ix3 n d s)
      = cOut (wts m c d) (padded m c d) n.val s := by
  rw [entry_eq, cOut_read (after4 m c) _ (keep4 m c main_v47 (by decide)), mix_at]
  rfl

/-- The carried buffers before the `k`-th trip. -/
def carried (k : ℕ) : Valuation τ sig (Elt Ideal) := STEP^[k] (entryContents preI m c)

theorem carried_succ (k : ℕ) : carried m c (k + 1) = STEP (carried m c k) := Function.iterate_succ_apply' ..

theorem carried_counter (k : ℕ) : carried m c k (Proc.devRef .tc main_v78_3) = fun _ => Scf.iv 0#32 1#32 k :=
  ((atK_agree m c k) main_v78_3 (by decide)).symm.trans (atK_ctr m c k)

theorem carried_decay : ∀ k, carried m c k (Proc.devRef .tc main_v78_0) = entryContents preI m c (Proc.devRef .tc main_v78_0)
  | 0 => rfl
  | k + 1 => by rw [carried_succ, STEP_main_v78_0, carried_decay k]
theorem carried_drive : ∀ k, carried m c k (Proc.devRef .tc main_v78_1) = entryContents preI m c (Proc.devRef .tc main_v78_1)
  | 0 => rfl
  | k + 1 => by rw [carried_succ, STEP_main_v78_1, carried_drive k]
theorem carried_out : ∀ k, carried m c k (Proc.devRef .tc main_v78_2) = entryContents preI m c (Proc.devRef .tc main_v78_2)
  | 0 => rfl
  | k + 1 => by rw [carried_succ, STEP_main_v78_2, carried_out k]

/-- A trip's new state. -/
theorem state_succ (hr : Rated m c) (k : ℕ) (hk : k < 4096) (d : Fin 2) (j : Fin 512) (s : Fin 16)
    (ih : (carried m c k (Proc.devRef .tc main_v78_4) : FVec Ideal S2x512x16 .f32) (ix3 d j s) = state (wts m c d) (padded m c d) k s j) :
    (res_main_while0b_v97 (carried m c k) : FVec Ideal S2x512x16 .f32) (ix3 d j s) = state (wts m c d) (padded m c d) (k + 1) s j := by
  rw [state_read (carried m c k) ⟨k, hk⟩ (carried_counter m c k) _ _ _ (carried_decay m c k) (carried_drive m c k) rfl,
    decay_at m c hr ⟨k, hk⟩, drive_at m c ⟨k, hk⟩, ih]
  rfl

/-- The state before the `k`-th trip. -/
theorem state_at (hr : Rated m c) (d : Fin 2) (j : Fin 512) (s : Fin 16) : ∀ k ≤ 4096,
    (carried m c k (Proc.devRef .tc main_v78_4) : FVec Ideal S2x512x16 .f32) (ix3 d j s) = state (wts m c d) (padded m c d) k s j
  | 0, _ => start_read (after4 m c) d j s
  | k + 1, hk => by
    rw [carried_succ, STEP_main_v78_4]
    exact state_succ m c hr k hk d j s (state_at hr d j s k (by omega))

/-- The lines written before the `k`-th trip. -/
theorem lines_at (hr : Rated m c) (n : Fin 4096) (d : Fin 2) (j : Fin 512) : ∀ k ≤ 4096, n.val < k →
    (carried m c k (Proc.devRef .tc main_v78_5) : FVec Ideal S4096x2x512 .f32) (ix3 n d j)
      = ∑ s : Fin 16, cOut (wts m c d) (padded m c d) n.val s * state (wts m c d) (padded m c d) (n.val + 1) s j
  | 0, _, h => absurd h (Nat.not_lt_zero _)
  | k + 1, hk, h => by
    rw [carried_succ, STEP_main_v78_5]
    rw [line_read (carried m c k) ⟨k, hk⟩ (carried_counter m c k) _ _ _ rfl (carried_out m c k) rfl]
    by_cases e : n = ⟨k, hk⟩
    · rw [if_pos e]
      subst e
      refine Finset.sum_congr (M := EReal) rfl fun s _ => ?_
      rw [state_succ m c hr k hk d j s (state_at m c hr d j s k (by omega)), cOut_at]
      exact mul_comm _ _
    · rw [if_neg e]
      exact lines_at hr n d j k (by omega) (by
        have : n.val ≠ k := fun q => e (Fin.ext q)
        omega)

/-- What the reference's result is. -/
theorem result_at (hr : Rated m c) (d : Fin 2) (n : Fin 4096) (e : Fin 256) :
    (finalContents condOps preI bodyI postI 4096 m c (Proc.devRef .tc main_v92) : FVec Ideal S2x4096x256 .f32) (ix3 d n e)
      = out (wts m c d) (padded m c d) (gate (wts m c d) (inp m c d)) n.val e := by
  have cond (r : Ref sig .tc) (h : r ∉ condOps_W) :
      after condOps (atK m 4096 c) (Proc.devRef .tc r) = atK m 4096 c (Proc.devRef .tc r) := after_of_writes_sub _ _ condOps_writes h
  rw [show finalContents condOps preI bodyI postI 4096 m c = after hostOps0_5 (after condOps (atK m 4096 c)) from rfl]
  rw [out_read _ _ _ _ _ _
    ((cond main_v46 (by decide)).trans ((trips_keep m c main_v46 (by decide) 4096).trans ((keep5 m c main_v46 (by decide)).trans
      (keep4 m c main_v46 (by decide)))))
    ((cond main_v6 (by decide)).trans ((trips_keep m c main_v6 (by decide) 4096).trans ((keep5 m c main_v6 (by decide)).trans
      ((keep4 m c main_v6 (by decide)).trans ((keep3 m c main_v6 (by decide)).trans (keep2 m c main_v6 (by decide)))))))
    ((cond main_v78_5 (by decide)).trans ((atK_agree m c 4096) main_v78_5 (by decide)))
    ((cond main_arg8 (by decide)).trans ((trips_keep m c main_arg8 (by decide) 4096).trans (entry_keeps m c main_arg8 (by decide))))
    ((cond main_arg9 (by decide)).trans ((trips_keep m c main_arg9 (by decide) 4096).trans (entry_keeps m c main_arg9 (by decide))))]
  unfold out
  refine Finset.sum_congr (M := EReal) rfl fun j _ => ?_
  have hl := lines_at m c hr n d j 4096 le_rfl n.isLt
  unfold carried at hl
  rw [hl, act_at, gate_at]
  rfl

end Cert.ReferenceIdeal.Body

end
-- ==== Proof.Normalise.lean ====
module

public import Idealize.ShloMosaic.Lib.Pointwise
public import Idealize.ShloMosaic.Lib.Claim

@[expose] public section

noncomputable section

/-! The normalisation of a row of 256 numbers, and the gate between two numbers, over the extended reals. -/

namespace Cert.Norm

open Idealize.ShloMosaic

/-- The number of columns, as the programs' word for it reads. -/
def width : EReal := Ideal.ofBits .f32 0x43800000#32

/-- The small positive number under the root, as the programs' word for it reads. -/
def eps : EReal := Ideal.ofBits .f32 0x3727C5AC#32

theorem width_eq : width = ((256 : ℝ) : EReal) := by
  simp [width, Ideal.ofBits, Ideal.ieee, -EReal.coe_mul]
  norm_num

theorem eps_pos : 0 < eps := by
  have h : eps = ((10995116 / 1099511627776 : ℝ) : EReal) := by
    simp [eps, Ideal.ofBits, Ideal.ieee, -EReal.coe_mul]
    norm_num
  rw [h]
  exact_mod_cast (by norm_num : (0 : ℝ) < 10995116 / 1099511627776)

variable (v g b : Fin 256 → EReal)

/-- The mean of a row. -/
def mean : EReal := Ideal.div (∑ j, v j) width

/-- The mean square distance from the mean. -/
def spread : EReal := Ideal.div (∑ j, (v j - mean v) * (v j - mean v)) width

/-- Column `q` of the normalised row, scaled by `g` and shifted by `b`. -/
def normal (q : Fin 256) : EReal := Ideal.div (v q - mean v) (Ideal.sqrt (spread v + eps)) * g q + b q

theorem square_nonneg (x : EReal) : 0 ≤ x * x := by
  induction x using EReal.rec with
  | bot => simp
  | top => simp
  | coe r => exact_mod_cast mul_self_nonneg r

theorem spread_nonneg : 0 ≤ spread v := by
  unfold spread
  rw [width_eq, Ideal.div, if_neg (by norm_num)]
  refine EReal.mul_nonneg (Finset.sum_nonneg fun j _ => square_nonneg _) ?_
  exact EReal.inv_nonneg_of_nonneg (by norm_num)

/-- Multiplying by the reciprocal root of a positive number is dividing by its root. -/
theorem mul_rsqrt (x y : EReal) (h : 0 < y) : x * Ideal.rsqrt y = Ideal.div x (Ideal.sqrt y) := by
  induction y using EReal.rec with
  | bot => exact absurd h (by simp)
  | top => rw [Ideal.rsqrt_top, Ideal.sqrt_top, Ideal.div, if_neg (by simp), EReal.inv_top]
  | coe r =>
    have hr : 0 < r := by exact_mod_cast h
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe, if_neg (not_lt.mpr hr.le), Ideal.div, if_neg hs',
      EReal.coe_inv]

/-- The normalised column with the reciprocal root in place of the division. -/
theorem normal_rsqrt (q : Fin 256) : (v q - mean v) * Ideal.rsqrt (spread v + eps) * g q + b q = normal v g b q := by
  unfold normal
  rw [mul_rsqrt]
  refine lt_of_lt_of_le eps_pos ?_
  calc eps = 0 + eps := (zero_add _).symm
    _ ≤ spread v + eps := add_le_add (spread_nonneg v) le_rfl

/-- A sum over 512 columns is the sum over the first 256 and the sum over the last. -/
theorem sum_halves (f : Fin 512 → EReal) :
    ∑ i, f i = (∑ i : Fin 256, f ⟨i.val, by omega⟩) + ∑ i : Fin 256, f ⟨256 + i.val, by omega⟩ :=
  Fin.sum_univ_add (a := 256) (b := 256) f

end Cert.Norm

end
-- ==== Proof.Combine.Spec.lean ====
module

public import proofs.«01_k».proof.Proof.Normalise

@[expose] public section

noncomputable section

/-! What the gated combination of the two directions and the gated fusion of the two inputs compute, column by column. -/

namespace Cert.Norm

open Idealize.ShloMosaic Idealize.ShloMosaic.Tactic

/-- The gate of column `q`: the logistic function of a weighted sum of the columns of `f` and of those of `b`. -/
def gate (f b : Fin 256 → EReal) (w : FVec Ideal ⟨2, ![512, 256]⟩ .f32) (gb : FVec Ideal ⟨1, ![256]⟩ .f32) (q : Fin 256) : EReal :=
  Ideal.logistic ((∑ i : Fin 256, f i * w (ix2 ⟨i.val, by omega⟩ q)) + (∑ i : Fin 256, b i * w (ix2 ⟨256 + i.val, by omega⟩ q)) + gb (ix1 q))

/-- A row of the layer's result before its normalisation: the row of the input, and the two directions' rows in the gate's proportions. -/
def combined (x f b : Fin 256 → EReal) (w : FVec Ideal ⟨2, ![512, 256]⟩ .f32) (gb : FVec Ideal ⟨1, ![256]⟩ .f32) (q : Fin 256) : EReal :=
  x q + gate f b w gb q * f q + (1 - gate f b w gb q) * b q

/-- A row of the fusion before its normalisation: the two projections in the gate's proportions. -/
def fused (f b : Fin 256 → EReal) (w : FVec Ideal ⟨2, ![512, 256]⟩ .f32) (gb : FVec Ideal ⟨1, ![256]⟩ .f32) (q : Fin 256) : EReal :=
  gate f b w gb q * f q + (1 - gate f b w gb q) * b q

/-- The layer's result: the second direction is read from its last row to its first. -/
def layer (x : FVec Ideal ⟨2, ![4096, 256]⟩ .f32) (ys : FVec Ideal ⟨3, ![2, 4096, 256]⟩ .f32) (w : FVec Ideal ⟨2, ![512, 256]⟩ .f32)
    (gb g b : FVec Ideal ⟨1, ![256]⟩ .f32) (r : Fin 4096) (q : Fin 256) : EReal :=
  normal (combined (fun j => x (ix2 r j)) (fun j => ys (ix3 0 r j)) (fun j => ys (ix3 1 r.rev j)) w gb)
    (fun j => g (ix1 j)) (fun j => b (ix1 j)) q

/-- Row `r` of an input of `k` columns, projected to 256 columns. -/
def projected {k : ℕ} (a : FVec Ideal ⟨3, ![1, 4096, k]⟩ .f32) (w : FVec Ideal ⟨2, ![k, 256]⟩ .f32) (b : FVec Ideal ⟨1, ![256]⟩ .f32)
    (r : Fin 4096) (q : Fin 256) : EReal :=
  (∑ i : Fin k, a (ix3 0 r i) * w (ix2 i q)) + b (ix1 q)

/-- The fusion's result. -/
def fusion (vis : FVec Ideal ⟨3, ![1, 4096, 768]⟩ .f32) (aud : FVec Ideal ⟨3, ![1, 4096, 128]⟩ .f32) (wv : FVec Ideal ⟨2, ![768, 256]⟩ .f32)
    (bv : FVec Ideal ⟨1, ![256]⟩ .f32) (wa : FVec Ideal ⟨2, ![128, 256]⟩ .f32) (ba : FVec Ideal ⟨1, ![256]⟩ .f32)
    (w : FVec Ideal ⟨2, ![512, 256]⟩ .f32) (gb g b : FVec Ideal ⟨1, ![256]⟩ .f32) (r : Fin 4096) (q : Fin 256) : EReal :=
  normal (fused (projected vis wv bv r) (projected aud wa ba r) w gb) (fun j => g (ix1 j)) (fun j => b (ix1 j)) q

end Cert.Norm

end
-- ==== Proof.Combine.Kernel.lean ====
module

public import proofs.«01_k».proof.Proof.Combine.Spec
public import proofs.«01_k».proof.Proof.Gen.Kernel2Ideal.Value
public import Idealize.ShloMosaic.Lib.Pipeline.ValueKit

@[expose] public section

set_option maxRecDepth 16384

noncomputable section

/-! The gated combination's kernel: what a block of its result holds, and that the blocks make up the whole result. -/

namespace Cert.Kernel2Ideal.Body

open Cert.Kernel2Ideal Cert.Kernel2Ideal.Gen Cert.Kernel2Ideal.Value
open Idealize.ShloMosaic Idealize.ShloMosaic.TcCoe Idealize.ShloMosaic.Tactic Idealize.SL.Sem

variable (x f b : FVec Ideal S512x256 .f32) (wf wb : FVec Ideal S256x256 .f32) (gb g s : FVec Ideal S1x256 .f32)

/-- What a block of the result holds, at row `r` and column `q` of the block. -/
def cell (r : Fin 512) (q : Fin 256) : EReal :=
  Norm.normal (fun j => x (ix2 r j) + Ideal.logistic ((∑ i, f (ix2 r i) * wf (ix2 i j)) + (∑ i, b (ix2 r i) * wb (ix2 i j)) + gb (ix2 0 j)) * f (ix2 r j)
      + (1 - Ideal.logistic ((∑ i, f (ix2 r i) * wf (ix2 i j)) + (∑ i, b (ix2 r i) * wb (ix2 i j)) + gb (ix2 0 j))) * b (ix2 r j))
    (fun j => g (ix2 0 j)) (fun j => s (ix2 0 j)) q

/-- What the body mixes, before the normalisation. -/
theorem mixed_at (r : Fin 512) (q : Fin 256) : k0_pay2 (F := Ideal) f b wf wb gb x (ix2 r q)
    = x (ix2 r q) + Ideal.logistic ((∑ i, f (ix2 r i) * wf (ix2 i q)) + (∑ i, b (ix2 r i) * wb (ix2 i q)) + gb (ix2 0 q)) * f (ix2 r q)
      + (1 - Ideal.logistic ((∑ i, f (ix2 r i) * wf (ix2 i q)) + (∑ i, b (ix2 r i) * wb (ix2 i q)) + gb (ix2 0 q))) * b (ix2 r q) := by
  pointwise [k0_pay2]

/-- The mean that the body takes of a row. -/
theorem mean_at (r : Fin 512) : k0_pay5 (F := Ideal) f b wf wb gb x (ix2 r 0) = Norm.mean fun j => k0_pay2 (F := Ideal) f b wf wb gb x (ix2 r j) := by
  unfold k0_pay5
  generalize k0_pay2 (F := Ideal) f b wf wb gb x = v
  pointwise
  rfl

/-- The squared distances from it, summed. -/
theorem squares_at (r : Fin 512) : k0_pay6 (F := Ideal) f b wf wb gb x (ix2 r 0)
    = ∑ j, (k0_pay2 (F := Ideal) f b wf wb gb x (ix2 r j) - k0_pay5 (F := Ideal) f b wf wb gb x (ix2 r 0))
        * (k0_pay2 (F := Ideal) f b wf wb gb x (ix2 r j) - k0_pay5 (F := Ideal) f b wf wb gb x (ix2 r 0)) := by
  unfold k0_pay6
  generalize k0_pay5 (F := Ideal) f b wf wb gb x = mu
  generalize k0_pay2 (F := Ideal) f b wf wb gb x = v
  pointwise

/-- The last step of the body, entry by entry. -/
theorem last_at (v : FVec Ideal S512x256 .f32) (mu sq : FVec Ideal S512x1 .f32) (k : EReal) (r : Fin 512) (q : Fin 256) :
    k0_pay1 (F := Ideal) v (k0_pay3 g) (k0_pay4 s) mu sq k (ix2 r q)
      = (v (ix2 r q) - mu (ix2 r 0)) * Ideal.rsqrt (Ideal.div (sq (ix2 r 0)) k + Norm.eps) * g (ix2 0 q) + s (ix2 0 q) := by
  pointwise [k0_pay1, k0_pay3, k0_pay4]
  rfl

/-- The body reads each of its blocks whole. -/
theorem whole_rows (a : FVec Ideal S512x256 .f32) : View.ld (Val := Elt Ideal) (e' := .f32) a r0_0 = a := View.ld_unit_lit _ _ (by decide)
theorem whole_square (a : FVec Ideal S256x256 .f32) : View.ld (Val := Elt Ideal) (e' := .f32) a r0_1 = a := View.ld_unit_lit _ _ (by decide)
theorem whole_line (a : FVec Ideal S1x256 .f32) : View.ld (Val := Elt Ideal) (e' := .f32) a r0_2 = a := View.ld_unit_lit _ _ (by decide)

/-- The body leaves in the result's block what `cell` says. -/
theorem body_at (r : Fin 512) (q : Fin 256) : out0_8 (F := Ideal) x f b wf wb gb g s (ix2 r q) = cell x f b wf wb gb g s r q := by
  unfold out0_8
  rw [View.canon_cons_unit_lit _ _ _ (by decide)]
  rw [whole_rows x, whole_rows f, whole_rows b, whole_square wf, whole_square wb, whole_line gb, whole_line g, whole_line s]
  rw [last_at, squares_at, mean_at]
  refine (Norm.normal_rsqrt (fun j => k0_pay2 (F := Ideal) f b wf wb gb x (ix2 r j)) (fun j => g (ix2 0 j)) (fun j => s (ix2 0 j)) q).trans ?_
  unfold cell
  simp only [mixed_at]

/-- A block's row is the layer's row, when the blocks are the arrays' rows. -/
theorem cell_eq (r : Fin 512) (q : Fin 256) (X : FVec Ideal ⟨2, ![4096, 256]⟩ .f32) (Y : FVec Ideal ⟨3, ![2, 4096, 256]⟩ .f32)
    (W : FVec Ideal ⟨2, ![512, 256]⟩ .f32) (A G S : FVec Ideal ⟨1, ![256]⟩ .f32) (n : Fin 4096)
    (hx : ∀ j, x (ix2 r j) = X (ix2 n j)) (hf : ∀ j, f (ix2 r j) = Y (ix3 0 n j)) (hb : ∀ j, b (ix2 r j) = Y (ix3 1 n.rev j))
    (hwf : ∀ i j : Fin 256, wf (ix2 i j) = W (ix2 ⟨i.val, by omega⟩ j)) (hwb : ∀ i j : Fin 256, wb (ix2 i j) = W (ix2 ⟨256 + i.val, by omega⟩ j))
    (ha : ∀ j, gb (ix2 0 j) = A (ix1 j)) (hg : ∀ j, g (ix2 0 j) = G (ix1 j)) (hs : ∀ j, s (ix2 0 j) = S (ix1 j)) :
    cell x f b wf wb gb g s r q = Norm.layer X Y W A G S n q := by
  unfold cell
  simp only [hx, hf, hb, hwf, hwb, ha, hg, hs]
  rfl

variable (m : (ℓ : Loc nD τ sig) → Buf (Elt Ideal) ℓ) (ρ : Dev nD → PrngReg) (c : Dev nD)

/-- The layer's result, over the arguments as the launch finds them. -/
def result : FVec Ideal S4096x256 .f32 := fun y =>
  Norm.layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (y 0) (y 1)

/-- Grid point `t` has the coordinate `t`. -/
theorem coord (t : Fin cfg0.N) : (grid0.coords t 0).val = t.val := by
  have h : t.val < 8 := Nat.lt_of_lt_of_eq t.isLt N_0
  have e : (grid0.coords t 0).val = t.val / 1 % 8 := Pipeline.Grid.coords_val t 0 (by decide) rfl
  omega

/-- The windows of the rows at point `t`: block `t`. -/
theorem index_rows (t : Fin cfg0.N) : win0_0.index t = ![t.val, 0] := by
  have h : t.val < 8 := Nat.lt_of_lt_of_eq t.isLt N_0
  show cc0_transform_0 (grid0.coords t) = _
  unfold cc0_transform_0
  simp only [coord]
  have e : (BitVec.ofNat 32 t.val).toNat = t.val := by rw [BitVec.toNat_ofNat]; omega
  rw [e]; rfl

theorem index_1 (t : Fin cfg0.N) : win0_1.index t = ![t.val, 0] := index_rows t
theorem index_2 (t : Fin cfg0.N) : win0_2.index t = ![t.val, 0] := index_rows t
theorem index_8 (t : Fin cfg0.N) : win0_8.index t = ![t.val, 0] := index_rows t
/-- The windows of the weights: the whole array. -/
theorem index_3 (t : Fin cfg0.N) : win0_3.index t = ![0, 0] := rfl
theorem index_4 (t : Fin cfg0.N) : win0_4.index t = ![0, 0] := rfl
theorem index_5 (t : Fin cfg0.N) : win0_5.index t = ![0, 0] := rfl
theorem index_6 (t : Fin cfg0.N) : win0_6.index t = ![0, 0] := rfl
theorem index_7 (t : Fin cfg0.N) : win0_7.index t = ![0, 0] := rfl

variable (t : Fin cfg0.N)

section Rows

variable (r : Fin 512) (n : Fin 4096) (hn : n.val = 512 * t.val + r.val)
include hn

/-- What the rows' blocks hold. -/
theorem block_0 (j : Fin 256) : iblk m c 0 t (ix2 r j) = m ((c.tc : Thread nD τ).loc main_arg0) (ix2 n j) := by
  have e : iblk m c 0 t (ix2 r j) = V m c main_arg0 (ix2 n j) := by blk_ext [iblk, index_rows]
  rw [e]; entry_read; rfl

theorem block_1 (j : Fin 256) : iblk m c 1 t (ix2 r j) = m ((c.tc : Thread nD τ).loc main_arg1) (ix3 0 n j) := by
  have e : iblk m c 1 t (ix2 r j) = V m c main_v1 (ix2 n j) := by blk_ext [iblk, index_1]
  rw [e]; entry_read; pointwise

theorem block_2 (j : Fin 256) : iblk m c 2 t (ix2 r j) = m ((c.tc : Thread nD τ).loc main_arg1) (ix3 1 n.rev j) := by
  have e : iblk m c 2 t (ix2 r j) = V m c main_v4 (ix2 n j) := by blk_ext [iblk, index_2]
  rw [e]; entry_read; pointwise; rfl

end Rows

/-- What the weights' blocks hold. -/
theorem block_3 (i j : Fin 256) : iblk m c 3 t (ix2 i j) = m ((c.tc : Thread nD τ).loc main_arg2) (ix2 ⟨i.val, by omega⟩ j) := by
  have e : iblk m c 3 t (ix2 i j) = V m c main_v5 (ix2 i j) := by blk_ext [iblk, index_3]
  rw [e]; entry_read; pointwise

theorem block_4 (i j : Fin 256) : iblk m c 4 t (ix2 i j) = m ((c.tc : Thread nD τ).loc main_arg2) (ix2 ⟨256 + i.val, by omega⟩ j) := by
  have e : iblk m c 4 t (ix2 i j) = V m c main_v6 (ix2 i j) := by blk_ext [iblk, index_4]
  rw [e]; entry_read; pointwise

theorem block_5 (j : Fin 256) : iblk m c 5 t (ix2 0 j) = m ((c.tc : Thread nD τ).loc main_arg3) (ix1 j) := by
  have e : iblk m c 5 t (ix2 0 j) = V m c main_v7 (ix2 0 j) := by blk_ext [iblk, index_5]
  rw [e]; entry_read; pointwise

theorem block_6 (j : Fin 256) : iblk m c 6 t (ix2 0 j) = m ((c.tc : Thread nD τ).loc main_arg4) (ix1 j) := by
  have e : iblk m c 6 t (ix2 0 j) = V m c main_v8 (ix2 0 j) := by blk_ext [iblk, index_6]
  rw [e]; entry_read; pointwise

theorem block_7 (j : Fin 256) : iblk m c 7 t (ix2 0 j) = m ((c.tc : Thread nD τ).loc main_arg5) (ix1 j) := by
  have e : iblk m c 7 t (ix2 0 j) = V m c main_v9 (ix2 0 j) := by blk_ext [iblk, index_7]
  rw [e]; entry_read; pointwise

/-- What point `t` computes at row `r` of its block is row `n` of the layer's result. -/
theorem point_at (r : Fin 512) (n : Fin 4096) (hn : n.val = 512 * t.val + r.val) (q : Fin 256) :
    out0_8 (iblk m c 0 t) (iblk m c 1 t) (iblk m c 2 t) (iblk m c 3 t) (iblk m c 4 t) (iblk m c 5 t) (iblk m c 6 t) (iblk m c 7 t) (ix2 r q)
      = result m c (ix2 n q) := by
  rw [body_at]
  exact cell_eq _ _ _ _ _ _ _ _ r q _ _ _ _ _ _ n (block_0 m c t r n hn) (block_1 m c t r n hn) (block_2 m c t r n hn)
    (block_3 m c t) (block_4 m c t) (block_5 m c t) (block_6 m c t) (block_7 m c t)

omit t
/-- The result's blocks cover it, so the whole array is the layer's result. -/
theorem result_eq : (dats m 0 c).arrAt 8 cfg0.N = result m c := by
  refine (dats m 0 c).arrAt_eq_of_covers 8 _ (by decide +kernel) fun t hf y => ?_
  have ht : t.val < 8 := Nat.lt_of_lt_of_eq t.isLt N_0
  blk_simp
  rw [after0_8]
  have h0 : (y 0).val < 512 := (y 0).isLt
  have e0 : ((win0_8.blk t).view.emb y 0).val = 512 * t.val + (y 0).val := by blk_simp [index_8] <;> omega
  have e1 : ((win0_8.blk t).view.emb y 1).val = (y 1).val := by blk_simp [index_8]
  have h := point_at m c t (y 0) ⟨512 * t.val + (y 0).val, by omega⟩ rfl (y 1)
  have he : (win0_8.blk t).view.emb y = ix2 ⟨512 * t.val + (y 0).val, by omega⟩ (y 1) := by
    rw [eq_ix2 ((win0_8.blk t).view.emb y)]
    exact congrArg₂ (fun a b => ix2 a b) (Fin.ext e0) (Fin.ext e1)
  rw [he]
  exact (congrArg (out0_8 (iblk m c 0 t) (iblk m c 1 t) (iblk m c 2 t) (iblk m c 3 t) (iblk m c 4 t) (iblk m c 5 t) (iblk m c 6 t) (iblk m c 7 t)) (eq_ix2 y)).trans h

/-- The program leaves the layer's result in its result array. -/
theorem value : θ_run defs (onTc (τ := τ) (main (F := Ideal))) ⟨m, fun _ => 0, ρ⟩ (fun r => ∀ c : Dev nD,
    r.2.mem ((c.tc : Thread nD τ).loc main_v10) = result m c) :=
  (θ_run defs _ _).mono (fun r h c => (h c).1.trans (result_eq m c)) (run_blocks m ρ)

end Cert.Kernel2Ideal.Body

end
-- ==== Proof.Combine.Reference.lean ====
module

public import proofs.«01_k».proof.Proof.Combine.Spec
public import proofs.«01_k».proof.Proof.Gen.Reference2Ideal.Run

@[expose] public section

set_option maxRecDepth 16384

noncomputable section

namespace Cert.Reference2Ideal.Body

open Cert.Reference2Ideal Cert.Reference2Ideal.Gen Cert.Reference2Ideal.Value
open Idealize.ShloMosaic Idealize.ShloMosaic.TcCoe Idealize.ShloMosaic.Tactic

variable (m : (ℓ : Loc nD τ sig) → Buf (Elt Ideal) ℓ) (c : Dev nD)

set_option maxHeartbeats 2000000 in
/-- The reference of the combination computes the layer's result. -/
theorem result_at (r : Fin 4096) (q : Fin 256) :
    (res_main_v45 (F := Ideal) m c : FVec Ideal S4096x256 .f32) (ix2 r q)
      = Norm.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) r q := by
  unfold res_main_v45
  pointwise
  rfl

end Cert.Reference2Ideal.Body

end
-- ==== Proof.Fusion.Kernel.lean ====
module

public import proofs.«01_k».proof.Proof.Combine.Spec
public import proofs.«01_k».proof.Proof.Gen.Kernel3Ideal.Value
public import Idealize.ShloMosaic.Lib.Pipeline.ValueKit

@[expose] public section

set_option maxRecDepth 16384

noncomputable section

/-! The fusion's kernel: what a block of its result holds, and that the blocks make up the whole result. -/

namespace Cert.Kernel3Ideal.Body

open Cert.Kernel3Ideal Cert.Kernel3Ideal.Gen Cert.Kernel3Ideal.Value
open Idealize.ShloMosaic Idealize.ShloMosaic.TcCoe Idealize.ShloMosaic.Tactic Idealize.SL.Sem

variable (x0 : FVec Ideal S512x768 .f32) (x1 : FVec Ideal S512x128 .f32) (x2 : FVec Ideal S768x256 .f32) (x3 : FVec Ideal S1x256 .f32)
  (x4 : FVec Ideal S128x256 .f32) (x5 : FVec Ideal S1x256 .f32) (x6 x7 : FVec Ideal S256x256 .f32) (x8 x9 x10 : FVec Ideal S1x256 .f32)

/-- A row of a block, projected. -/
def part {k : ℕ} (a : FVec Ideal ⟨2, ![512, k]⟩ .f32) (w : FVec Ideal ⟨2, ![k, 256]⟩ .f32) (b : FVec Ideal S1x256 .f32) (r : Fin 512) (q : Fin 256) : EReal :=
  (∑ i : Fin k, a (ix2 r i) * w (ix2 i q)) + b (ix2 0 q)

/-- Two rows in the gate's proportions, the gate's weights in two halves. -/
def blend (f b : Fin 256 → EReal) (wf wb : FVec Ideal S256x256 .f32) (gb : FVec Ideal S1x256 .f32) (q : Fin 256) : EReal :=
  Ideal.logistic ((∑ i, f i * wf (ix2 i q)) + (∑ i, b i * wb (ix2 i q)) + gb (ix2 0 q)) * f q
    + (1 - Ideal.logistic ((∑ i, f i * wf (ix2 i q)) + (∑ i, b i * wb (ix2 i q)) + gb (ix2 0 q))) * b q

/-- What a block of the result holds, at row `r` and column `q` of the block. -/
def cell (r : Fin 512) (q : Fin 256) : EReal :=
  Norm.normal (blend (part x0 x2 x3 r) (part x1 x4 x5 r) x6 x7 x8) (fun j => x9 (ix2 0 j)) (fun j => x10 (ix2 0 j)) q

/-- What the body mixes, before the normalisation. -/
theorem mixed_at (r : Fin 512) (q : Fin 256) : k0_pay2 (F := Ideal) x0 x2 x3 x1 x4 x5 x6 x7 x8 (ix2 r q)
    = blend (part x0 x2 x3 r) (part x1 x4 x5 r) x6 x7 x8 q := by
  pointwise [k0_pay2, blend, part]

/-- The body's normalisation, entry by entry. -/
theorem last_at (v : FVec Ideal S512x256 .f32) (r : Fin 512) (q : Fin 256) :
    k0_pay1 (F := Ideal) v x9 x10 (ix2 r q) = (v (ix2 r q) - Norm.mean fun j => v (ix2 r j))
      * Ideal.rsqrt (Norm.spread (fun j => v (ix2 r j)) + Norm.eps) * x9 (ix2 0 q) + x10 (ix2 0 q) := by
  pointwise [k0_pay1]
  rfl

/-- The body reads each of its blocks whole. -/
theorem whole_0 (a : FVec Ideal S512x768 .f32) : View.ld (Val := Elt Ideal) (e' := .f32) a r0_0 = a := View.ld_unit_lit _ _ (by decide)
theorem whole_1 (a : FVec Ideal S768x256 .f32) : View.ld (Val := Elt Ideal) (e' := .f32) a r0_1 = a := View.ld_unit_lit _ _ (by decide)
theorem whole_2 (a : FVec Ideal S1x256 .f32) : View.ld (Val := Elt Ideal) (e' := .f32) a r0_2 = a := View.ld_unit_lit _ _ (by decide)
theorem whole_3 (a : FVec Ideal S512x128 .f32) : View.ld (Val := Elt Ideal) (e' := .f32) a r0_3 = a := View.ld_unit_lit _ _ (by decide)
theorem whole_4 (a : FVec Ideal S128x256 .f32) : View.ld (Val := Elt Ideal) (e' := .f32) a r0_4 = a := View.ld_unit_lit _ _ (by decide)
theorem whole_5 (a : FVec Ideal S256x256 .f32) : View.ld (Val := Elt Ideal) (e' := .f32) a r0_5 = a := View.ld_unit_lit _ _ (by decide)

/-- The body leaves in the result's block what `cell` says. -/
theorem body_at (r : Fin 512) (q : Fin 256) : out0_11 (F := Ideal) x0 x1 x2 x3 x4 x5 x6 x7 x8 x9 x10 (ix2 r q) = cell x0 x1 x2 x3 x4 x5 x6 x7 x8 x9 x10 r q := by
  unfold out0_11
  rw [View.canon_cons_unit_lit _ _ _ (by decide)]
  rw [whole_0 x0, whole_1 x2, whole_2 x3, whole_3 x1, whole_4 x4, whole_2 x5, whole_5 x6, whole_5 x7, whole_2 x8, whole_2 x9, whole_2 x10]
  rw [last_at]
  refine (Norm.normal_rsqrt (fun j => k0_pay2 (F := Ideal) x0 x2 x3 x1 x4 x5 x6 x7 x8 (ix2 r j)) (fun j => x9 (ix2 0 j)) (fun j => x10 (ix2 0 j)) q).trans ?_
  unfold cell
  simp only [mixed_at]

/-- A block's row is the fusion's row, when the blocks are the arrays' rows. -/
theorem cell_eq (r : Fin 512) (q : Fin 256) (V : FVec Ideal ⟨3, ![1, 4096, 768]⟩ .f32) (A : FVec Ideal ⟨3, ![1, 4096, 128]⟩ .f32)
    (WV : FVec Ideal ⟨2, ![768, 256]⟩ .f32) (BV : FVec Ideal ⟨1, ![256]⟩ .f32) (WA : FVec Ideal ⟨2, ![128, 256]⟩ .f32) (BA : FVec Ideal ⟨1, ![256]⟩ .f32)
    (W : FVec Ideal ⟨2, ![512, 256]⟩ .f32) (C G S : FVec Ideal ⟨1, ![256]⟩ .f32) (n : Fin 4096)
    (h0 : ∀ j, x0 (ix2 r j) = V (ix3 0 n j)) (h1 : ∀ j, x1 (ix2 r j) = A (ix3 0 n j)) (h2 : ∀ i j, x2 (ix2 i j) = WV (ix2 i j))
    (h3 : ∀ j, x3 (ix2 0 j) = BV (ix1 j)) (h4 : ∀ i j, x4 (ix2 i j) = WA (ix2 i j)) (h5 : ∀ j, x5 (ix2 0 j) = BA (ix1 j))
    (h6 : ∀ i j : Fin 256, x6 (ix2 i j) = W (ix2 ⟨i.val, by omega⟩ j)) (h7 : ∀ i j : Fin 256, x7 (ix2 i j) = W (ix2 ⟨256 + i.val, by omega⟩ j))
    (h8 : ∀ j, x8 (ix2 0 j) = C (ix1 j)) (h9 : ∀ j, x9 (ix2 0 j) = G (ix1 j)) (h10 : ∀ j, x10 (ix2 0 j) = S (ix1 j)) :
    cell x0 x1 x2 x3 x4 x5 x6 x7 x8 x9 x10 r q = Norm.fusion V A WV BV WA BA W C G S n q := by
  have e1 : part x0 x2 x3 r = Norm.projected V WV BV n := by
    funext j
    simp only [part, Norm.projected, h0, h2, h3]
  have e2 : part x1 x4 x5 r = Norm.projected A WA BA n := by
    funext j
    simp only [part, Norm.projected, h1, h4, h5]
  have e3 : ∀ f b : Fin 256 → EReal, blend f b x6 x7 x8 = Norm.fused f b W C := by
    intro f b
    funext j
    simp only [blend, Norm.fused, Norm.gate, h6, h7, h8]
  unfold cell Norm.fusion
  rw [e1, e2, e3]
  simp only [h9, h10]

variable (m : (ℓ : Loc nD τ sig) → Buf (Elt Ideal) ℓ) (ρ : Dev nD → PrngReg) (c : Dev nD)

/-- The fusion's result, over the arguments as the launch finds them. -/
def result : FVec Ideal S4096x256 .f32 := fun y =>
  Norm.fusion (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)

/-- Grid point `t` has the coordinate `t`. -/
theorem coord (t : Fin cfg0.N) : (grid0.coords t 0).val = t.val := by
  have h : t.val < 8 := Nat.lt_of_lt_of_eq t.isLt N_0
  have e : (grid0.coords t 0).val = t.val / 1 % 8 := Pipeline.Grid.coords_val t 0 (by decide) rfl
  omega

/-- The windows of the rows at point `t`: block `t`. -/
theorem index_0 (t : Fin cfg0.N) : win0_0.index t = ![t.val, 0] := by
  have h : t.val < 8 := Nat.lt_of_lt_of_eq t.isLt N_0
  show cc0_transform_0 (grid0.coords t) = _
  unfold cc0_transform_0
  simp only [coord]
  have e : (BitVec.ofNat 32 t.val).toNat = t.val := by rw [BitVec.toNat_ofNat]; omega
  rw [e]; rfl

theorem index_1 (t : Fin cfg0.N) : win0_1.index t = ![t.val, 0] := index_0 t
theorem index_11 (t : Fin cfg0.N) : win0_11.index t = ![t.val, 0] := index_0 t
/-- The windows of the weights: the whole array. -/
theorem index_2 (t : Fin cfg0.N) : win0_2.index t = ![0, 0] := rfl
theorem index_3 (t : Fin cfg0.N) : win0_3.index t = ![0, 0] := rfl
theorem index_4 (t : Fin cfg0.N) : win0_4.index t = ![0, 0] := rfl
theorem index_5 (t : Fin cfg0.N) : win0_5.index t = ![0, 0] := rfl
theorem index_6 (t : Fin cfg0.N) : win0_6.index t = ![0, 0] := rfl
theorem index_7 (t : Fin cfg0.N) : win0_7.index t = ![0, 0] := rfl
theorem index_8 (t : Fin cfg0.N) : win0_8.index t = ![0, 0] := rfl
theorem index_9 (t : Fin cfg0.N) : win0_9.index t = ![0, 0] := rfl
theorem index_10 (t : Fin cfg0.N) : win0_10.index t = ![0, 0] := rfl

variable (t : Fin cfg0.N)

/-- What the rows' blocks hold. -/
theorem block_0 (r : Fin 512) (n : Fin 4096) (hn : n.val = 512 * t.val + r.val) (j : Fin 768) :
    iblk m c 0 t (ix2 r j) = m ((c.tc : Thread nD τ).loc main_arg0) (ix3 0 n j) := by
  have e : iblk m c 0 t (ix2 r j) = V m c main_v0 (ix2 n j) := by blk_ext [iblk, index_0]
  rw [e]; entry_read; pointwise

theorem block_1 (r : Fin 512) (n : Fin 4096) (hn : n.val = 512 * t.val + r.val) (j : Fin 128) :
    iblk m c 1 t (ix2 r j) = m ((c.tc : Thread nD τ).loc main_arg1) (ix3 0 n j) := by
  have e : iblk m c 1 t (ix2 r j) = V m c main_v1 (ix2 n j) := by blk_ext [iblk, index_1]
  rw [e]; entry_read; pointwise

/-- What the weights' blocks hold. -/
theorem block_2 (i : Fin 768) (j : Fin 256) : iblk m c 2 t (ix2 i j) = m ((c.tc : Thread nD τ).loc main_arg2) (ix2 i j) := by
  have e : iblk m c 2 t (ix2 i j) = V m c main_arg2 (ix2 i j) := by blk_ext [iblk, index_2]
  rw [e]; entry_read; rfl

theorem block_3 (j : Fin 256) : iblk m c 3 t (ix2 0 j) = m ((c.tc : Thread nD τ).loc main_arg3) (ix1 j) := by
  have e : iblk m c 3 t (ix2 0 j) = V m c main_v2 (ix2 0 j) := by blk_ext [iblk, index_3]
  rw [e]; entry_read; pointwise

theorem block_4 (i : Fin 128) (j : Fin 256) : iblk m c 4 t (ix2 i j) = m ((c.tc : Thread nD τ).loc main_arg4) (ix2 i j) := by
  have e : iblk m c 4 t (ix2 i j) = V m c main_arg4 (ix2 i j) := by blk_ext [iblk, index_4]
  rw [e]; entry_read; rfl

theorem block_5 (j : Fin 256) : iblk m c 5 t (ix2 0 j) = m ((c.tc : Thread nD τ).loc main_arg5) (ix1 j) := by
  have e : iblk m c 5 t (ix2 0 j) = V m c main_v3 (ix2 0 j) := by blk_ext [iblk, index_5]
  rw [e]; entry_read; pointwise

theorem block_6 (i j : Fin 256) : iblk m c 6 t (ix2 i j) = m ((c.tc : Thread nD τ).loc main_arg6) (ix2 ⟨i.val, by omega⟩ j) := by
  have e : iblk m c 6 t (ix2 i j) = V m c main_v4 (ix2 i j) := by blk_ext [iblk, index_6]
  rw [e]; entry_read; pointwise

theorem block_7 (i j : Fin 256) : iblk m c 7 t (ix2 i j) = m ((c.tc : Thread nD τ).loc main_arg6) (ix2 ⟨256 + i.val, by omega⟩ j) := by
  have e : iblk m c 7 t (ix2 i j) = V m c main_v5 (ix2 i j) := by blk_ext [iblk, index_7]
  rw [e]; entry_read; pointwise

theorem block_8 (j : Fin 256) : iblk m c 8 t (ix2 0 j) = m ((c.tc : Thread nD τ).loc main_arg7) (ix1 j) := by
  have e : iblk m c 8 t (ix2 0 j) = V m c main_v6 (ix2 0 j) := by blk_ext [iblk, index_8]
  rw [e]; entry_read; pointwise

theorem block_9 (j : Fin 256) : iblk m c 9 t (ix2 0 j) = m ((c.tc : Thread nD τ).loc main_arg8) (ix1 j) := by
  have e : iblk m c 9 t (ix2 0 j) = V m c main_v7 (ix2 0 j) := by blk_ext [iblk, index_9]
  rw [e]; entry_read; pointwise

theorem block_10 (j : Fin 256) : iblk m c 10 t (ix2 0 j) = m ((c.tc : Thread nD τ).loc main_arg9) (ix1 j) := by
  have e : iblk m c 10 t (ix2 0 j) = V m c main_v8 (ix2 0 j) := by blk_ext [iblk, index_10]
  rw [e]; entry_read; pointwise

/-- What point `t` computes at row `r` of its block is row `n` of the fusion's result. -/
theorem point_at (r : Fin 512) (n : Fin 4096) (hn : n.val = 512 * t.val + r.val) (q : Fin 256) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r q)
      = result m c (ix2 n q) := by
  rw [body_at]
  exact cell_eq _ _ _ _ _ _ _ _ _ _ _ r q _ _ _ _ _ _ _ _ _ _ n (block_0 m c t r n hn) (block_1 m c t r n hn)
    (block_2 m c t) (block_3 m c t) (block_4 m c t) (block_5 m c t) (block_6 m c t) (block_7 m c t) (block_8 m c t) (block_9 m c t) (block_10 m c t)

omit t
/-- The result's blocks cover it, so the whole array is the fusion's result. -/
theorem result_eq : (dats m 0 c).arrAt 11 cfg0.N = result m c := by
  refine (dats m 0 c).arrAt_eq_of_covers 11 _ (by decide +kernel) fun t hf y => ?_
  have ht : t.val < 8 := Nat.lt_of_lt_of_eq t.isLt N_0
  blk_simp
  rw [after0_11]
  have h0 : (y 0).val < 512 := (y 0).isLt
  have e0 : ((win0_11.blk t).view.emb y 0).val = 512 * t.val + (y 0).val := by blk_simp [index_11] <;> omega
  have e1 : ((win0_11.blk t).view.emb y 1).val = (y 1).val := by blk_simp [index_11]
  have h := point_at m c t (y 0) ⟨512 * t.val + (y 0).val, by omega⟩ rfl (y 1)
  have he : (win0_11.blk t).view.emb y = ix2 ⟨512 * t.val + (y 0).val, by omega⟩ (y 1) := by
    rw [eq_ix2 ((win0_11.blk t).view.emb y)]
    exact congrArg₂ (fun a b => ix2 a b) (Fin.ext e0) (Fin.ext e1)
  rw [he]
  exact (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix2 y)).trans h

/-- The program leaves the fusion's result in its result array. -/
theorem value : θ_run defs (onTc (τ := τ) (main (F := Ideal))) ⟨m, fun _ => 0, ρ⟩ (fun r => ∀ c : Dev nD,
    r.2.mem ((c.tc : Thread nD τ).loc main_v9) = result m c) :=
  (θ_run defs _ _).mono (fun r h c => (h c).1.trans (result_eq m c)) (run_blocks m ρ)

end Cert.Kernel3Ideal.Body

end
-- ==== Proof.Fusion.Reference.lean ====
module

public import proofs.«01_k».proof.Proof.Combine.Spec
public import proofs.«01_k».proof.Proof.Gen.Reference3Ideal.Run

@[expose] public section

set_option maxRecDepth 16384

noncomputable section

namespace Cert.Reference3Ideal.Body

open Cert.Reference3Ideal Cert.Reference3Ideal.Gen Cert.Reference3Ideal.Value
open Idealize.ShloMosaic Idealize.ShloMosaic.TcCoe Idealize.ShloMosaic.Tactic

variable (m : (ℓ : Loc nD τ sig) → Buf (Elt Ideal) ℓ) (c : Dev nD)

/-- The first input, projected. -/
def visual (x : FVec Ideal S1x4096x768 .f32) (w : FVec Ideal S768x256 .f32) (b : FVec Ideal S256 .f32) : FVec Ideal S4096x256 .f32 :=
  addf (Host.dotGeneral (φ₁ := .f32) (φ₂ := .f32) dot_S4096x768_S768x256_S4096x256_1_0_0_1_n_n none (shapeCast _ x shapeCasts_S1x4096x768_S4096x768) w) (broadcastInDim S4096x256 ![0, 1] bcast_S1x256_S4096x256_0_1 (broadcastInDim S1x256 ![1] bcast_S256_S1x256_1 b))

/-- The first projection, entry by entry. -/
theorem visual_at (x : FVec Ideal S1x4096x768 .f32) (w : FVec Ideal S768x256 .f32) (b : FVec Ideal S256 .f32) (r : Fin 4096) (q : Fin 256) :
    visual x w b (ix2 r q) = Norm.projected x w b r q := by
  pointwise [visual, Norm.projected]

/-- The second input, projected. -/
def audio (x : FVec Ideal S1x4096x128 .f32) (w : FVec Ideal S128x256 .f32) (b : FVec Ideal S256 .f32) : FVec Ideal S4096x256 .f32 :=
  addf (Host.dotGeneral (φ₁ := .f32) (φ₂ := .f32) dot_S4096x128_S128x256_S4096x256_1_0_0_1_n_n none (shapeCast _ x shapeCasts_S1x4096x128_S4096x128) w) (broadcastInDim S4096x256 ![0, 1] bcast_S1x256_S4096x256_0_1 (broadcastInDim S1x256 ![1] bcast_S256_S1x256_1 b))

/-- The second projection, entry by entry. -/
theorem audio_at (x : FVec Ideal S1x4096x128 .f32) (w : FVec Ideal S128x256 .f32) (b : FVec Ideal S256 .f32) (r : Fin 4096) (q : Fin 256) :
    audio x w b (ix2 r q) = Norm.projected x w b r q := by
  pointwise [audio, Norm.projected]

/-- Two arrays in the gate's proportions. -/
def mixture (pv pa : FVec Ideal S4096x256 .f32) (w : FVec Ideal S512x256 .f32) (gb : FVec Ideal S256 .f32) : FVec Ideal S4096x256 .f32 :=
  addf (mulf (Host.divf (broadcastInDim S4096x256 ![] bcast_S_S4096x256 (constant S_ .f32 0x3F800000#32)) (addf (broadcastInDim S4096x256 ![] bcast_S_S4096x256 (constant S_ .f32 0x3F800000#32)) (Host.exp (Host.negf (addf (Host.dotGeneral (φ₁ := .f32) (φ₂ := .f32) dot_S4096x512_S512x256_S4096x256_1_0_0_1_n_n none (concatenate S4096x512 1 [⟨S4096x256, pv⟩, ⟨S4096x256, pa⟩] concatenates_S4096x256_S4096x256_S4096x512_d1) w) (broadcastInDim S4096x256 ![0, 1] bcast_S1x256_S4096x256_0_1 (broadcastInDim S1x256 ![1] bcast_S256_S1x256_1 gb))))))) pv) (mulf (subf (broadcastInDim S4096x256 ![] bcast_S_S4096x256 (constant S_ .f32 0x3F800000#32)) (Host.divf (broadcastInDim S4096x256 ![] bcast_S_S4096x256 (constant S_ .f32 0x3F800000#32)) (addf (broadcastInDim S4096x256 ![] bcast_S_S4096x256 (constant S_ .f32 0x3F800000#32)) (Host.exp (Host.negf (addf (Host.dotGeneral (φ₁ := .f32) (φ₂ := .f32) dot_S4096x512_S512x256_S4096x256_1_0_0_1_n_n none (concatenate S4096x512 1 [⟨S4096x256, pv⟩, ⟨S4096x256, pa⟩] concatenates_S4096x256_S4096x256_S4096x512_d1) w) (broadcastInDim S4096x256 ![0, 1] bcast_S1x256_S4096x256_0_1 (broadcastInDim S1x256 ![1] bcast_S256_S1x256_1 gb)))))))) pa)

/-- The mixture, entry by entry. -/
theorem mixture_at (pv pa : FVec Ideal S4096x256 .f32) (w : FVec Ideal S512x256 .f32) (gb : FVec Ideal S256 .f32) (r : Fin 4096) (q : Fin 256) :
    mixture pv pa w gb (ix2 r q) = Norm.fused (fun j => pv (ix2 r j)) (fun j => pa (ix2 r j)) w gb q := by
  pointwise [mixture]
  rfl

/-- The rows of an array, normalised. -/
def normalised (z : FVec Ideal S4096x256 .f32) (g b : FVec Ideal S256 .f32) : FVec Ideal S4096x256 .f32 :=
  addf (mulf (Host.divf (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32))))) (broadcastInDim S4096x256 ![0, 1] bcast_S4096x1_S4096x256_0_1 (Host.sqrt (addf (Host.divf (broadcastInDim S4096x1 ![0] bcast_S4096_S4096x1_0 (Host.reduceAdd (mulf (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32))))) (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32)))))) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x3727C5AC#32)))))) (broadcastInDim S4096x256 ![0, 1] bcast_S1x256_S4096x256_0_1 (broadcastInDim S1x256 ![1] bcast_S256_S1x256_1 g))) (broadcastInDim S4096x256 ![0, 1] bcast_S1x256_S4096x256_0_1 (broadcastInDim S1x256 ![1] bcast_S256_S1x256_1 b))

/-- The normalisation, entry by entry. -/
theorem normalised_at (z : FVec Ideal S4096x256 .f32) (g b : FVec Ideal S256 .f32) (r : Fin 4096) (q : Fin 256) :
    normalised z g b (ix2 r q) = Norm.normal (fun j => z (ix2 r j)) (fun j => g (ix1 j)) (fun j => b (ix1 j)) q := by
  pointwise [normalised]
  rfl

/-- The array that the reference leaves, by these steps. -/
theorem result_eq : res_main_v49 (F := Ideal) m c
    = normalised (mixture (visual (m ((c.tc : Thread nD τ).loc main_arg0)) (m ((c.tc : Thread nD τ).loc main_arg2)) (m ((c.tc : Thread nD τ).loc main_arg3))) (audio (m ((c.tc : Thread nD τ).loc main_arg1)) (m ((c.tc : Thread nD τ).loc main_arg4)) (m ((c.tc : Thread nD τ).loc main_arg5))) (m ((c.tc : Thread nD τ).loc main_arg6)) (m ((c.tc : Thread nD τ).loc main_arg7))) (m ((c.tc : Thread nD τ).loc main_arg8)) (m ((c.tc : Thread nD τ).loc main_arg9)) := rfl

/-- The reference of the fusion computes the fusion. -/
theorem result_at (r : Fin 4096) (q : Fin 256) :
    (res_main_v49 (F := Ideal) m c : FVec Ideal S4096x256 .f32) (ix2 r q)
      = Norm.fusion (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) r q := by
  rw [result_eq, normalised_at]
  simp only [mixture_at, visual_at, audio_at]
  rfl

end Cert.Reference3Ideal.Body

end
-- ==== Proof.Tail.Spec.lean ====
module

public import proofs.«01_k».proof.Proof.Normalise

@[expose] public section

noncomputable section

/-! The scores of a sequence of 4096 rows, over the extended reals: pooling at three scales, attention to 128 chosen rows, and the regressor. -/

namespace Cert.Tail

open Idealize.ShloMosaic

/-- The numbers a computation of the scores starts from. -/
structure Args where
  /-- The sequence. -/
  x : Fin 4096 → Fin 256 → EReal
  /-- The three scales' projections. -/
  pw0 : Fin 256 → Fin 256 → EReal
  pb0 : Fin 256 → EReal
  pw1 : Fin 256 → Fin 256 → EReal
  pb1 : Fin 256 → EReal
  pw2 : Fin 256 → Fin 256 → EReal
  pb2 : Fin 256 → EReal
  /-- The combination of the scales, and its normalisation. -/
  ca : Fin 256 → Fin 256 → EReal
  cb : Fin 256 → Fin 256 → EReal
  cc : Fin 256 → Fin 256 → EReal
  cs : Fin 256 → EReal
  cg : Fin 256 → EReal
  ch : Fin 256 → EReal
  /-- The chosen rows. -/
  idx : Fin 128 → BitVec 32
  /-- The attention's queries, keys and values, its result's projection, and the normalisation after it. -/
  qw : Fin 256 → Fin 256 → EReal
  qb : Fin 256 → EReal
  kw : Fin 256 → Fin 256 → EReal
  kb : Fin 256 → EReal
  vw : Fin 256 → Fin 256 → EReal
  vb : Fin 256 → EReal
  ow : Fin 256 → Fin 256 → EReal
  ob : Fin 256 → EReal
  og : Fin 256 → EReal
  oh : Fin 256 → EReal
  /-- The regressor: a hidden row, its normalisation, and the score. -/
  sw : Fin 256 → Fin 128 → EReal
  sb : Fin 128 → EReal
  sg : Fin 128 → EReal
  sh : Fin 128 → EReal
  tw : Fin 128 → EReal
  tb : EReal

/-- A row times a matrix, plus a bias. -/
def proj {k c : ℕ} (r : Fin k → EReal) (w : Fin k → Fin c → EReal) (b : Fin c → EReal) (q : Fin c) : EReal := (∑ i, r i * w i q) + b q

section Pools

variable (x : Fin 4096 → Fin 256 → EReal)

/-- The means of two neighbouring rows. -/
def mean2 (i : Fin 2048) (q : Fin 256) : EReal :=
  (x ⟨2 * i.val, by omega⟩ q + x ⟨2 * i.val + 1, by omega⟩ q) * Ideal.ofBits .f32 0x3F000000#32

/-- The means of two, brought back to 4096 rows by linear interpolation. -/
def up2 (n : Fin 4096) (q : Fin 256) : EReal :=
  if n.val % 2 = 0 then Ideal.ofBits .f32 0x3E800000#32 * mean2 x ⟨n.val / 2 - 1, by omega⟩ q + Ideal.ofBits .f32 0x3F400000#32 * mean2 x ⟨n.val / 2, by omega⟩ q
  else Ideal.ofBits .f32 0x3F400000#32 * mean2 x ⟨n.val / 2, by omega⟩ q + Ideal.ofBits .f32 0x3E800000#32 * mean2 x ⟨min (n.val / 2 + 1) 2047, by omega⟩ q

/-- The means of four neighbouring rows. -/
def mean4 (i : Fin 1024) (q : Fin 256) : EReal :=
  (x ⟨4 * i.val, by omega⟩ q + x ⟨4 * i.val + 1, by omega⟩ q + x ⟨4 * i.val + 2, by omega⟩ q + x ⟨4 * i.val + 3, by omega⟩ q) * Ideal.ofBits .f32 0x3E800000#32

/-- The means of four, brought back to 4096 rows by linear interpolation. -/
def up4 (n : Fin 4096) (q : Fin 256) : EReal :=
  if n.val % 4 = 0 then Ideal.ofBits .f32 0x3EC00000#32 * mean4 x ⟨n.val / 4 - 1, by omega⟩ q + Ideal.ofBits .f32 0x3F200000#32 * mean4 x ⟨n.val / 4, by omega⟩ q
  else if n.val % 4 = 1 then Ideal.ofBits .f32 0x3E000000#32 * mean4 x ⟨n.val / 4 - 1, by omega⟩ q + Ideal.ofBits .f32 0x3F600000#32 * mean4 x ⟨n.val / 4, by omega⟩ q
  else if n.val % 4 = 2 then Ideal.ofBits .f32 0x3F600000#32 * mean4 x ⟨n.val / 4, by omega⟩ q + Ideal.ofBits .f32 0x3E000000#32 * mean4 x ⟨min (n.val / 4 + 1) 1023, by omega⟩ q
  else Ideal.ofBits .f32 0x3F200000#32 * mean4 x ⟨n.val / 4, by omega⟩ q + Ideal.ofBits .f32 0x3EC00000#32 * mean4 x ⟨min (n.val / 4 + 1) 1023, by omega⟩ q

end Pools

section Heads

variable (qr : Fin 256 → EReal) (kk vv : Fin 128 → Fin 256 → EReal)

/-- Head `h`'s column `d` among the 256. -/
def col (h : Fin 4) (d : Fin 64) : Fin 256 := ⟨64 * h.val + d.val, by omega⟩

/-- How well a query fits key `j`, in head `h`. -/
def fit (h : Fin 4) (j : Fin 128) : EReal := (∑ d, qr (col h d) * kk j (col h d)) * Ideal.ofBits .f32 0x3E000000#32

/-- The best fit. -/
def best (h : Fin 4) : EReal := Finset.univ.fold max (Ideal.ofBits .f32 0xFF800000#32) fun j => fit qr kk h j

/-- The share of key `j` before the shares are made to add to one. -/
def share (h : Fin 4) (j : Fin 128) : EReal := Ideal.exp (fit qr kk h j - best qr kk h)

/-- What head `h` gathers in its column `d`. -/
def gathered (h : Fin 4) (d : Fin 64) : EReal := ∑ j, Ideal.div (share qr kk h j) (∑ i, share qr kk h i) * vv j (col h d)

/-- What head `h` adds to column `q` of the result. -/
def head (ow : Fin 256 → Fin 256 → EReal) (h : Fin 4) (q : Fin 256) : EReal := ∑ d, gathered qr kk vv h d * ow (col h d) q

end Heads

section Narrow

variable (v g b : Fin 128 → EReal)

/-- The number of columns of a hidden row, as the programs' word for it reads. -/
def width : EReal := Ideal.ofBits .f32 0x43000000#32

theorem width_eq : width = ((128 : ℝ) : EReal) := by
  simp [width, Ideal.ofBits, Ideal.ieee, -EReal.coe_mul]
  norm_num

/-- The mean of a hidden row. -/
def mean : EReal := Ideal.div (∑ j, v j) width

/-- The mean square distance from the mean. -/
def spread : EReal := Ideal.div (∑ j, (v j - mean v) * (v j - mean v)) width

/-- Column `q` of the normalised hidden row, scaled by `g` and shifted by `b`. -/
def normal (q : Fin 128) : EReal := Ideal.div (v q - mean v) (Ideal.sqrt (spread v + Norm.eps)) * g q + b q

theorem spread_nonneg : 0 ≤ spread v := by
  unfold spread
  rw [width_eq, Ideal.div, if_neg (by norm_num)]
  refine EReal.mul_nonneg (Finset.sum_nonneg fun j _ => Norm.square_nonneg _) ?_
  exact EReal.inv_nonneg_of_nonneg (by norm_num)

/-- The normalised column with the reciprocal root in place of the division. -/
theorem normal_rsqrt (q : Fin 128) : (v q - mean v) * Ideal.rsqrt (spread v + Norm.eps) * g q + b q = normal v g b q := by
  unfold normal
  rw [Norm.mul_rsqrt]
  refine lt_of_lt_of_le Norm.eps_pos ?_
  calc Norm.eps = 0 + Norm.eps := (zero_add _).symm
    _ ≤ spread v + Norm.eps := add_le_add (spread_nonneg v) le_rfl

end Narrow

section Rows

variable (A : Args) (n : Fin 4096)

/-- Row `n` of the three scales' combination, before the normalisation. -/
def mixed (q : Fin 256) : EReal :=
  max ((∑ i, proj (A.x n) A.pw0 A.pb0 i * A.ca i q) + (∑ i, proj (up2 A.x n) A.pw1 A.pb1 i * A.cb i q)
    + (∑ i, proj (up4 A.x n) A.pw2 A.pb2 i * A.cc i q) + A.cs q) 0

/-- Row `n` of the pooled sequence. -/
def pooled : Fin 256 → EReal := Norm.normal (mixed A n) A.cg A.ch

/-- The chosen rows of the pooled sequence. -/
def chosen (j : Fin 128) : Fin 256 → EReal := pooled A ⟨min (A.idx j).toInt.toNat 4095, by omega⟩

/-- The keys and the values. -/
def keys (j : Fin 128) : Fin 256 → EReal := proj (chosen A j) A.kw A.kb
def values (j : Fin 128) : Fin 256 → EReal := proj (chosen A j) A.vw A.vb

/-- What head `h` adds to row `n`. -/
def added (h : Fin 4) : Fin 256 → EReal := head (proj (pooled A n) A.qw A.qb) (keys A) (values A) A.ow h

/-- Row `n` after the attention, before the normalisation. -/
def attended (q : Fin 256) : EReal := A.ob q + added A n 0 q + added A n 1 q + added A n 2 q + added A n 3 q + pooled A n q

/-- The hidden row of the regressor, before its normalisation. -/
def hidden (q : Fin 128) : EReal := max (proj (Norm.normal (attended A n) A.og A.oh) A.sw A.sb q) 0

/-- The score of row `n`. -/
def score : EReal := Ideal.logistic ((∑ j, normal (hidden A n) A.sg A.sh j * A.tw j) + A.tb)

end Rows

/-- The numbers the scores start from, out of the arrays that hold them. -/
def fromArrays (a0 : FVec Ideal ⟨2, ![4096, 256]⟩ .f32) (a1 : IVec ⟨1, ![128]⟩ 32) (a2 : FVec Ideal ⟨3, ![3, 256, 256]⟩ .f32) (a3 : FVec Ideal ⟨2, ![3, 256]⟩ .f32) (a4 : FVec Ideal ⟨2, ![768, 256]⟩ .f32)
    (a5 : FVec Ideal ⟨1, ![256]⟩ .f32) (a6 : FVec Ideal ⟨1, ![256]⟩ .f32) (a7 : FVec Ideal ⟨1, ![256]⟩ .f32) (a8 : FVec Ideal ⟨3, ![3, 256, 256]⟩ .f32) (a9 : FVec Ideal ⟨2, ![3, 256]⟩ .f32)
    (a10 : FVec Ideal ⟨2, ![256, 256]⟩ .f32) (a11 : FVec Ideal ⟨1, ![256]⟩ .f32) (a12 : FVec Ideal ⟨1, ![256]⟩ .f32) (a13 : FVec Ideal ⟨1, ![256]⟩ .f32) (a14 : FVec Ideal ⟨2, ![256, 128]⟩ .f32)
    (a15 : FVec Ideal ⟨1, ![128]⟩ .f32) (a16 : FVec Ideal ⟨1, ![128]⟩ .f32) (a17 : FVec Ideal ⟨1, ![128]⟩ .f32) (a18 : FVec Ideal ⟨2, ![128, 1]⟩ .f32) (a19 : FVec Ideal ⟨1, ![1]⟩ .f32) : Args where
  x := fun n q => a0 (ix2 n q)
  pw0 := fun i q => a2 (ix3 0 i q)
  pb0 := fun q => a3 (ix2 0 q)
  pw1 := fun i q => a2 (ix3 1 i q)
  pb1 := fun q => a3 (ix2 1 q)
  pw2 := fun i q => a2 (ix3 2 i q)
  pb2 := fun q => a3 (ix2 2 q)
  ca := fun i q => a4 (ix2 ⟨i.val, by omega⟩ q)
  cb := fun i q => a4 (ix2 ⟨256 + i.val, by omega⟩ q)
  cc := fun i q => a4 (ix2 ⟨512 + i.val, by omega⟩ q)
  cs := fun q => a5 (ix1 q)
  cg := fun q => a6 (ix1 q)
  ch := fun q => a7 (ix1 q)
  idx := fun j => a1 (ix1 j)
  qw := fun i q => a8 (ix3 0 i q)
  qb := fun q => a9 (ix2 0 q)
  kw := fun i q => a8 (ix3 1 i q)
  kb := fun q => a9 (ix2 1 q)
  vw := fun i q => a8 (ix3 2 i q)
  vb := fun q => a9 (ix2 2 q)
  ow := fun i q => a10 (ix2 i q)
  ob := fun q => a11 (ix1 q)
  og := fun q => a12 (ix1 q)
  oh := fun q => a13 (ix1 q)
  sw := fun i q => a14 (ix2 i q)
  sb := fun q => a15 (ix1 q)
  sg := fun q => a16 (ix1 q)
  sh := fun q => a17 (ix1 q)
  tw := fun i => a18 (ix2 i 0)
  tb := a19 (ix1 0)

end Cert.Tail

end
-- ==== Proof.Tail.Kernel.lean ====
module

public import proofs.«01_k».proof.Proof.Tail.Spec
public import proofs.«01_k».proof.Proof.Gen.Kernel4Ideal.Skeleton
public import Idealize.ShloMosaic.Lib.Pipeline.ValueKit

@[expose] public section

set_option maxRecDepth 16384
set_option maxHeartbeats 1000000

noncomputable section

/-! The tail's kernel: what each stage of its body computes. -/

namespace Cert.Kernel4Ideal.Body

open Cert.Kernel4Ideal Cert.Kernel4Ideal.Gen
open Idealize.ShloMosaic Idealize.ShloMosaic.TcCoe Idealize.ShloMosaic.Tactic Idealize.SL.Sem

/-- An array's entries by row and column, and a row's by column. -/
def mat {a b : ℕ} (v : FVec Ideal ⟨2, ![a, b]⟩ .f32) (i : Fin a) (j : Fin b) : EReal := v (ix2 i j)
def row {b : ℕ} (v : FVec Ideal ⟨2, ![1, b]⟩ .f32) (j : Fin b) : EReal := v (ix2 0 j)

/-! The pooling at two scales. -/

/-- The means of two neighbouring rows, as the body forms them. -/
def mean2 (x : FVec Ideal S4096x256 .f32) : FVec Ideal S2048x256 .f32 :=
  mulf (addf
    (shapeCast S2048x256 (extractStridedSlice S2048x1x256 ![0, 0, 0] (shapeCast S2048x2x256 x shapeCasts_S4096x256_S2048x2x256) slices_S2048x2x256_o0_0_0_S2048x1x256) shapeCasts_S2048x1x256_S2048x256)
    (shapeCast S2048x256 (extractStridedSlice S2048x1x256 ![0, 1, 0] (shapeCast S2048x2x256 x shapeCasts_S4096x256_S2048x2x256) slices_S2048x2x256_o0_1_0_S2048x1x256) shapeCasts_S2048x1x256_S2048x256))
    (broadcast S2048x256 (Scalar.ofBits (F := Ideal) .f32 0x3F000000#32))

theorem mean2_at (x : FVec Ideal S4096x256 .f32) (i : Fin 2048) (q : Fin 256) : mean2 x (ix2 i q) = Tail.mean2 (mat x) i q := by
  pointwise [mean2, Tail.mean2, mat]
  simp only [Nat.mul_comm 2]

/-- The means before and after, the first and the last repeated. -/
def prev2 (v : FVec Ideal S2048x256 .f32) : FVec Ideal S2048x256 .f32 :=
  concatenate S2048x256 0 [⟨S1x256, extractStridedSlice S1x256 ![0, 0] v slices_S2048x256_o0_0_S1x256⟩,
    ⟨S2047x256, extractStridedSlice S2047x256 ![0, 0] v slices_S2048x256_o0_0_S2047x256⟩] concatenates_S1x256_S2047x256_S2048x256_d0

theorem prev2_at (v : FVec Ideal S2048x256 .f32) (i : Fin 2048) (q : Fin 256) : prev2 v (ix2 i q) = v (ix2 ⟨i.val - 1, by omega⟩ q) := by
  pointwise [prev2]
  split
  · exact congrArg (fun a => v (ix2 a q)) (Fin.ext (by show i.val = i.val - 1; omega))
  · rfl

def next2 (v : FVec Ideal S2048x256 .f32) : FVec Ideal S2048x256 .f32 :=
  concatenate S2048x256 0 [⟨S2047x256, extractStridedSlice S2047x256 ![1, 0] v slices_S2048x256_o1_0_S2047x256⟩,
    ⟨S1x256, extractStridedSlice S1x256 ![2047, 0] v slices_S2048x256_o2047_0_S1x256⟩] concatenates_S2047x256_S1x256_S2048x256_d0

theorem next2_at (v : FVec Ideal S2048x256 .f32) (i : Fin 2048) (q : Fin 256) : next2 v (ix2 i q) = v (ix2 ⟨min (i.val + 1) 2047, by omega⟩ q) := by
  pointwise [next2]
  split
  · exact congrArg (fun a => v (ix2 a q)) (Fin.ext (by show 1 + i.val = min (i.val + 1) 2047; omega))
  · exact congrArg (fun a => v (ix2 a q)) (Fin.ext (by show 2047 + (i.val - 2047) = min (i.val + 1) 2047; omega))

/-- Two arrays' rows in turn. -/
def stack2 (e o : FVec Ideal S2048x256 .f32) : FVec Ideal S4096x256 .f32 :=
  shapeCast S4096x256 (concatenate S2048x2x256 1 [⟨S2048x1x256, shapeCast S2048x1x256 e shapeCasts_S2048x256_S2048x1x256⟩,
    ⟨S2048x1x256, shapeCast S2048x1x256 o shapeCasts_S2048x256_S2048x1x256⟩] concatenates_S2048x1x256_S2048x1x256_S2048x2x256_d1) shapeCasts_S2048x2x256_S4096x256

theorem stack2_at (e o : FVec Ideal S2048x256 .f32) (n : Fin 4096) (q : Fin 256) :
    stack2 e o (ix2 n q) = if n.val % 2 = 0 then e (ix2 ⟨n.val / 2, by omega⟩ q) else o (ix2 ⟨n.val / 2, by omega⟩ q) := by
  pointwise [stack2]
  split <;> split <;> first | rfl | omega

/-- Two arrays in the given proportions. -/
def mix {s : Shape} (a b : BitVec 32) (u v : FVec Ideal s .f32) : FVec Ideal s .f32 :=
  addf (mulf (broadcast s (Scalar.ofBits (F := Ideal) .f32 a)) u) (mulf (broadcast s (Scalar.ofBits (F := Ideal) .f32 b)) v)

theorem mix_at {a b : ℕ} (c d : BitVec 32) (u v : FVec Ideal ⟨2, ![a, b]⟩ .f32) (i : Fin a) (j : Fin b) :
    mix c d u v (ix2 i j) = Ideal.ofBits .f32 c * u (ix2 i j) + Ideal.ofBits .f32 d * v (ix2 i j) := by
  pointwise [mix]

/-- The means of two, interpolated. -/
def up2 (x : FVec Ideal S4096x256 .f32) : FVec Ideal S4096x256 .f32 :=
  stack2 (mix 0x3E800000#32 0x3F400000#32 (prev2 (mean2 x)) (mean2 x)) (mix 0x3F400000#32 0x3E800000#32 (mean2 x) (next2 (mean2 x)))

theorem up2_at (x : FVec Ideal S4096x256 .f32) (n : Fin 4096) (q : Fin 256) : up2 x (ix2 n q) = Tail.up2 (mat x) n q := by
  unfold up2 Tail.up2
  rw [stack2_at]
  simp only [mix_at, prev2_at, next2_at, mean2_at]

/-- The second scale's projection is that of the interpolated means. -/
theorem second (x : FVec Ideal S4096x256 .f32) (w : FVec Ideal S256x256 .f32) (b : FVec Ideal S1x256 .f32) (n : Fin 4096) (q : Fin 256) :
    k0_pay5 (F := Ideal) (k0_pay3 (F := Ideal) x w) (k0_pay4 (F := Ideal) b) (ix2 n q) = Tail.proj (Tail.up2 (mat x) n) (mat w) (row b) q := by
  have e : k0_pay3 (F := Ideal) x w = matmul dot_S4096x256_S256x256_S4096x256_1_0_0_1_n_n none (up2 x)
     (shapeCast S256x256 w shapeCasts_S256x256_S256x256) (constant S4096x256 .f32 0x00000000#32) := rfl
  rw [e]
  pointwise [k0_pay5, k0_pay4, Tail.proj, mat, row]
  simp only [up2_at]

/-- The means of four neighbouring rows, as the body forms them. -/
def mean4 (x : FVec Ideal S4096x256 .f32) : FVec Ideal S1024x256 .f32 :=
  mulf (addf (addf (addf
    (shapeCast S1024x256 (extractStridedSlice S1024x1x256 ![0, 0, 0] (shapeCast S1024x4x256 x shapeCasts_S4096x256_S1024x4x256) slices_S1024x4x256_o0_0_0_S1024x1x256) shapeCasts_S1024x1x256_S1024x256)
    (shapeCast S1024x256 (extractStridedSlice S1024x1x256 ![0, 1, 0] (shapeCast S1024x4x256 x shapeCasts_S4096x256_S1024x4x256) slices_S1024x4x256_o0_1_0_S1024x1x256) shapeCasts_S1024x1x256_S1024x256))
    (shapeCast S1024x256 (extractStridedSlice S1024x1x256 ![0, 2, 0] (shapeCast S1024x4x256 x shapeCasts_S4096x256_S1024x4x256) slices_S1024x4x256_o0_2_0_S1024x1x256) shapeCasts_S1024x1x256_S1024x256))
    (shapeCast S1024x256 (extractStridedSlice S1024x1x256 ![0, 3, 0] (shapeCast S1024x4x256 x shapeCasts_S4096x256_S1024x4x256) slices_S1024x4x256_o0_3_0_S1024x1x256) shapeCasts_S1024x1x256_S1024x256))
    (broadcast S1024x256 (Scalar.ofBits (F := Ideal) .f32 0x3E800000#32))

theorem mean4_at (x : FVec Ideal S4096x256 .f32) (i : Fin 1024) (q : Fin 256) : mean4 x (ix2 i q) = Tail.mean4 (mat x) i q := by
  pointwise [mean4, Tail.mean4, mat]
  simp only [Nat.mul_comm 4]

def prev4 (v : FVec Ideal S1024x256 .f32) : FVec Ideal S1024x256 .f32 :=
  concatenate S1024x256 0 [⟨S1x256, extractStridedSlice S1x256 ![0, 0] v slices_S1024x256_o0_0_S1x256⟩,
    ⟨S1023x256, extractStridedSlice S1023x256 ![0, 0] v slices_S1024x256_o0_0_S1023x256⟩] concatenates_S1x256_S1023x256_S1024x256_d0

theorem prev4_at (v : FVec Ideal S1024x256 .f32) (i : Fin 1024) (q : Fin 256) : prev4 v (ix2 i q) = v (ix2 ⟨i.val - 1, by omega⟩ q) := by
  pointwise [prev4]
  split
  · exact congrArg (fun a => v (ix2 a q)) (Fin.ext (by show i.val = i.val - 1; omega))
  · rfl

def next4 (v : FVec Ideal S1024x256 .f32) : FVec Ideal S1024x256 .f32 :=
  concatenate S1024x256 0 [⟨S1023x256, extractStridedSlice S1023x256 ![1, 0] v slices_S1024x256_o1_0_S1023x256⟩,
    ⟨S1x256, extractStridedSlice S1x256 ![1023, 0] v slices_S1024x256_o1023_0_S1x256⟩] concatenates_S1023x256_S1x256_S1024x256_d0

theorem next4_at (v : FVec Ideal S1024x256 .f32) (i : Fin 1024) (q : Fin 256) : next4 v (ix2 i q) = v (ix2 ⟨min (i.val + 1) 1023, by omega⟩ q) := by
  pointwise [next4]
  split
  · exact congrArg (fun a => v (ix2 a q)) (Fin.ext (by show 1 + i.val = min (i.val + 1) 1023; omega))
  · exact congrArg (fun a => v (ix2 a q)) (Fin.ext (by show 1023 + (i.val - 1023) = min (i.val + 1) 1023; omega))

/-- Four arrays' rows in turn. -/
def stack4 (a b c d : FVec Ideal S1024x256 .f32) : FVec Ideal S4096x256 .f32 :=
  shapeCast S4096x256 (concatenate S1024x4x256 1 [⟨S1024x1x256, shapeCast S1024x1x256 a shapeCasts_S1024x256_S1024x1x256⟩,
    ⟨S1024x1x256, shapeCast S1024x1x256 b shapeCasts_S1024x256_S1024x1x256⟩, ⟨S1024x1x256, shapeCast S1024x1x256 c shapeCasts_S1024x256_S1024x1x256⟩,
    ⟨S1024x1x256, shapeCast S1024x1x256 d shapeCasts_S1024x256_S1024x1x256⟩] concatenates_S1024x1x256_S1024x1x256_S1024x1x256_S1024x1x256_S1024x4x256_d1) shapeCasts_S1024x4x256_S4096x256

theorem stack4_at (a b c d : FVec Ideal S1024x256 .f32) (n : Fin 4096) (q : Fin 256) :
    stack4 a b c d (ix2 n q) = if n.val % 4 = 0 then a (ix2 ⟨n.val / 4, by omega⟩ q) else if n.val % 4 = 1 then b (ix2 ⟨n.val / 4, by omega⟩ q)
      else if n.val % 4 = 2 then c (ix2 ⟨n.val / 4, by omega⟩ q) else d (ix2 ⟨n.val / 4, by omega⟩ q) := by
  pointwise [stack4]
  have h : n.val % 4 = 0 ∨ n.val % 4 = 1 ∨ n.val % 4 = 2 ∨ n.val % 4 = 3 := by omega
  rcases h with h | h | h | h <;> simp [h]

/-- The means of four, interpolated, are the fourth payload. -/
theorem up4_at (x : FVec Ideal S4096x256 .f32) (n : Fin 4096) (q : Fin 256) : k0_pay6 (F := Ideal) x (ix2 n q) = Tail.up4 (mat x) n q := by
  have e : k0_pay6 (F := Ideal) x = stack4 (mix 0x3EC00000#32 0x3F200000#32 (prev4 (mean4 x)) (mean4 x)) (mix 0x3E000000#32 0x3F600000#32 (prev4 (mean4 x)) (mean4 x))
    (mix 0x3F600000#32 0x3E000000#32 (mean4 x) (next4 (mean4 x))) (mix 0x3F200000#32 0x3EC00000#32 (mean4 x) (next4 (mean4 x))) := rfl
  rw [e, stack4_at]
  unfold Tail.up4
  simp only [mix_at, prev4_at, next4_at, mean4_at]

/-- The first scale's projection. -/
theorem first (x : FVec Ideal S4096x256 .f32) (w : FVec Ideal S256x256 .f32) (b : FVec Ideal S1x256 .f32) (n : Fin 4096) (q : Fin 256) :
    k0_pay2 (F := Ideal) x w b (ix2 n q) = Tail.proj (mat x n) (mat w) (row b) q := by
  pointwise [k0_pay2, Tail.proj, mat, row]

/-- The combination of the three scales. -/
theorem combined (u v y : FVec Ideal S4096x256 .f32) (w : FVec Ideal S256x256 .f32) (b : FVec Ideal S1x256 .f32) (ca cb cc : FVec Ideal S256x256 .f32) (cs : FVec Ideal S1x256 .f32)
    (n : Fin 4096) (q : Fin 256) :
    k0_pay8 (F := Ideal) u v y (k0_pay7 (F := Ideal) w) b ca cb cc cs (ix2 n q)
      = max ((∑ i, u (ix2 n i) * ca (ix2 i q)) + (∑ i, v (ix2 n i) * cb (ix2 i q)) + (∑ i, Tail.proj (mat y n) (mat w) (row b) i * cc (ix2 i q)) + cs (ix2 0 q)) 0 := by
  pointwise [k0_pay8, k0_pay7, Tail.proj, mat, row]

/-- The normalisation of a whole array, entry by entry. -/
theorem pooled_at (u v y : FVec Ideal S4096x256 .f32) (w : FVec Ideal S256x256 .f32) (b : FVec Ideal S1x256 .f32) (ca cb cc : FVec Ideal S256x256 .f32) (cs g s : FVec Ideal S1x256 .f32)
    (z : FVec Ideal S4096x256 .f32) (hz : z = k0_pay8 (F := Ideal) u v y w b ca cb cc cs) (n : Fin 4096) (q : Fin 256) :
    k0_pay13 (F := Ideal) z (k0_pay9 (F := Ideal) g) (k0_pay10 (F := Ideal) s) (k0_pay11 (F := Ideal) u v y w b ca cb cc cs)
      (k0_pay12 (F := Ideal) u v y w b ca cb cc cs) (ix2 n q) = Norm.normal (mat z n) (row g) (row s) q := by
  rw [← Norm.normal_rsqrt]
  unfold k0_pay12 k0_pay11
  rw [← hz]
  pointwise [k0_pay13, k0_pay9, k0_pay10]
  rfl

/-- A row number below 4096 is the row's word read as a signed number. -/
theorem row_word (i : Fin 4096) (w : BitVec 32) (h0 : 0 ≤ w.toInt) (h1 : w.toInt < 4096) :
    BitVec.ofNat 32 i.val = w ↔ i = ⟨min w.toInt.toNat 4095, by omega⟩ := by
  have hi := i.isLt
  have ti : (BitVec.ofNat 32 i.val).toInt = i.val := by
    rw [BitVec.toInt_ofNat']
    simp only [Int.bmod_def]
    omega
  rw [← BitVec.toInt_inj, ti, Fin.ext_iff]
  constructor <;> intro e <;> simp only at * <;> omega

section Chosen

variable (z : FVec Ideal S4096x256 .f32) (g s : FVec Ideal S1x256 .f32) (mu va : FVec Ideal S4096x1 .f32) (id : IVec S128x1 32)

/-- The rows that the comparison with the row numbers picks. -/
theorem chosen_at (j : Fin 128) (q : Fin 256) (h0 : 0 ≤ (id (ix2 j 0)).toInt) (h1 : (id (ix2 j 0)).toInt < 4096) :
    k0_pay14 (F := Ideal) z g s mu va id (ix2 j q)
      = k0_pay13 (F := Ideal) z g s mu va (ix2 ⟨min (id (ix2 j 0)).toInt.toNat 4095, by omega⟩ q) := by
  unfold k0_pay14
  generalize k0_pay13 (F := Ideal) z g s mu va = y
  pointwise
  have hot (a b : BitVec 32) : FloatOps.sitofp (F := Ideal) FTy.f32 (BitVec.setWidth 32 (IntOp.cmpi .eq a b)) = if a = b then 1 else 0 := by
    by_cases e : a = b
    · subst e
      have t : BitVec.setWidth 32 (IntOp.cmpi .eq a a) = 1#32 := by simp [IntOp.cmpi]
      rw [t, if_pos rfl]
      show (((1#32 : BitVec 32).toInt : ℝ) : EReal) = 1
      simp
    · have t : BitVec.setWidth 32 (IntOp.cmpi .eq a b) = 0#32 := by
        have : (a == b) = false := by simpa using e
        simp [IntOp.cmpi, this]
      rw [t, if_neg e]
      show (((0#32 : BitVec 32).toInt : ℝ) : EReal) = 0
      simp
  have same (i : Fin 4096) := row_word i (id (ix2 j 0)) h0 h1
  rw [Finset.sum_eq_single ⟨min (id (ix2 j 0)).toInt.toNat 4095, by omega⟩]
  · rw [hot, if_pos ((same _).2 rfl), one_mul]
  · intro i _ ne
    rw [hot, if_neg fun e => ne ((same i).1 e), zero_mul]
  · intro no
    exact absurd (Finset.mem_univ _) no

end Chosen

/-- The queries, the keys and the values. -/
theorem queries_at (z : FVec Ideal S4096x256 .f32) (g s : FVec Ideal S1x256 .f32) (mu va : FVec Ideal S4096x1 .f32) (w : FVec Ideal S256x256 .f32) (b : FVec Ideal S1x256 .f32)
    (n : Fin 4096) (q : Fin 256) : k0_pay15 (F := Ideal) z g s mu va w b (ix2 n q) = Tail.proj (mat (k0_pay13 (F := Ideal) z g s mu va) n) (mat w) (row b) q := by
  pointwise [k0_pay15, Tail.proj, mat, row]

theorem keys_at (z : FVec Ideal S4096x256 .f32) (g s : FVec Ideal S1x256 .f32) (mu va : FVec Ideal S4096x1 .f32) (id : IVec S128x1 32) (w : FVec Ideal S256x256 .f32) (b : FVec Ideal S1x256 .f32)
    (j : Fin 128) (q : Fin 256) : k0_pay16 (F := Ideal) z g s mu va id w b (ix2 j q) = Tail.proj (mat (k0_pay14 (F := Ideal) z g s mu va id) j) (mat w) (row b) q := by
  pointwise [k0_pay16, Tail.proj, mat, row]

theorem values_at (z : FVec Ideal S4096x256 .f32) (g s : FVec Ideal S1x256 .f32) (mu va : FVec Ideal S4096x1 .f32) (id : IVec S128x1 32) (w : FVec Ideal S256x256 .f32) (b : FVec Ideal S1x256 .f32)
    (j : Fin 128) (q : Fin 256) : k0_pay17 (F := Ideal) z g s mu va id w b (ix2 j q) = Tail.proj (mat (k0_pay14 (F := Ideal) z g s mu va id) j) (mat w) (row b) q := by
  pointwise [k0_pay17, Tail.proj, mat, row]

section Heads

variable (qs : FVec Ideal S4096x256 .f32) (ks vs : FVec Ideal S128x256 .f32)

/-- One head's work, from its columns of the queries, the keys and the values. -/
def headOf (a : FVec Ideal S4096x64 .f32) (b c : FVec Ideal S128x64 .f32) (w : FVec Ideal S64x256 .f32) : FVec Ideal S4096x256 .f32 :=
  have v174 := mulf (matmul dot_S4096x64_S128x64_S4096x128_1_1_0_0_n_n none a b (constant S4096x128 .f32 0x00000000#32)) (broadcast S4096x128 (Scalar.ofBits (F := Ideal) .f32 0x3E000000#32))
  have v180 := exp (subf v174 (broadcastTo S4096x128 (shapeCast S4096x1 (multiReduction .maximumf [1] S4096 v174 0xFF800000#32 reduces_S4096x128_S4096 (.inl rfl) rfl) shapeCasts_S4096_S4096x1) broadcasts_S4096x1_S4096x128))
  have v184 := divf v180 (broadcastTo S4096x128 (shapeCast S4096x1 (multiReduction .add [1] S4096 v180 0x00000000#32 reduces_S4096x128_S4096 (.inl rfl) rfl) shapeCasts_S4096_S4096x1) broadcasts_S4096x1_S4096x128)
  matmul dot_S4096x64_S64x256_S4096x256_1_0_0_1_n_n none (matmul dot_S4096x128_S128x64_S4096x64_1_0_0_1_n_n none v184 c (constant S4096x64 .f32 0x00000000#32)) w (constant S4096x256 .f32 0x00000000#32)

theorem headOf_at (a : FVec Ideal S4096x64 .f32) (b c : FVec Ideal S128x64 .f32) (w : FVec Ideal S64x256 .f32) (h : Fin 4) (ow : Fin 256 → Fin 256 → EReal) (n : Fin 4096) (q : Fin 256)
    (ha : ∀ d, a (ix2 n d) = qs (ix2 n (Tail.col h d))) (hb : ∀ j d, b (ix2 j d) = ks (ix2 j (Tail.col h d))) (hc : ∀ j d, c (ix2 j d) = vs (ix2 j (Tail.col h d)))
    (hw : ∀ d q, w (ix2 d q) = ow (Tail.col h d) q) :
    headOf a b c w (ix2 n q) = Tail.head (mat qs n) (mat ks) (mat vs) ow h q := by
  pointwise [headOf]
  simp only [ha, hb, hc, hw]
  rfl

theorem heads01 (b : FVec Ideal S1x256 .f32) (w0 w1 : FVec Ideal S64x256 .f32) (ow : Fin 256 → Fin 256 → EReal) (n : Fin 4096) (q : Fin 256)
    (h0 : ∀ d q, w0 (ix2 d q) = ow (Tail.col 0 d) q) (h1 : ∀ d q, w1 (ix2 d q) = ow (Tail.col 1 d) q) :
    k0_pay18 (F := Ideal) qs ks vs b w0 w1 (ix2 n q) = b (ix2 0 q) + Tail.head (mat qs n) (mat ks) (mat vs) ow 0 q + Tail.head (mat qs n) (mat ks) (mat vs) ow 1 q := by
  have e : k0_pay18 (F := Ideal) qs ks vs b w0 w1 = addf (addf (broadcastTo S4096x256 (shapeCast S1x256 b shapeCasts_S1x256_S1x256) broadcasts_S1x256_S4096x256)
    (headOf (extractStridedSlice S4096x64 ![0, 0] qs slices_S4096x256_o0_0_S4096x64) (extractStridedSlice S128x64 ![0, 0] ks slices_S128x256_o0_0_S128x64)
      (extractStridedSlice S128x64 ![0, 0] vs slices_S128x256_o0_0_S128x64) w0))
    (headOf (extractStridedSlice S4096x64 ![0, 64] qs slices_S4096x256_o0_64_S4096x64) (extractStridedSlice S128x64 ![0, 64] ks slices_S128x256_o0_64_S128x64)
      (extractStridedSlice S128x64 ![0, 64] vs slices_S128x256_o0_64_S128x64) w1) := rfl
  rw [e, addf_apply, addf_apply, headOf_at qs ks vs _ _ _ w0 0 ow n q ?_ ?_ ?_ h0, headOf_at qs ks vs _ _ _ w1 1 ow n q ?_ ?_ ?_ h1]
  · pointwise
  all_goals (intros; pointwise [Tail.col])

theorem heads23 (y o : FVec Ideal S4096x256 .f32) (w2 w3 : FVec Ideal S64x256 .f32) (ow : Fin 256 → Fin 256 → EReal) (n : Fin 4096) (q : Fin 256)
    (h2 : ∀ d q, w2 (ix2 d q) = ow (Tail.col 2 d) q) (h3 : ∀ d q, w3 (ix2 d q) = ow (Tail.col 3 d) q) :
    k0_pay21 (F := Ideal) y qs ks vs o (k0_pay19 (F := Ideal) qs) (k0_pay20 (F := Ideal) ks) w2 w3 (ix2 n q)
      = o (ix2 n q) + Tail.head (mat qs n) (mat ks) (mat vs) ow 2 q + Tail.head (mat qs n) (mat ks) (mat vs) ow 3 q + y (ix2 n q) := by
  have e : k0_pay21 (F := Ideal) y qs ks vs o (k0_pay19 (F := Ideal) qs) (k0_pay20 (F := Ideal) ks) w2 w3 = addf (addf (addf o
    (headOf (extractStridedSlice S4096x64 ![0, 128] qs slices_S4096x256_o0_128_S4096x64) (extractStridedSlice S128x64 ![0, 128] ks slices_S128x256_o0_128_S128x64)
      (extractStridedSlice S128x64 ![0, 128] vs slices_S128x256_o0_128_S128x64) w2))
    (headOf (extractStridedSlice S4096x64 ![0, 192] qs slices_S4096x256_o0_192_S4096x64) (extractStridedSlice S128x64 ![0, 192] ks slices_S128x256_o0_192_S128x64)
      (extractStridedSlice S128x64 ![0, 192] vs slices_S128x256_o0_192_S128x64) w3)) y := rfl
  rw [e, addf_apply, addf_apply, addf_apply, headOf_at qs ks vs _ _ _ w2 2 ow n q ?_ ?_ ?_ h2, headOf_at qs ks vs _ _ _ w3 3 ow n q ?_ ?_ ?_ h3]
  · pointwise
  all_goals (intros; pointwise [Tail.col])

end Heads

/-- The hidden row, before its normalisation. -/
theorem hidden_at (v : FVec Ideal S4096x256 .f32) (g s : FVec Ideal S1x256 .f32) (w : FVec Ideal S256x128 .f32) (b : FVec Ideal S1x128 .f32) (n : Fin 4096) (q : Fin 128) :
    k0_pay23 (F := Ideal) v (k0_pay22 (F := Ideal) g) s w b (ix2 n q) = max (Tail.proj (Norm.normal (mat v n) (row g) (row s)) (mat w) (row b) q) 0 := by
  have e : ∀ i, Norm.normal (mat v n) (row g) (row s) i = (v (ix2 n i) - Norm.mean (mat v n)) * Ideal.rsqrt (Norm.spread (mat v n) + Norm.eps) * g (ix2 0 i) + s (ix2 0 i) :=
    fun i => (Norm.normal_rsqrt (mat v n) (row g) (row s) i).symm
  unfold Tail.proj
  simp only [e]
  pointwise [k0_pay23, k0_pay22, mat, row]
  rfl

/-- The last normalisation, the weighted sum, and the score. -/
theorem score_at (v : FVec Ideal S4096x256 .f32) (g s : FVec Ideal S1x256 .f32) (w : FVec Ideal S256x128 .f32) (b sg sh tw : FVec Ideal S1x128 .f32) (tb : FVec Ideal S1x1 .f32)
    (z : FVec Ideal S4096x128 .f32) (hz : z = k0_pay23 (F := Ideal) v g s w b) (n : Fin 4096) :
    k0_pay1 (F := Ideal) z (k0_pay24 (F := Ideal) sg) (k0_pay25 (F := Ideal) sh) (k0_pay26 (F := Ideal) v g s w b) (k0_pay27 (F := Ideal) v g s w b) tw tb (ix2 n 0)
      = Ideal.logistic ((∑ j, Tail.normal (mat z n) (row sg) (row sh) j * tw (ix2 0 j)) + tb (ix2 0 0)) := by
  have e : ∀ j, Tail.normal (mat z n) (row sg) (row sh) j = (z (ix2 n j) - Tail.mean (mat z n)) * Ideal.rsqrt (Tail.spread (mat z n) + Norm.eps) * sg (ix2 0 j) + sh (ix2 0 j) :=
    fun j => (Tail.normal_rsqrt (mat z n) (row sg) (row sh) j).symm
  simp only [e]
  unfold k0_pay27 k0_pay26
  rw [← hz]
  pointwise [k0_pay1, k0_pay24, k0_pay25]
  rfl

end Cert.Kernel4Ideal.Body

end
-- ==== Proof.Tail.IdealFrame.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384
set_option maxHeartbeats 2000000

noncomputable section

/-! The run of the tail's program up to its region, its body on whole blocks, and the frame that follows. -/

namespace Cert.Kernel4Ideal.Tail

open Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays that the host operations write. -/
def hostOuts : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44]

/-- The region finds as launched every array that no host operation writes. -/
theorem V_kept (c : Dev nD) (b : Ref sig .tc) (h : ∀ r ∈ hostOuts, b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (h _ (by simp [hostOuts]))))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)
theorem V_main_arg19 (c : Dev nD) : V m c main_arg19 = m ((c : Thread nD τ).loc main_arg19) := V_kept m c main_arg19 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1860000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 20).trans (((dats 0 c).arrAt_in 20 rfl _).trans ((hA c 20).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 24).trans (((dats 0 c).arrAt_in 24 rfl _).trans ((hA c 24).trans (V_main_arg14 m c))),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-! ## The body's accesses -/

abbrev r0_0 : Rect S4096x256 := Rect.unit (s := S4096x256) ![0, 0] S4096x256.size inb_S4096x256_S4096x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S128x1 := Rect.unit (s := S128x1) ![0, 0] S128x1.size inb_S128x1_S128x1_0_0
abbrev r0_4 : Rect S256x256 := Rect.unit (s := S256x256) ![0, 0] S64x256.size inb_S256x256_S64x256_0_0
abbrev r0_5 : Rect S256x256 := Rect.unit (s := S256x256) ![64, 0] S64x256.size inb_S256x256_S64x256_64_0
abbrev r0_6 : Rect S256x256 := Rect.unit (s := S256x256) ![128, 0] S64x256.size inb_S256x256_S64x256_128_0
abbrev r0_7 : Rect S256x256 := Rect.unit (s := S256x256) ![192, 0] S64x256.size inb_S256x256_S64x256_192_0
abbrev r0_8 : Rect S256x128 := Rect.unit (s := S256x128) ![0, 0] S256x128.size inb_S256x128_S256x128_0_0
abbrev r0_9 : Rect S1x128 := Rect.unit (s := S1x128) ![0, 0] S1x128.size inb_S1x128_S1x128_0_0
abbrev r0_10 : Rect S1x1 := Rect.unit (s := S1x1) ![0, 0] S1x1.size inb_S1x1_S1x1_0_0
abbrev r0_11 : Rect S4096x1 := Rect.unit (s := S4096x1) ![0, 0] S4096x1.size inb_S4096x1_S4096x1_0_0

/-! ## What the body leaves in each output window's buffer -/

/-! ### Values of the body that the stores' payloads, spelt out, would write more than once

    Each is a vector the body binds (often a part call's result), stated over the input windows' blocks and
    numbered on from the skeleton's payload functions (`k0_pay28` …, after `k0_pay27`), so that
    `out0_30` and the values after it name it instead of spelling it out; the comment after each is the printed function's
    name for the value (a count appended where that name is bound again). -/

def k0_pay28 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay2 (View.ld x0 r0_0) (View.ld x1 r0_1) (View.ld x2 r0_2) -- `v7`
def k0_pay29 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay5 (k0_pay3 (View.ld x0 r0_0) (View.ld x3 r0_1)) (k0_pay4 (View.ld x4 r0_2)) -- `v42`
def k0_pay30 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay6 (View.ld x0 r0_0) -- `v88`
def k0_pay31 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S256x256 .f32 :=
  k0_pay7 (View.ld x5 r0_1) -- `v90`
def k0_pay32 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay8 (k0_pay28 x0 x1 x2 x3 x4 x5 x6 x7 x8 x9 x10 x11 x12 x13 x14 x15 x16 x17 x18 x19 x20 x21 x22 x23 x24 x25 x26 x27 x28 x29) (k0_pay29 x0 x1 x2 x3 x4 x5 x6 x7 x8 x9 x10 x11 x12 x13 x14 x15 x16 x17 x18 x19 x20 x21 x22 x23 x24 x25 x26 x27 x28 x29) (k0_pay30 x0 x1 x2 x3 x4 x5 x6 x7 x8 x9 x10 x11 x12 x13 x14 x15 x16 x17 x18 x19 x20 x21 x22 x23 x24 x25 x26 x27 x28 x29) (k0_pay31 x0 x1 x2 x3 x4 x5 x6 x7 x8 x9 x10 x11 x12 x13 x14 x15 x16 x17 x18 x19 x20 x21 x22 x23 x24 x25 x26 x27 x28 x29) (View.ld x6 r0_2) (View.ld x7 r0_1) (View.ld x8 r0_1) (View.ld x9 r0_1) (View.ld x10 r0_2) -- `v112`
def k0_pay33 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S1x256 .f32 :=
  k0_pay9 (View.ld x11 r0_2) -- `v114`
def k0_pay34 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S1x256 .f32 :=
  k0_pay10 (View.ld x12 r0_2) -- `v116`
def k0_pay35 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x1 .f32 :=
  k0_pay11 (k0_pay28 x0 x1 x2 x3 x4 x5 x6 x7 x8 x9 x10 x11 x12 x13 x14 x15 x16 x17 x18 x19 x20 x21 x22 x23 x24 x25 x26 x27 x28 x29) (k0_pay29 x0 x1 x2 x3 x4 x5 x6 x7 x8 x9 x10 x11 x12 x13 x14 x15 x16 x17 x18 x19 x20 x21 x22 x23 x24 x25 x26 x27 x28 x29) (k0_pay30 x0 x1 x2 x3 x4 x5 x6 x7 x8 x9 x10 x11 x12 x13 x14 x15 x16 x17 x18 x19 x20 x21 x22 x23 x24 x25 x26 x27 x28 x29) (k0_pay31 x0 x1 x2 x3 x4 x5 x6 x7 x8 x9 x10 x11 x12 x13 x14 x15 x16 x17 x18 x19 x20 x21 x22 x23 x24 x25 x26 x27 x28 x29) (View.ld x6 r0_2) (View.ld x7 r0_1) (View.ld x8 r0_1) (View.ld x9 r0_1) (View.ld x10 r0_2) -- `v120`
def k0_pay36 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x1 .f32 :=
  k0_pay12 (k0_pay28 x0 x1 x2 x3 x4 x5 x6 x7 x8 x9 x10 x11 x12 x13 x14 x15 x16 x17 x18 x19 x20 x21 x22 x23 x24 x25 x26 x27 x28 x29) (k0_pay29 x0 x1 x2 x3 x4 x5 x6 x7 x8 x9 x10 x11 x12 x13 x14 x15 x16 x17 x18 x19 x20 x21 x22 x23 x24 x25 x26 x27 x28 x29) (k0_pay30 x0 x1 x2 x3 x4 x5 x6 x7 x8 x9 x10 x11 x12 x13 x14 x15 x16 x17 x18 x19 x20 x21 x22 x23 x24 x25 x26 x27 x28 x29) (k0_pay31 x0 x1 x2 x3 x4 x5 x6 x7 x8 x9 x10 x11 x12 x13 x14 x15 x16 x17 x18 x19 x20 x21 x22 x23 x24 x25 x26 x27 x28 x29) (View.ld x6 r0_2) (View.ld x7 r0_1) (View.ld x8 r0_1) (View.ld x9 r0_1) (View.ld x10 r0_2) -- `v127`
def k0_pay37 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay15 (k0_pay32 x0 x1 x2 x3 x4 x5 x6 x7 x8 x9 x10 x11 x12 x13 x14 x15 x16 x17 x18 x19 x20 x21 x22 x23 x24 x25 x26 x27 x28 x29) (k0_pay33 x0 x1 x2 x3 x4 x5 x6 x7 x8 x9 x10 x11 x12 x13 x14 x15 x16 x17 x18 x19 x20 x21 x22 x23 x24 x25 x26 x27 x28 x29) (k0_pay34 x0 x1 x2 x3 x4 x5 x6 x7 x8 x9 x10 x11 x12 x13 x14 x15 x16 x17 x18 x19 x20 x21 x22 x23 x24 x25 x26 x27 x28 x29) (k0_pay35 x0 x1 x2 x3 x4 x5 x6 x7 x8 x9 x10 x11 x12 x13 x14 x15 x16 x17 x18 x19 x20 x21 x22 x23 x24 x25 x26 x27 x28 x29) (k0_pay36 x0 x1 x2 x3 x4 x5 x6 x7 x8 x9 x10 x11 x12 x13 x14 x15 x16 x17 x18 x19 x20 x21 x22 x23 x24 x25 x26 x27 x28 x29) (View.ld x14 r0_1) (View.ld x15 r0_2) -- `v153`
def k0_pay38 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S128x256 .f32 :=
  k0_pay16 (k0_pay32 x0 x1 x2 x3 x4 x5 x6 x7 x8 x9 x10 x11 x12 x13 x14 x15 x16 x17 x18 x19 x20 x21 x22 x23 x24 x25 x26 x27 x28 x29) (k0_pay33 x0 x1 x2 x3 x4 x5 x6 x7 x8 x9 x10 x11 x12 x13 x14 x15 x16 x17 x18 x19 x20 x21 x22 x23 x24 x25 x26 x27 x28 x29) (k0_pay34 x0 x1 x2 x3 x4 x5 x6 x7 x8 x9 x10 x11 x12 x13 x14 x15 x16 x17 x18 x19 x20 x21 x22 x23 x24 x25 x26 x27 x28 x29) (k0_pay35 x0 x1 x2 x3 x4 x5 x6 x7 x8 x9 x10 x11 x12 x13 x14 x15 x16 x17 x18 x19 x20 x21 x22 x23 x24 x25 x26 x27 x28 x29) (k0_pay36 x0 x1 x2 x3 x4 x5 x6 x7 x8 x9 x10 x11 x12 x13 x14 x15 x16 x17 x18 x19 x20 x21 x22 x23 x24 x25 x26 x27 x28 x29) (View.ld x13 r0_3) (View.ld x16 r0_1) (View.ld x17 r0_2) -- `v160`
def k0_pay39 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S128x256 .f32 :=
  k0_pay17 (k0_pay32 x0 x1 x2 x3 x4 x5 x6 x7 x8 x9 x10 x11 x12 x13 x14 x15 x16 x17 x18 x19 x20 x21 x22 x23 x24 x25 x26 x27 x28 x29) (k0_pay33 x0 x1 x2 x3 x4 x5 x6 x7 x8 x9 x10 x11 x12 x13 x14 x15 x16 x17 x18 x19 x20 x21 x22 x23 x24 x25 x26 x27 x28 x29) (k0_pay34 x0 x1 x2 x3 x4 x5 x6 x7 x8 x9 x10 x11 x12 x13 x14 x15 x16 x17 x18 x19 x20 x21 x22 x23 x24 x25 x26 x27 x28 x29) (k0_pay35 x0 x1 x2 x3 x4 x5 x6 x7 x8 x9 x10 x11 x12 x13 x14 x15 x16 x17 x18 x19 x20 x21 x22 x23 x24 x25 x26 x27 x28 x29) (k0_pay36 x0 x1 x2 x3 x4 x5 x6 x7 x8 x9 x10 x11 x12 x13 x14 x15 x16 x17 x18 x19 x20 x21 x22 x23 x24 x25 x26 x27 x28 x29) (View.ld x13 r0_3) (View.ld x18 r0_1) (View.ld x19 r0_2) -- `v167`
def k0_pay40 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S4096x256 .f32 :=
  k0_pay21 (k0_pay13 (k0_pay32 x0 x1 x2 x3 x4 x5 x6 x7 x8 x9 x10 x11 x12 x13 x14 x15 x16 x17 x18 x19 x20 x21 x22 x23 x24 x25 x26 x27 x28 x29) (k0_pay33 x0 x1 x2 x3 x4 x5 x6 x7 x8 x9 x10 x11 x12 x13 x14 x15 x16 x17 x18 x19 x20 x21 x22 x23 x24 x25 x26 x27 x28 x29) (k0_pay34 x0 x1 x2 x3 x4 x5 x6 x7 x8 x9 x10 x11 x12 x13 x14 x15 x16 x17 x18 x19 x20 x21 x22 x23 x24 x25 x26 x27 x28 x29) (k0_pay35 x0 x1 x2 x3 x4 x5 x6 x7 x8 x9 x10 x11 x12 x13 x14 x15 x16 x17 x18 x19 x20 x21 x22 x23 x24 x25 x26 x27 x28 x29) (k0_pay36 x0 x1 x2 x3 x4 x5 x6 x7 x8 x9 x10 x11 x12 x13 x14 x15 x16 x17 x18 x19 x20 x21 x22 x23 x24 x25 x26 x27 x28 x29)) (k0_pay37 x0 x1 x2 x3 x4 x5 x6 x7 x8 x9 x10 x11 x12 x13 x14 x15 x16 x17 x18 x19 x20 x21 x22 x23 x24 x25 x26 x27 x28 x29) (k0_pay38 x0 x1 x2 x3 x4 x5 x6 x7 x8 x9 x10 x11 x12 x13 x14 x15 x16 x17 x18 x19 x20 x21 x22 x23 x24 x25 x26 x27 x28 x29) (k0_pay39 x0 x1 x2 x3 x4 x5 x6 x7 x8 x9 x10 x11 x12 x13 x14 x15 x16 x17 x18 x19 x20 x21 x22 x23 x24 x25 x26 x27 x28 x29) (k0_pay18 (k0_pay37 x0 x1 x2 x3 x4 x5 x6 x7 x8 x9 x10 x11 x12 x13 x14 x15 x16 x17 x18 x19 x20 x21 x22 x23 x24 x25 x26 x27 x28 x29) (k0_pay38 x0 x1 x2 x3 x4 x5 x6 x7 x8 x9 x10 x11 x12 x13 x14 x15 x16 x17 x18 x19 x20 x21 x22 x23 x24 x25 x26 x27 x28 x29) (k0_pay39 x0 x1 x2 x3 x4 x5 x6 x7 x8 x9 x10 x11 x12 x13 x14 x15 x16 x17 x18 x19 x20 x21 x22 x23 x24 x25 x26 x27 x28 x29) (View.ld x21 r0_2) (View.ld x20 r0_4) (View.ld x20 r0_5)) (k0_pay19 (k0_pay37 x0 x1 x2 x3 x4 x5 x6 x7 x8 x9 x10 x11 x12 x13 x14 x15 x16 x17 x18 x19 x20 x21 x22 x23 x24 x25 x26 x27 x28 x29)) (k0_pay20 (k0_pay38 x0 x1 x2 x3 x4 x5 x6 x7 x8 x9 x10 x11 x12 x13 x14 x15 x16 x17 x18 x19 x20 x21 x22 x23 x24 x25 x26 x27 x28 x29)) (View.ld x20 r0_6) (View.ld x20 r0_7) -- `v247`
def k0_pay41 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : FVec F S1x256 .f32 :=
  k0_pay22 (View.ld x22 r0_2) -- `v249`

/-- Window 30's staging buffer after the body, from the input windows' blocks: its 1 store as pieces, LAST
    FIRST (Lib/Pipeline/FrameBody.lean `View.canon`; the payloads are the skeleton's and the values stated above). -/
def out0_30 (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) : Vec F S4096x1 .f32 :=
  View.canon [⟨r0_11, k0_pay1 (k0_pay23 (k0_pay40 x0 x1 x2 x3 x4 x5 x6 x7 x8 x9 x10 x11 x12 x13 x14 x15 x16 x17 x18 x19 x20 x21 x22 x23 x24 x25 x26 x27 x28 x29) (k0_pay41 x0 x1 x2 x3 x4 x5 x6 x7 x8 x9 x10 x11 x12 x13 x14 x15 x16 x17 x18 x19 x20 x21 x22 x23 x24 x25 x26 x27 x28 x29) (View.ld x23 r0_2) (View.ld x24 r0_8) (View.ld x25 r0_9)) (k0_pay24 (View.ld x26 r0_9)) (k0_pay25 (View.ld x27 r0_9)) (k0_pay26 (k0_pay40 x0 x1 x2 x3 x4 x5 x6 x7 x8 x9 x10 x11 x12 x13 x14 x15 x16 x17 x18 x19 x20 x21 x22 x23 x24 x25 x26 x27 x28 x29) (k0_pay41 x0 x1 x2 x3 x4 x5 x6 x7 x8 x9 x10 x11 x12 x13 x14 x15 x16 x17 x18 x19 x20 x21 x22 x23 x24 x25 x26 x27 x28 x29) (View.ld x23 r0_2) (View.ld x24 r0_8) (View.ld x25 r0_9)) (k0_pay27 (k0_pay40 x0 x1 x2 x3 x4 x5 x6 x7 x8 x9 x10 x11 x12 x13 x14 x15 x16 x17 x18 x19 x20 x21 x22 x23 x24 x25 x26 x27 x28 x29) (k0_pay41 x0 x1 x2 x3 x4 x5 x6 x7 x8 x9 x10 x11 x12 x13 x14 x15 x16 x17 x18 x19 x20 x21 x22 x23 x24 x25 x26 x27 x28 x29) (View.ld x23 r0_2) (View.ld x24 r0_8) (View.ld x25 r0_9)) (View.ld x28 r0_9) (View.ld x29 r0_10)⟩]

/-- Its stores tile the buffer (checked by evaluation), so they cover it. -/
theorem cover0_30 (p0 : Vec F S4096x1 .f32) (y : S4096x1.Idx) :
    ∃ pc ∈ ([⟨r0_11, p0⟩] : List (View.Piece (Elt F) S4096x1 .f32)), y ∈ pc.1.set :=
  View.cover_of_tiled [⟨r0_11, p0⟩] S4096x1.size (by rfl) y

/-! ## The body's triple -/

set_option maxHeartbeats 1433250 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S128x1 .i32) (harg14 : arg14.IsWhole) (arg15 : Memref sig .tc .vmem S256x256 .f32) (harg15 : arg15.IsWhole) (arg16 : Memref sig .tc .vmem S1x256 .f32) (harg16 : arg16.IsWhole) (arg17 : Memref sig .tc .vmem S256x256 .f32) (harg17 : arg17.IsWhole) (arg18 : Memref sig .tc .vmem S1x256 .f32) (harg18 : arg18.IsWhole) (arg19 : Memref sig .tc .vmem S256x256 .f32) (harg19 : arg19.IsWhole) (arg20 : Memref sig .tc .vmem S1x256 .f32) (harg20 : arg20.IsWhole) (arg21 : Memref sig .tc .vmem S256x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S1x1 .f32) (harg30 : arg30.IsWhole) (arg31 : Memref sig .tc .vmem S4096x1 .f32) (harg31 : arg31.IsWhole)
    (x0 : Vec F S4096x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S256x256 .f32) (x9 : Vec F S256x256 .f32) (x10 : Vec F S1x256 .f32) (x11 : Vec F S1x256 .f32) (x12 : Vec F S1x256 .f32) (x13 : Vec F S128x1 .i32) (x14 : Vec F S256x256 .f32) (x15 : Vec F S1x256 .f32) (x16 : Vec F S256x256 .f32) (x17 : Vec F S1x256 .f32) (x18 : Vec F S256x256 .f32) (x19 : Vec F S1x256 .f32) (x20 : Vec F S256x256 .f32) (x21 : Vec F S1x256 .f32) (x22 : Vec F S1x256 .f32) (x23 : Vec F S1x256 .f32) (x24 : Vec F S256x128 .f32) (x25 : Vec F S1x128 .f32) (x26 : Vec F S1x128 .f32) (x27 : Vec F S1x128 .f32) (x28 : Vec F S1x128 .f32) (x29 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare (out0_30 x0 x1 x2 x3 x4 x5 x6 x7 x8 x9 x10 x11 x12 x13 x14 x15 x16 x17 x18 x19 x20 x21 x22 x23 x24 x25 x26 x27 x28 x29)) -∗ K ⟨⟩))
      ⊢ wp frame (wpE (defs₀ (F := F)) Variants.none c none) E (cc0__tail_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__tail_kernel_eq_skeleton]; unfold cc0__tail_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  iexists _; isplitr
  swap; · iexact H30
  ipureintro
  refine (View.read_writes_eq_canon _ _ _ (cover0_30 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) := by dsimp only [dats]

/-- Each input's current staging buffer holds its block at every point, fetched there or not (`beforeK_W_of`). -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d
theorem before0_9 (c : Dev nD) (t : Fin cfg0.N) (d) : (dats m 0 c).before 9 t d = iblk m c 9 t :=
  (dats m 0 c).before_in_eq_fetched 9 rfl (fun _ => rfl) (fun _ _ _ => rfl) (fun _ => rfl) t d
theorem before0_10 (c : Dev nD) (t : Fin cfg0.N) (d) : (dats m 0 c).before 10 t d = iblk m c 10 t :=
  (dats m 0 c).before_in_eq_fetched 10 rfl (fun _ => rfl) (fun _ _ _ => rfl) (fun _ => rfl) t d
theorem before0_11 (c : Dev nD) (t : Fin cfg0.N) (d) : (dats m 0 c).before 11 t d = iblk m c 11 t :=
  (dats m 0 c).before_in_eq_fetched 11 rfl (fun _ => rfl) (fun _ _ _ => rfl) (fun _ => rfl) t d
theorem before0_12 (c : Dev nD) (t : Fin cfg0.N) (d) : (dats m 0 c).before 12 t d = iblk m c 12 t :=
  (dats m 0 c).before_in_eq_fetched 12 rfl (fun _ => rfl) (fun _ _ _ => rfl) (fun _ => rfl) t d
theorem before0_13 (c : Dev nD) (t : Fin cfg0.N) (d) : (dats m 0 c).before 13 t d = iblk m c 13 t :=
  (dats m 0 c).before_in_eq_fetched 13 rfl (fun _ => rfl) (fun _ _ _ => rfl) (fun _ => rfl) t d
theorem before0_14 (c : Dev nD) (t : Fin cfg0.N) (d) : (dats m 0 c).before 14 t d = iblk m c 14 t :=
  (dats m 0 c).before_in_eq_fetched 14 rfl (fun _ => rfl) (fun _ _ _ => rfl) (fun _ => rfl) t d
theorem before0_15 (c : Dev nD) (t : Fin cfg0.N) (d) : (dats m 0 c).before 15 t d = iblk m c 15 t :=
  (dats m 0 c).before_in_eq_fetched 15 rfl (fun _ => rfl) (fun _ _ _ => rfl) (fun _ => rfl) t d
theorem before0_16 (c : Dev nD) (t : Fin cfg0.N) (d) : (dats m 0 c).before 16 t d = iblk m c 16 t :=
  (dats m 0 c).before_in_eq_fetched 16 rfl (fun _ => rfl) (fun _ _ _ => rfl) (fun _ => rfl) t d
theorem before0_17 (c : Dev nD) (t : Fin cfg0.N) (d) : (dats m 0 c).before 17 t d = iblk m c 17 t :=
  (dats m 0 c).before_in_eq_fetched 17 rfl (fun _ => rfl) (fun _ _ _ => rfl) (fun _ => rfl) t d
theorem before0_18 (c : Dev nD) (t : Fin cfg0.N) (d) : (dats m 0 c).before 18 t d = iblk m c 18 t :=
  (dats m 0 c).before_in_eq_fetched 18 rfl (fun _ => rfl) (fun _ _ _ => rfl) (fun _ => rfl) t d
theorem before0_19 (c : Dev nD) (t : Fin cfg0.N) (d) : (dats m 0 c).before 19 t d = iblk m c 19 t :=
  (dats m 0 c).before_in_eq_fetched 19 rfl (fun _ => rfl) (fun _ _ _ => rfl) (fun _ => rfl) t d
theorem before0_20 (c : Dev nD) (t : Fin cfg0.N) (d) : (dats m 0 c).before 20 t d = iblk m c 20 t :=
  (dats m 0 c).before_in_eq_fetched 20 rfl (fun _ => rfl) (fun _ _ _ => rfl) (fun _ => rfl) t d
theorem before0_21 (c : Dev nD) (t : Fin cfg0.N) (d) : (dats m 0 c).before 21 t d = iblk m c 21 t :=
  (dats m 0 c).before_in_eq_fetched 21 rfl (fun _ => rfl) (fun _ _ _ => rfl) (fun _ => rfl) t d
theorem before0_22 (c : Dev nD) (t : Fin cfg0.N) (d) : (dats m 0 c).before 22 t d = iblk m c 22 t :=
  (dats m 0 c).before_in_eq_fetched 22 rfl (fun _ => rfl) (fun _ _ _ => rfl) (fun _ => rfl) t d
theorem before0_23 (c : Dev nD) (t : Fin cfg0.N) (d) : (dats m 0 c).before 23 t d = iblk m c 23 t :=
  (dats m 0 c).before_in_eq_fetched 23 rfl (fun _ => rfl) (fun _ _ _ => rfl) (fun _ => rfl) t d
theorem before0_24 (c : Dev nD) (t : Fin cfg0.N) (d) : (dats m 0 c).before 24 t d = iblk m c 24 t :=
  (dats m 0 c).before_in_eq_fetched 24 rfl (fun _ => rfl) (fun _ _ _ => rfl) (fun _ => rfl) t d
theorem before0_25 (c : Dev nD) (t : Fin cfg0.N) (d) : (dats m 0 c).before 25 t d = iblk m c 25 t :=
  (dats m 0 c).before_in_eq_fetched 25 rfl (fun _ => rfl) (fun _ _ _ => rfl) (fun _ => rfl) t d
theorem before0_26 (c : Dev nD) (t : Fin cfg0.N) (d) : (dats m 0 c).before 26 t d = iblk m c 26 t :=
  (dats m 0 c).before_in_eq_fetched 26 rfl (fun _ => rfl) (fun _ _ _ => rfl) (fun _ => rfl) t d
theorem before0_27 (c : Dev nD) (t : Fin cfg0.N) (d) : (dats m 0 c).before 27 t d = iblk m c 27 t :=
  (dats m 0 c).before_in_eq_fetched 27 rfl (fun _ => rfl) (fun _ _ _ => rfl) (fun _ => rfl) t d
theorem before0_28 (c : Dev nD) (t : Fin cfg0.N) (d) : (dats m 0 c).before 28 t d = iblk m c 28 t :=
  (dats m 0 c).before_in_eq_fetched 28 rfl (fun _ => rfl) (fun _ _ _ => rfl) (fun _ => rfl) t d
theorem before0_29 (c : Dev nD) (t : Fin cfg0.N) (d) : (dats m 0 c).before 29 t d = iblk m c 29 t :=
  (dats m 0 c).before_in_eq_fetched 29 rfl (fun _ => rfl) (fun _ _ _ => rfl) (fun _ => rfl) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel4Ideal.Tail

end
-- ==== Proof.Tail.Value.lean ====
module

public import proofs.«01_k».proof.Proof.Tail.Kernel
public import proofs.«01_k».proof.Proof.Tail.IdealFrame

@[expose] public section

set_option maxRecDepth 16384

noncomputable section

/-! What the tail's program leaves in its result array: the scores. -/

namespace Cert.Kernel4Ideal.Body

open Cert.Kernel4Ideal Cert.Kernel4Ideal.Gen Cert.Kernel4Ideal.Tail
open Idealize.ShloMosaic Idealize.ShloMosaic.TcCoe Idealize.ShloMosaic.Tactic
open Idealize.SL.Sem

theorem whole_0 (a : FVec Ideal S4096x256 .f32) : View.ld (Val := Elt Ideal) (e' := .f32) a r0_0 = a := View.ld_unit_lit _ _ (by decide)
theorem whole_1 (a : FVec Ideal S256x256 .f32) : View.ld (Val := Elt Ideal) (e' := .f32) a r0_1 = a := View.ld_unit_lit _ _ (by decide)
theorem whole_2 (a : FVec Ideal S1x256 .f32) : View.ld (Val := Elt Ideal) (e' := .f32) a r0_2 = a := View.ld_unit_lit _ _ (by decide)
theorem whole_3 (a : IVec S128x1 32) : View.ld (Val := Elt Ideal) (e' := .i32) a r0_3 = a := View.ld_unit_lit _ _ (by decide)
theorem whole_8 (a : FVec Ideal S256x128 .f32) : View.ld (Val := Elt Ideal) (e' := .f32) a r0_8 = a := View.ld_unit_lit _ _ (by decide)
theorem whole_9 (a : FVec Ideal S1x128 .f32) : View.ld (Val := Elt Ideal) (e' := .f32) a r0_9 = a := View.ld_unit_lit _ _ (by decide)
theorem whole_10 (a : FVec Ideal S1x1 .f32) : View.ld (Val := Elt Ideal) (e' := .f32) a r0_10 = a := View.ld_unit_lit _ _ (by decide)

/-- The four pieces of the attention's projection are its heads' rows. -/
theorem piece_0 (a : FVec Ideal S256x256 .f32) (d : Fin 64) (q : Fin 256) : View.ld (Val := Elt Ideal) (e' := .f32) a r0_4 (ix2 d q) = mat a (Tail.col 0 d) q := by
  refine View.ld_unit_apply_of (Val := Elt Ideal) (e := .f32) a _ _ _ (ix2 d q) (ix2 (Tail.col 0 d) q) fun k => ?_
  match k with
  | ⟨0, _⟩ => rfl
  | ⟨1, _⟩ => exact (Nat.zero_add _).symm
theorem piece_1 (a : FVec Ideal S256x256 .f32) (d : Fin 64) (q : Fin 256) : View.ld (Val := Elt Ideal) (e' := .f32) a r0_5 (ix2 d q) = mat a (Tail.col 1 d) q := by
  refine View.ld_unit_apply_of (Val := Elt Ideal) (e := .f32) a _ _ _ (ix2 d q) (ix2 (Tail.col 1 d) q) fun k => ?_
  match k with
  | ⟨0, _⟩ => rfl
  | ⟨1, _⟩ => exact (Nat.zero_add _).symm
theorem piece_2 (a : FVec Ideal S256x256 .f32) (d : Fin 64) (q : Fin 256) : View.ld (Val := Elt Ideal) (e' := .f32) a r0_6 (ix2 d q) = mat a (Tail.col 2 d) q := by
  refine View.ld_unit_apply_of (Val := Elt Ideal) (e := .f32) a _ _ _ (ix2 d q) (ix2 (Tail.col 2 d) q) fun k => ?_
  match k with
  | ⟨0, _⟩ => rfl
  | ⟨1, _⟩ => exact (Nat.zero_add _).symm
theorem piece_3 (a : FVec Ideal S256x256 .f32) (d : Fin 64) (q : Fin 256) : View.ld (Val := Elt Ideal) (e' := .f32) a r0_7 (ix2 d q) = mat a (Tail.col 3 d) q := by
  refine View.ld_unit_apply_of (Val := Elt Ideal) (e := .f32) a _ _ _ (ix2 d q) (ix2 (Tail.col 3 d) q) fun k => ?_
  match k with
  | ⟨0, _⟩ => rfl
  | ⟨1, _⟩ => exact (Nat.zero_add _).symm

section Body

variable (x0 : FVec Ideal S4096x256 .f32) (x1 : FVec Ideal S256x256 .f32) (x2 : FVec Ideal S1x256 .f32) (x3 : FVec Ideal S256x256 .f32) (x4 : FVec Ideal S1x256 .f32) (x5 : FVec Ideal S256x256 .f32)
  (x6 : FVec Ideal S1x256 .f32) (x7 : FVec Ideal S256x256 .f32) (x8 : FVec Ideal S256x256 .f32) (x9 : FVec Ideal S256x256 .f32) (x10 : FVec Ideal S1x256 .f32) (x11 : FVec Ideal S1x256 .f32)
  (x12 : FVec Ideal S1x256 .f32) (x13 : IVec S128x1 32) (x14 : FVec Ideal S256x256 .f32) (x15 : FVec Ideal S1x256 .f32) (x16 : FVec Ideal S256x256 .f32) (x17 : FVec Ideal S1x256 .f32)
  (x18 : FVec Ideal S256x256 .f32) (x19 : FVec Ideal S1x256 .f32) (x20 : FVec Ideal S256x256 .f32) (x21 : FVec Ideal S1x256 .f32) (x22 : FVec Ideal S1x256 .f32) (x23 : FVec Ideal S1x256 .f32)
  (x24 : FVec Ideal S256x128 .f32) (x25 : FVec Ideal S1x128 .f32) (x26 : FVec Ideal S1x128 .f32) (x27 : FVec Ideal S1x128 .f32) (x28 : FVec Ideal S1x128 .f32) (x29 : FVec Ideal S1x1 .f32)

/-- The numbers the body's blocks hold. -/
def held : Tail.Args where
  x := mat x0
  pw0 := mat x1
  pb0 := row x2
  pw1 := mat x3
  pb1 := row x4
  pw2 := mat x5
  pb2 := row x6
  ca := mat x7
  cb := mat x8
  cc := mat x9
  cs := row x10
  cg := row x11
  ch := row x12
  idx := fun j => x13 (ix2 j 0)
  qw := mat x14
  qb := row x15
  kw := mat x16
  kb := row x17
  vw := mat x18
  vb := row x19
  ow := mat x20
  ob := row x21
  og := row x22
  oh := row x23
  sw := mat x24
  sb := row x25
  sg := row x26
  sh := row x27
  tw := row x28
  tb := x29 (ix2 0 0)

/-- The blocks hold given numbers when they do so entry by entry. -/
theorem held_of (A : Tail.Args) (h0 : ∀ i j, x0 (ix2 i j) = A.x i j) (h1 : ∀ i j, x1 (ix2 i j) = A.pw0 i j) (h2 : ∀ j, x2 (ix2 0 j) = A.pb0 j) (h3 : ∀ i j, x3 (ix2 i j) = A.pw1 i j) (h4 : ∀ j, x4 (ix2 0 j) = A.pb1 j) (h5 : ∀ i j, x5 (ix2 i j) = A.pw2 i j) (h6 : ∀ j, x6 (ix2 0 j) = A.pb2 j) (h7 : ∀ i j, x7 (ix2 i j) = A.ca i j) (h8 : ∀ i j, x8 (ix2 i j) = A.cb i j) (h9 : ∀ i j, x9 (ix2 i j) = A.cc i j) (h10 : ∀ j, x10 (ix2 0 j) = A.cs j) (h11 : ∀ j, x11 (ix2 0 j) = A.cg j) (h12 : ∀ j, x12 (ix2 0 j) = A.ch j)
    (h13 : ∀ j, x13 (ix2 j 0) = A.idx j) (h14 : ∀ i j, x14 (ix2 i j) = A.qw i j) (h15 : ∀ j, x15 (ix2 0 j) = A.qb j) (h16 : ∀ i j, x16 (ix2 i j) = A.kw i j) (h17 : ∀ j, x17 (ix2 0 j) = A.kb j) (h18 : ∀ i j, x18 (ix2 i j) = A.vw i j) (h19 : ∀ j, x19 (ix2 0 j) = A.vb j) (h20 : ∀ i j, x20 (ix2 i j) = A.ow i j) (h21 : ∀ j, x21 (ix2 0 j) = A.ob j) (h22 : ∀ j, x22 (ix2 0 j) = A.og j) (h23 : ∀ j, x23 (ix2 0 j) = A.oh j) (h24 : ∀ i j, x24 (ix2 i j) = A.sw i j) (h25 : ∀ j, x25 (ix2 0 j) = A.sb j) (h26 : ∀ j, x26 (ix2 0 j) = A.sg j) (h27 : ∀ j, x27 (ix2 0 j) = A.sh j) (h28 : ∀ j, x28 (ix2 0 j) = A.tw j) (h29 : x29 (ix2 0 0) = A.tb) :
    held x0 x1 x2 x3 x4 x5 x6 x7 x8 x9 x10 x11 x12 x13 x14 x15 x16 x17 x18 x19 x20 x21 x22 x23 x24 x25 x26 x27 x28 x29 = A := by
  have e0 : mat x0 = A.x := funext fun i => funext (h0 i)
  have e1 : mat x1 = A.pw0 := funext fun i => funext (h1 i)
  have e2 : row x2 = A.pb0 := funext h2
  have e3 : mat x3 = A.pw1 := funext fun i => funext (h3 i)
  have e4 : row x4 = A.pb1 := funext h4
  have e5 : mat x5 = A.pw2 := funext fun i => funext (h5 i)
  have e6 : row x6 = A.pb2 := funext h6
  have e7 : mat x7 = A.ca := funext fun i => funext (h7 i)
  have e8 : mat x8 = A.cb := funext fun i => funext (h8 i)
  have e9 : mat x9 = A.cc := funext fun i => funext (h9 i)
  have e10 : row x10 = A.cs := funext h10
  have e11 : row x11 = A.cg := funext h11
  have e12 : row x12 = A.ch := funext h12
  have e13 : (fun j => x13 (ix2 j 0)) = A.idx := funext h13
  have e14 : mat x14 = A.qw := funext fun i => funext (h14 i)
  have e15 : row x15 = A.qb := funext h15
  have e16 : mat x16 = A.kw := funext fun i => funext (h16 i)
  have e17 : row x17 = A.kb := funext h17
  have e18 : mat x18 = A.vw := funext fun i => funext (h18 i)
  have e19 : row x19 = A.vb := funext h19
  have e20 : mat x20 = A.ow := funext fun i => funext (h20 i)
  have e21 : row x21 = A.ob := funext h21
  have e22 : row x22 = A.og := funext h22
  have e23 : row x23 = A.oh := funext h23
  have e24 : mat x24 = A.sw := funext fun i => funext (h24 i)
  have e25 : row x25 = A.sb := funext h25
  have e26 : row x26 = A.sg := funext h26
  have e27 : row x27 = A.sh := funext h27
  have e28 : row x28 = A.tw := funext h28
  have e29 : x29 (ix2 0 0) = A.tb := h29
  unfold held
  rw [e0, e1, e2, e3, e4, e5, e6, e7, e8, e9, e10, e11, e12, e13, e14, e15, e16, e17, e18, e19, e20, e21, e22, e23, e24, e25, e26, e27, e28, e29]

theorem own_scale (n : Fin 4096) (q : Fin 256) : (k0_pay28 (F := Ideal) x0 x1 x2 x3 x4 x5 x6 x7 x8 x9 x10 x11 x12 x13 x14 x15 x16 x17 x18 x19 x20 x21 x22 x23 x24 x25 x26 x27 x28 x29) (ix2 n q) = Tail.proj ((held x0 x1 x2 x3 x4 x5 x6 x7 x8 x9 x10 x11 x12 x13 x14 x15 x16 x17 x18 x19 x20 x21 x22 x23 x24 x25 x26 x27 x28 x29).x n) (held x0 x1 x2 x3 x4 x5 x6 x7 x8 x9 x10 x11 x12 x13 x14 x15 x16 x17 x18 x19 x20 x21 x22 x23 x24 x25 x26 x27 x28 x29).pw0 (held x0 x1 x2 x3 x4 x5 x6 x7 x8 x9 x10 x11 x12 x13 x14 x15 x16 x17 x18 x19 x20 x21 x22 x23 x24 x25 x26 x27 x28 x29).pb0 q := by
  unfold k0_pay28
  rw [whole_0, whole_1, whole_2]
  exact first _ _ _ n q

theorem second_scale (n : Fin 4096) (q : Fin 256) : (k0_pay29 (F := Ideal) x0 x1 x2 x3 x4 x5 x6 x7 x8 x9 x10 x11 x12 x13 x14 x15 x16 x17 x18 x19 x20 x21 x22 x23 x24 x25 x26 x27 x28 x29) (ix2 n q) = Tail.proj (Tail.up2 (held x0 x1 x2 x3 x4 x5 x6 x7 x8 x9 x10 x11 x12 x13 x14 x15 x16 x17 x18 x19 x20 x21 x22 x23 x24 x25 x26 x27 x28 x29).x n) (held x0 x1 x2 x3 x4 x5 x6 x7 x8 x9 x10 x11 x12 x13 x14 x15 x16 x17 x18 x19 x20 x21 x22 x23 x24 x25 x26 x27 x28 x29).pw1 (held x0 x1 x2 x3 x4 x5 x6 x7 x8 x9 x10 x11 x12 x13 x14 x15 x16 x17 x18 x19 x20 x21 x22 x23 x24 x25 x26 x27 x28 x29).pb1 q := by
  unfold k0_pay29
  rw [whole_0, whole_1, whole_2]
  exact second _ _ _ n q

theorem third_scale (n : Fin 4096) (q : Fin 256) : (k0_pay30 (F := Ideal) x0 x1 x2 x3 x4 x5 x6 x7 x8 x9 x10 x11 x12 x13 x14 x15 x16 x17 x18 x19 x20 x21 x22 x23 x24 x25 x26 x27 x28 x29) (ix2 n q) = Tail.up4 (held x0 x1 x2 x3 x4 x5 x6 x7 x8 x9 x10 x11 x12 x13 x14 x15 x16 x17 x18 x19 x20 x21 x22 x23 x24 x25 x26 x27 x28 x29).x n q := by
  unfold k0_pay30
  rw [whole_0]
  exact up4_at _ n q

theorem mixed_at (n : Fin 4096) (q : Fin 256) : (k0_pay32 (F := Ideal) x0 x1 x2 x3 x4 x5 x6 x7 x8 x9 x10 x11 x12 x13 x14 x15 x16 x17 x18 x19 x20 x21 x22 x23 x24 x25 x26 x27 x28 x29) (ix2 n q) = Tail.mixed (held x0 x1 x2 x3 x4 x5 x6 x7 x8 x9 x10 x11 x12 x13 x14 x15 x16 x17 x18 x19 x20 x21 x22 x23 x24 x25 x26 x27 x28 x29) n q := by
  unfold k0_pay32 k0_pay31
  simp only [whole_1, whole_2]
  rw [combined]
  have e : mat (k0_pay30 (F := Ideal) x0 x1 x2 x3 x4 x5 x6 x7 x8 x9 x10 x11 x12 x13 x14 x15 x16 x17 x18 x19 x20 x21 x22 x23 x24 x25 x26 x27 x28 x29) n = Tail.up4 (held x0 x1 x2 x3 x4 x5 x6 x7 x8 x9 x10 x11 x12 x13 x14 x15 x16 x17 x18 x19 x20 x21 x22 x23 x24 x25 x26 x27 x28 x29).x n := by
    funext i
    exact third_scale x0 x1 x2 x3 x4 x5 x6 x7 x8 x9 x10 x11 x12 x13 x14 x15 x16 x17 x18 x19 x20 x21 x22 x23 x24 x25 x26 x27 x28 x29 n i
  rw [e]
  simp only [own_scale, second_scale]
  rfl

theorem pooled_row (n : Fin 4096) (q : Fin 256) : (k0_pay13 (F := Ideal) (k0_pay32 (F := Ideal) x0 x1 x2 x3 x4 x5 x6 x7 x8 x9 x10 x11 x12 x13 x14 x15 x16 x17 x18 x19 x20 x21 x22 x23 x24 x25 x26 x27 x28 x29) (k0_pay33 (F := Ideal) x0 x1 x2 x3 x4 x5 x6 x7 x8 x9 x10 x11 x12 x13 x14 x15 x16 x17 x18 x19 x20 x21 x22 x23 x24 x25 x26 x27 x28 x29) (k0_pay34 (F := Ideal) x0 x1 x2 x3 x4 x5 x6 x7 x8 x9 x10 x11 x12 x13 x14 x15 x16 x17 x18 x19 x20 x21 x22 x23 x24 x25 x26 x27 x28 x29) (k0_pay35 (F := Ideal) x0 x1 x2 x3 x4 x5 x6 x7 x8 x9 x10 x11 x12 x13 x14 x15 x16 x17 x18 x19 x20 x21 x22 x23 x24 x25 x26 x27 x28 x29) (k0_pay36 (F := Ideal) x0 x1 x2 x3 x4 x5 x6 x7 x8 x9 x10 x11 x12 x13 x14 x15 x16 x17 x18 x19 x20 x21 x22 x23 x24 x25 x26 x27 x28 x29)) (ix2 n q) = Tail.pooled (held x0 x1 x2 x3 x4 x5 x6 x7 x8 x9 x10 x11 x12 x13 x14 x15 x16 x17 x18 x19 x20 x21 x22 x23 x24 x25 x26 x27 x28 x29) n q := by
  have e : mat (k0_pay32 (F := Ideal) x0 x1 x2 x3 x4 x5 x6 x7 x8 x9 x10 x11 x12 x13 x14 x15 x16 x17 x18 x19 x20 x21 x22 x23 x24 x25 x26 x27 x28 x29) n = Tail.mixed (held x0 x1 x2 x3 x4 x5 x6 x7 x8 x9 x10 x11 x12 x13 x14 x15 x16 x17 x18 x19 x20 x21 x22 x23 x24 x25 x26 x27 x28 x29) n := by
    funext i
    exact mixed_at x0 x1 x2 x3 x4 x5 x6 x7 x8 x9 x10 x11 x12 x13 x14 x15 x16 x17 x18 x19 x20 x21 x22 x23 x24 x25 x26 x27 x28 x29 n i
  have h := pooled_at (k0_pay28 (F := Ideal) x0 x1 x2 x3 x4 x5 x6 x7 x8 x9 x10 x11 x12 x13 x14 x15 x16 x17 x18 x19 x20 x21 x22 x23 x24 x25 x26 x27 x28 x29) (k0_pay29 (F := Ideal) x0 x1 x2 x3 x4 x5 x6 x7 x8 x9 x10 x11 x12 x13 x14 x15 x16 x17 x18 x19 x20 x21 x22 x23 x24 x25 x26 x27 x28 x29) (k0_pay30 (F := Ideal) x0 x1 x2 x3 x4 x5 x6 x7 x8 x9 x10 x11 x12 x13 x14 x15 x16 x17 x18 x19 x20 x21 x22 x23 x24 x25 x26 x27 x28 x29) (k0_pay31 (F := Ideal) x0 x1 x2 x3 x4 x5 x6 x7 x8 x9 x10 x11 x12 x13 x14 x15 x16 x17 x18 x19 x20 x21 x22 x23 x24 x25 x26 x27 x28 x29) x6 x7 x8 x9 x10 x11 x12 (k0_pay32 (F := Ideal) x0 x1 x2 x3 x4 x5 x6 x7 x8 x9 x10 x11 x12 x13 x14 x15 x16 x17 x18 x19 x20 x21 x22 x23 x24 x25 x26 x27 x28 x29)
    (by unfold k0_pay32; simp only [whole_1, whole_2]) n q
  rw [e] at h
  unfold k0_pay33 k0_pay34 k0_pay35 k0_pay36
  simp only [whole_1, whole_2]
  exact h

theorem pooled_mat (n : Fin 4096) : mat (k0_pay13 (F := Ideal) (k0_pay32 (F := Ideal) x0 x1 x2 x3 x4 x5 x6 x7 x8 x9 x10 x11 x12 x13 x14 x15 x16 x17 x18 x19 x20 x21 x22 x23 x24 x25 x26 x27 x28 x29) (k0_pay33 (F := Ideal) x0 x1 x2 x3 x4 x5 x6 x7 x8 x9 x10 x11 x12 x13 x14 x15 x16 x17 x18 x19 x20 x21 x22 x23 x24 x25 x26 x27 x28 x29) (k0_pay34 (F := Ideal) x0 x1 x2 x3 x4 x5 x6 x7 x8 x9 x10 x11 x12 x13 x14 x15 x16 x17 x18 x19 x20 x21 x22 x23 x24 x25 x26 x27 x28 x29) (k0_pay35 (F := Ideal) x0 x1 x2 x3 x4 x5 x6 x7 x8 x9 x10 x11 x12 x13 x14 x15 x16 x17 x18 x19 x20 x21 x22 x23 x24 x25 x26 x27 x28 x29) (k0_pay36 (F := Ideal) x0 x1 x2 x3 x4 x5 x6 x7 x8 x9 x10 x11 x12 x13 x14 x15 x16 x17 x18 x19 x20 x21 x22 x23 x24 x25 x26 x27 x28 x29)) n = Tail.pooled (held x0 x1 x2 x3 x4 x5 x6 x7 x8 x9 x10 x11 x12 x13 x14 x15 x16 x17 x18 x19 x20 x21 x22 x23 x24 x25 x26 x27 x28 x29) n := by
  funext q
  exact pooled_row x0 x1 x2 x3 x4 x5 x6 x7 x8 x9 x10 x11 x12 x13 x14 x15 x16 x17 x18 x19 x20 x21 x22 x23 x24 x25 x26 x27 x28 x29 n q

theorem queries_row (n : Fin 4096) : mat (k0_pay37 (F := Ideal) x0 x1 x2 x3 x4 x5 x6 x7 x8 x9 x10 x11 x12 x13 x14 x15 x16 x17 x18 x19 x20 x21 x22 x23 x24 x25 x26 x27 x28 x29) n = Tail.proj (Tail.pooled (held x0 x1 x2 x3 x4 x5 x6 x7 x8 x9 x10 x11 x12 x13 x14 x15 x16 x17 x18 x19 x20 x21 x22 x23 x24 x25 x26 x27 x28 x29) n) (held x0 x1 x2 x3 x4 x5 x6 x7 x8 x9 x10 x11 x12 x13 x14 x15 x16 x17 x18 x19 x20 x21 x22 x23 x24 x25 x26 x27 x28 x29).qw (held x0 x1 x2 x3 x4 x5 x6 x7 x8 x9 x10 x11 x12 x13 x14 x15 x16 x17 x18 x19 x20 x21 x22 x23 x24 x25 x26 x27 x28 x29).qb := by
  funext q
  unfold mat k0_pay37
  rw [whole_1, whole_2, queries_at, pooled_mat]
  rfl

section InRange

variable (low : ∀ j, 0 ≤ (x13 (ix2 j 0)).toInt) (high : ∀ j, (x13 (ix2 j 0)).toInt < 4096)
include low high

theorem chosen_row (j : Fin 128) : mat (k0_pay14 (F := Ideal) (k0_pay32 (F := Ideal) x0 x1 x2 x3 x4 x5 x6 x7 x8 x9 x10 x11 x12 x13 x14 x15 x16 x17 x18 x19 x20 x21 x22 x23 x24 x25 x26 x27 x28 x29) (k0_pay33 (F := Ideal) x0 x1 x2 x3 x4 x5 x6 x7 x8 x9 x10 x11 x12 x13 x14 x15 x16 x17 x18 x19 x20 x21 x22 x23 x24 x25 x26 x27 x28 x29) (k0_pay34 (F := Ideal) x0 x1 x2 x3 x4 x5 x6 x7 x8 x9 x10 x11 x12 x13 x14 x15 x16 x17 x18 x19 x20 x21 x22 x23 x24 x25 x26 x27 x28 x29) (k0_pay35 (F := Ideal) x0 x1 x2 x3 x4 x5 x6 x7 x8 x9 x10 x11 x12 x13 x14 x15 x16 x17 x18 x19 x20 x21 x22 x23 x24 x25 x26 x27 x28 x29) (k0_pay36 (F := Ideal) x0 x1 x2 x3 x4 x5 x6 x7 x8 x9 x10 x11 x12 x13 x14 x15 x16 x17 x18 x19 x20 x21 x22 x23 x24 x25 x26 x27 x28 x29) x13) j = Tail.chosen (held x0 x1 x2 x3 x4 x5 x6 x7 x8 x9 x10 x11 x12 x13 x14 x15 x16 x17 x18 x19 x20 x21 x22 x23 x24 x25 x26 x27 x28 x29) j := by
  funext q
  unfold mat
  rw [chosen_at _ _ _ _ _ _ j q (low j) (high j), pooled_row]
  rfl

theorem keys_row : mat (k0_pay38 (F := Ideal) x0 x1 x2 x3 x4 x5 x6 x7 x8 x9 x10 x11 x12 x13 x14 x15 x16 x17 x18 x19 x20 x21 x22 x23 x24 x25 x26 x27 x28 x29) = Tail.keys (held x0 x1 x2 x3 x4 x5 x6 x7 x8 x9 x10 x11 x12 x13 x14 x15 x16 x17 x18 x19 x20 x21 x22 x23 x24 x25 x26 x27 x28 x29) := by
  funext j q
  unfold mat k0_pay38
  rw [whole_1, whole_2, whole_3, keys_at, chosen_row x0 x1 x2 x3 x4 x5 x6 x7 x8 x9 x10 x11 x12 x13 x14 x15 x16 x17 x18 x19 x20 x21 x22 x23 x24 x25 x26 x27 x28 x29 low high]
  rfl

theorem values_row : mat (k0_pay39 (F := Ideal) x0 x1 x2 x3 x4 x5 x6 x7 x8 x9 x10 x11 x12 x13 x14 x15 x16 x17 x18 x19 x20 x21 x22 x23 x24 x25 x26 x27 x28 x29) = Tail.values (held x0 x1 x2 x3 x4 x5 x6 x7 x8 x9 x10 x11 x12 x13 x14 x15 x16 x17 x18 x19 x20 x21 x22 x23 x24 x25 x26 x27 x28 x29) := by
  funext j q
  unfold mat k0_pay39
  rw [whole_1, whole_2, whole_3, values_at, chosen_row x0 x1 x2 x3 x4 x5 x6 x7 x8 x9 x10 x11 x12 x13 x14 x15 x16 x17 x18 x19 x20 x21 x22 x23 x24 x25 x26 x27 x28 x29 low high]
  rfl

theorem attended_row (n : Fin 4096) : mat (k0_pay40 (F := Ideal) x0 x1 x2 x3 x4 x5 x6 x7 x8 x9 x10 x11 x12 x13 x14 x15 x16 x17 x18 x19 x20 x21 x22 x23 x24 x25 x26 x27 x28 x29) n = Tail.attended (held x0 x1 x2 x3 x4 x5 x6 x7 x8 x9 x10 x11 x12 x13 x14 x15 x16 x17 x18 x19 x20 x21 x22 x23 x24 x25 x26 x27 x28 x29) n := by
  funext q
  unfold mat k0_pay40
  rw [heads23 _ _ _ _ _ _ _ (mat x20) n q (piece_2 x20) (piece_3 x20), heads01 _ _ _ _ _ _ (mat x20) n q (piece_0 x20) (piece_1 x20), whole_2,
    queries_row, keys_row x0 x1 x2 x3 x4 x5 x6 x7 x8 x9 x10 x11 x12 x13 x14 x15 x16 x17 x18 x19 x20 x21 x22 x23 x24 x25 x26 x27 x28 x29 low high, values_row x0 x1 x2 x3 x4 x5 x6 x7 x8 x9 x10 x11 x12 x13 x14 x15 x16 x17 x18 x19 x20 x21 x22 x23 x24 x25 x26 x27 x28 x29 low high, pooled_row]
  rfl

/-- The body's buffer ends with the scores. -/
theorem body_at (n : Fin 4096) : out0_30 (F := Ideal) x0 x1 x2 x3 x4 x5 x6 x7 x8 x9 x10 x11 x12 x13 x14 x15 x16 x17 x18 x19 x20 x21 x22 x23 x24 x25 x26 x27 x28 x29 (ix2 n 0) = Tail.score (held x0 x1 x2 x3 x4 x5 x6 x7 x8 x9 x10 x11 x12 x13 x14 x15 x16 x17 x18 x19 x20 x21 x22 x23 x24 x25 x26 x27 x28 x29) n := by
  unfold out0_30
  rw [View.canon_cons_unit_lit _ _ _ (by decide)]
  unfold k0_pay41
  simp only [whole_2, whole_8, whole_9, whole_10]
  rw [score_at _ _ _ _ _ _ _ _ _ _ rfl]
  have e : mat (k0_pay23 (F := Ideal) (k0_pay40 (F := Ideal) x0 x1 x2 x3 x4 x5 x6 x7 x8 x9 x10 x11 x12 x13 x14 x15 x16 x17 x18 x19 x20 x21 x22 x23 x24 x25 x26 x27 x28 x29) (k0_pay22 (F := Ideal) x22) x23 x24 x25) n = Tail.hidden (held x0 x1 x2 x3 x4 x5 x6 x7 x8 x9 x10 x11 x12 x13 x14 x15 x16 x17 x18 x19 x20 x21 x22 x23 x24 x25 x26 x27 x28 x29) n := by
    funext q
    unfold mat
    rw [hidden_at, attended_row x0 x1 x2 x3 x4 x5 x6 x7 x8 x9 x10 x11 x12 x13 x14 x15 x16 x17 x18 x19 x20 x21 x22 x23 x24 x25 x26 x27 x28 x29 low high]
    rfl
  rw [e]
  rfl

end InRange

end Body

variable (m : (ℓ : Loc nD τ sig) → Buf (Elt Ideal) ℓ) (ρ : Dev nD → PrngReg) (c : Dev nD)

/-- The numbers the scores start from, as the launch finds them. -/
def given : Tail.Args := Tail.fromArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
     (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
     (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- The scores of the launch's arrays. -/
def result : FVec Ideal S4096x1 .f32 := fun y => Tail.score (given m c) (y 0)

theorem index_0 (t : Fin cfg0.N) : win0_0.index t = ![0, 0] := rfl
theorem index_1 (t : Fin cfg0.N) : win0_1.index t = ![0, 0] := rfl
theorem index_2 (t : Fin cfg0.N) : win0_2.index t = ![0, 0] := rfl
theorem index_3 (t : Fin cfg0.N) : win0_3.index t = ![0, 0] := rfl
theorem index_4 (t : Fin cfg0.N) : win0_4.index t = ![0, 0] := rfl
theorem index_5 (t : Fin cfg0.N) : win0_5.index t = ![0, 0] := rfl
theorem index_6 (t : Fin cfg0.N) : win0_6.index t = ![0, 0] := rfl
theorem index_7 (t : Fin cfg0.N) : win0_7.index t = ![0, 0] := rfl
theorem index_8 (t : Fin cfg0.N) : win0_8.index t = ![0, 0] := rfl
theorem index_9 (t : Fin cfg0.N) : win0_9.index t = ![0, 0] := rfl
theorem index_10 (t : Fin cfg0.N) : win0_10.index t = ![0, 0] := rfl
theorem index_11 (t : Fin cfg0.N) : win0_11.index t = ![0, 0] := rfl
theorem index_12 (t : Fin cfg0.N) : win0_12.index t = ![0, 0] := rfl
theorem index_13 (t : Fin cfg0.N) : win0_13.index t = ![0, 0] := rfl
theorem index_14 (t : Fin cfg0.N) : win0_14.index t = ![0, 0] := rfl
theorem index_15 (t : Fin cfg0.N) : win0_15.index t = ![0, 0] := rfl
theorem index_16 (t : Fin cfg0.N) : win0_16.index t = ![0, 0] := rfl
theorem index_17 (t : Fin cfg0.N) : win0_17.index t = ![0, 0] := rfl
theorem index_18 (t : Fin cfg0.N) : win0_18.index t = ![0, 0] := rfl
theorem index_19 (t : Fin cfg0.N) : win0_19.index t = ![0, 0] := rfl
theorem index_20 (t : Fin cfg0.N) : win0_20.index t = ![0, 0] := rfl
theorem index_21 (t : Fin cfg0.N) : win0_21.index t = ![0, 0] := rfl
theorem index_22 (t : Fin cfg0.N) : win0_22.index t = ![0, 0] := rfl
theorem index_23 (t : Fin cfg0.N) : win0_23.index t = ![0, 0] := rfl
theorem index_24 (t : Fin cfg0.N) : win0_24.index t = ![0, 0] := rfl
theorem index_25 (t : Fin cfg0.N) : win0_25.index t = ![0, 0] := rfl
theorem index_26 (t : Fin cfg0.N) : win0_26.index t = ![0, 0] := rfl
theorem index_27 (t : Fin cfg0.N) : win0_27.index t = ![0, 0] := rfl
theorem index_28 (t : Fin cfg0.N) : win0_28.index t = ![0, 0] := rfl
theorem index_29 (t : Fin cfg0.N) : win0_29.index t = ![0, 0] := rfl
theorem index_30 (t : Fin cfg0.N) : win0_30.index t = ![0, 0] := rfl

variable (t : Fin cfg0.N)

/-- What the blocks hold: their whole arrays. -/
theorem block_0 (i : Fin 4096) (j : Fin 256) : iblk m c 0 t (ix2 i j) = (given m c).x i j := by
  have e : iblk m c 0 t (ix2 i j) = V m c main_arg0 (ix2 i j) := by blk_ext [iblk, index_0]
  rw [e]; entry_read; rfl
theorem block_1 (i : Fin 256) (j : Fin 256) : iblk m c 1 t (ix2 i j) = (given m c).pw0 i j := by
  have e : iblk m c 1 t (ix2 i j) = V m c main_v1 (ix2 i j) := by blk_ext [iblk, index_1]
  rw [e]; entry_read; unfold given Tail.fromArrays; pointwise
theorem block_2 (j : Fin 256) : iblk m c 2 t (ix2 0 j) = (given m c).pb0 j := by
  have e : iblk m c 2 t (ix2 0 j) = V m c main_v4 (ix2 0 j) := by blk_ext [iblk, index_2]
  rw [e]; entry_read; unfold given Tail.fromArrays; pointwise
theorem block_3 (i : Fin 256) (j : Fin 256) : iblk m c 3 t (ix2 i j) = (given m c).pw1 i j := by
  have e : iblk m c 3 t (ix2 i j) = V m c main_v6 (ix2 i j) := by blk_ext [iblk, index_3]
  rw [e]; entry_read; unfold given Tail.fromArrays; pointwise
theorem block_4 (j : Fin 256) : iblk m c 4 t (ix2 0 j) = (given m c).pb1 j := by
  have e : iblk m c 4 t (ix2 0 j) = V m c main_v9 (ix2 0 j) := by blk_ext [iblk, index_4]
  rw [e]; entry_read; unfold given Tail.fromArrays; pointwise
theorem block_5 (i : Fin 256) (j : Fin 256) : iblk m c 5 t (ix2 i j) = (given m c).pw2 i j := by
  have e : iblk m c 5 t (ix2 i j) = V m c main_v11 (ix2 i j) := by blk_ext [iblk, index_5]
  rw [e]; entry_read; unfold given Tail.fromArrays; pointwise
theorem block_6 (j : Fin 256) : iblk m c 6 t (ix2 0 j) = (given m c).pb2 j := by
  have e : iblk m c 6 t (ix2 0 j) = V m c main_v14 (ix2 0 j) := by blk_ext [iblk, index_6]
  rw [e]; entry_read; unfold given Tail.fromArrays; pointwise
theorem block_7 (i : Fin 256) (j : Fin 256) : iblk m c 7 t (ix2 i j) = (given m c).ca i j := by
  have e : iblk m c 7 t (ix2 i j) = V m c main_v15 (ix2 i j) := by blk_ext [iblk, index_7]
  rw [e]; entry_read; unfold given Tail.fromArrays; pointwise
theorem block_8 (i : Fin 256) (j : Fin 256) : iblk m c 8 t (ix2 i j) = (given m c).cb i j := by
  have e : iblk m c 8 t (ix2 i j) = V m c main_v16 (ix2 i j) := by blk_ext [iblk, index_8]
  rw [e]; entry_read; unfold given Tail.fromArrays; pointwise
theorem block_9 (i : Fin 256) (j : Fin 256) : iblk m c 9 t (ix2 i j) = (given m c).cc i j := by
  have e : iblk m c 9 t (ix2 i j) = V m c main_v17 (ix2 i j) := by blk_ext [iblk, index_9]
  rw [e]; entry_read; unfold given Tail.fromArrays; pointwise
theorem block_10 (j : Fin 256) : iblk m c 10 t (ix2 0 j) = (given m c).cs j := by
  have e : iblk m c 10 t (ix2 0 j) = V m c main_v18 (ix2 0 j) := by blk_ext [iblk, index_10]
  rw [e]; entry_read; unfold given Tail.fromArrays; pointwise
theorem block_11 (j : Fin 256) : iblk m c 11 t (ix2 0 j) = (given m c).cg j := by
  have e : iblk m c 11 t (ix2 0 j) = V m c main_v19 (ix2 0 j) := by blk_ext [iblk, index_11]
  rw [e]; entry_read; unfold given Tail.fromArrays; pointwise
theorem block_12 (j : Fin 256) : iblk m c 12 t (ix2 0 j) = (given m c).ch j := by
  have e : iblk m c 12 t (ix2 0 j) = V m c main_v20 (ix2 0 j) := by blk_ext [iblk, index_12]
  rw [e]; entry_read; unfold given Tail.fromArrays; pointwise
theorem block_13 (i : Fin 128) : iblk m c 13 t (ix2 i 0) = (given m c).idx i := by
  have e : iblk m c 13 t (ix2 i 0) = V m c main_v21 (ix2 i 0) := by blk_ext [iblk, index_13]
  rw [e]; entry_read; unfold given Tail.fromArrays; pointwise
theorem block_14 (i : Fin 256) (j : Fin 256) : iblk m c 14 t (ix2 i j) = (given m c).qw i j := by
  have e : iblk m c 14 t (ix2 i j) = V m c main_v23 (ix2 i j) := by blk_ext [iblk, index_14]
  rw [e]; entry_read; unfold given Tail.fromArrays; pointwise
theorem block_15 (j : Fin 256) : iblk m c 15 t (ix2 0 j) = (given m c).qb j := by
  have e : iblk m c 15 t (ix2 0 j) = V m c main_v26 (ix2 0 j) := by blk_ext [iblk, index_15]
  rw [e]; entry_read; unfold given Tail.fromArrays; pointwise
theorem block_16 (i : Fin 256) (j : Fin 256) : iblk m c 16 t (ix2 i j) = (given m c).kw i j := by
  have e : iblk m c 16 t (ix2 i j) = V m c main_v28 (ix2 i j) := by blk_ext [iblk, index_16]
  rw [e]; entry_read; unfold given Tail.fromArrays; pointwise
theorem block_17 (j : Fin 256) : iblk m c 17 t (ix2 0 j) = (given m c).kb j := by
  have e : iblk m c 17 t (ix2 0 j) = V m c main_v31 (ix2 0 j) := by blk_ext [iblk, index_17]
  rw [e]; entry_read; unfold given Tail.fromArrays; pointwise
theorem block_18 (i : Fin 256) (j : Fin 256) : iblk m c 18 t (ix2 i j) = (given m c).vw i j := by
  have e : iblk m c 18 t (ix2 i j) = V m c main_v33 (ix2 i j) := by blk_ext [iblk, index_18]
  rw [e]; entry_read; unfold given Tail.fromArrays; pointwise
theorem block_19 (j : Fin 256) : iblk m c 19 t (ix2 0 j) = (given m c).vb j := by
  have e : iblk m c 19 t (ix2 0 j) = V m c main_v36 (ix2 0 j) := by blk_ext [iblk, index_19]
  rw [e]; entry_read; unfold given Tail.fromArrays; pointwise
theorem block_20 (i : Fin 256) (j : Fin 256) : iblk m c 20 t (ix2 i j) = (given m c).ow i j := by
  have e : iblk m c 20 t (ix2 i j) = V m c main_arg10 (ix2 i j) := by blk_ext [iblk, index_20]
  rw [e]; entry_read; rfl
theorem block_21 (j : Fin 256) : iblk m c 21 t (ix2 0 j) = (given m c).ob j := by
  have e : iblk m c 21 t (ix2 0 j) = V m c main_v37 (ix2 0 j) := by blk_ext [iblk, index_21]
  rw [e]; entry_read; unfold given Tail.fromArrays; pointwise
theorem block_22 (j : Fin 256) : iblk m c 22 t (ix2 0 j) = (given m c).og j := by
  have e : iblk m c 22 t (ix2 0 j) = V m c main_v38 (ix2 0 j) := by blk_ext [iblk, index_22]
  rw [e]; entry_read; unfold given Tail.fromArrays; pointwise
theorem block_23 (j : Fin 256) : iblk m c 23 t (ix2 0 j) = (given m c).oh j := by
  have e : iblk m c 23 t (ix2 0 j) = V m c main_v39 (ix2 0 j) := by blk_ext [iblk, index_23]
  rw [e]; entry_read; unfold given Tail.fromArrays; pointwise
theorem block_24 (i : Fin 256) (j : Fin 128) : iblk m c 24 t (ix2 i j) = (given m c).sw i j := by
  have e : iblk m c 24 t (ix2 i j) = V m c main_arg14 (ix2 i j) := by blk_ext [iblk, index_24]
  rw [e]; entry_read; rfl
theorem block_25 (j : Fin 128) : iblk m c 25 t (ix2 0 j) = (given m c).sb j := by
  have e : iblk m c 25 t (ix2 0 j) = V m c main_v40 (ix2 0 j) := by blk_ext [iblk, index_25]
  rw [e]; entry_read; unfold given Tail.fromArrays; pointwise
theorem block_26 (j : Fin 128) : iblk m c 26 t (ix2 0 j) = (given m c).sg j := by
  have e : iblk m c 26 t (ix2 0 j) = V m c main_v41 (ix2 0 j) := by blk_ext [iblk, index_26]
  rw [e]; entry_read; unfold given Tail.fromArrays; pointwise
theorem block_27 (j : Fin 128) : iblk m c 27 t (ix2 0 j) = (given m c).sh j := by
  have e : iblk m c 27 t (ix2 0 j) = V m c main_v42 (ix2 0 j) := by blk_ext [iblk, index_27]
  rw [e]; entry_read; unfold given Tail.fromArrays; pointwise
theorem block_28 (j : Fin 128) : iblk m c 28 t (ix2 0 j) = (given m c).tw j := by
  have e : iblk m c 28 t (ix2 0 j) = V m c main_v43 (ix2 0 j) := by blk_ext [iblk, index_28]
  rw [e]; entry_read; unfold given Tail.fromArrays; pointwise
theorem block_29 : iblk m c 29 t (ix2 0 0) = (given m c).tb := by
  have e : iblk m c 29 t (ix2 0 0) = V m c main_v44 (ix2 0 0) := by blk_ext [iblk, index_29]
  rw [e]; entry_read; unfold given Tail.fromArrays; pointwise

/-- The blocks hold the launch's numbers. -/
theorem held_eq : held (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) = given m c :=
  held_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (given m c)
    (block_0 m c t) (block_1 m c t) (block_2 m c t) (block_3 m c t) (block_4 m c t) (block_5 m c t) (block_6 m c t) (block_7 m c t) (block_8 m c t) (block_9 m c t) (block_10 m c t) (block_11 m c t) (block_12 m c t) (block_13 m c t) (block_14 m c t) (block_15 m c t) (block_16 m c t) (block_17 m c t) (block_18 m c t) (block_19 m c t) (block_20 m c t) (block_21 m c t) (block_22 m c t) (block_23 m c t) (block_24 m c t) (block_25 m c t) (block_26 m c t) (block_27 m c t) (block_28 m c t) (block_29 m c t)

section InRange

variable (low : ∀ j : Fin 128, 0 ≤ ((given m c).idx j).toInt) (high : ∀ j : Fin 128, ((given m c).idx j).toInt < 4096)
include low high

theorem point_at (n : Fin 4096) : out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (ix2 n 0) = result m c (ix2 n 0) := by
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (fun j => ?_) (fun j => ?_) n).trans ?_
  · exact (congrArg (fun w : BitVec 32 => (0 : ℤ) ≤ w.toInt) (block_13 m c t j)).mpr (low j)
  · exact (congrArg (fun w : BitVec 32 => w.toInt < 4096) (block_13 m c t j)).mpr (high j)
  · rw [held_eq]
    rfl

omit t
/-- The result's block is the whole array of scores. -/
theorem result_eq : (dats m 0 c).arrAt 30 cfg0.N = result m c := by
  refine (dats m 0 c).arrAt_eq_of_covers 30 _ (by decide +kernel) fun t hf y => ?_
  blk_simp
  rw [after0_30]
  have h0 : (y 0).val < 4096 := (y 0).isLt
  have h1 : (y 1).val < 1 := (y 1).isLt
  have e0 : ((win0_30.blk t).view.emb y 0).val = (y 0).val := by blk_simp [index_30]
  have e1 : ((win0_30.blk t).view.emb y 1).val = 0 := by blk_simp [index_30] <;> omega
  have he : (win0_30.blk t).view.emb y = ix2 ⟨(y 0).val, by omega⟩ 0 := by
    rw [eq_ix2 ((win0_30.blk t).view.emb y)]
    exact congrArg₂ (fun a b => ix2 a b) (Fin.ext e0) (Fin.ext e1)
  have hy : y = ix2 ⟨(y 0).val, by omega⟩ 0 := (eq_ix2 y).trans (congrArg₂ (fun a b => ix2 a b) rfl (Fin.ext (by show (y 1).val = 0; omega)))
  rw [he]
  exact (congrArg (out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)) hy).trans (point_at m c t low high _)

end InRange

/-- The program leaves the scores in its result array. -/
theorem value (low : ∀ (c : Dev nD) (j : Fin 128), 0 ≤ ((given m c).idx j).toInt) (high : ∀ (c : Dev nD) (j : Fin 128), ((given m c).idx j).toInt < 4096) :
    θ_run defs (onTc (τ := τ) (main (F := Ideal))) ⟨m, fun _ => 0, ρ⟩ (fun r => ∀ c : Dev nD, r.2.mem ((c.tc : Thread nD τ).loc main_v45) = result m c) :=
  (θ_run defs _ _).mono (fun r h c => ((h c).1 30).trans (result_eq m c (low c) (high c))) (run_main m ρ)

end Cert.Kernel4Ideal.Body

end
-- ==== Proof.Tail.Between.lean ====
module

public import proofs.«01_k».proof.Proof.Tail.Spec
public import proofs.«01_k».proof.Proof.Gen.Reference4Ideal.Run

@[expose] public section

set_option maxRecDepth 16384

noncomputable section

/-! The tail's reference, up to the three scales: the pooled means and their interpolation. -/

namespace Cert.Reference4Ideal.Body

open Cert.Reference4Ideal Cert.Reference4Ideal.Gen Cert.Reference4Ideal.Value
open Idealize.ShloMosaic Idealize.ShloMosaic.TcCoe Idealize.ShloMosaic.Tactic Idealize.ShloMosaic.StableHlo

/-- Taking whole rows by number: the operation's description. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `b` of the rows taken is the row whose number is entry `b`, brought into range. -/
theorem rows_at {α : Type} {N C B w : ℕ} (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (k : IVec ⟨2, ![B, 1]⟩ w) (b : Fin B) (q : Fin C) :
    Host.gather (rowsDims N C B wf) x k (ix2 b q) = x (ix2 ⟨min (k (ix2 b 0)).toInt.toNat (N - 1), by omega⟩ q) := by
  unfold Host.gather
  congr 1
  funext a
  refine Fin.ext ?_
  show (rowsDims N C B wf).start (ix2 b q) k a + (rowsDims N C B wf).batchCoord (ix2 b q) a + (rowsDims N C B wf).offCoord (ix2 b q) a = _
  have two : a = 0 ∨ a = 1 := by
    match a with
    | ⟨0, _⟩ => exact Or.inl rfl
    | ⟨1, _⟩ => exact Or.inr rfl
  rcases two with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B wf).startIndexMap from List.mem_singleton.mpr rfl)]
    have hs : (rowsDims N C B wf).siIdx (ix2 b q) ⟨List.idxOf (0 : Fin 2) (rowsDims N C B wf).startIndexMap,
        List.idxOf_lt_length_iff.2 (List.mem_singleton.mpr rfl)⟩ = ix2 b 0 := by
      funext d
      refine Fin.ext ?_
      match d with
      | ⟨0, _⟩ => rfl
      | ⟨1, _⟩ => rfl
    rw [hs]
    rfl
  · rw [GatherDims.batchCoord_eq_zero _ _ _ (fun h => by simp at h)]
    unfold GatherDims.start GatherDims.offCoord
    rw [dif_neg (show ¬ (1 : Fin 2) ∈ (rowsDims N C B wf).startIndexMap from by simp)]
    rw [dif_pos (show (1 : Fin 2) ∈ (rowsDims N C B wf).sKept from (GatherDims.mem_sKept _ _).mpr ⟨by simp, by simp⟩)]
    simp only [Nat.zero_add]
    rfl

/-! ## The numbers that the programs write as words -/

theorem word_half : Ideal.ofBits .f32 0x3F000000#32 = ((1 / 2 : ℝ) : EReal) := by
  simp [Ideal.ofBits, Ideal.ieee, -EReal.coe_mul]
  try norm_num
theorem word_two : Ideal.ofBits .f32 0x40000000#32 = ((2 : ℝ) : EReal) := by
  simp [Ideal.ofBits, Ideal.ieee, -EReal.coe_mul]
  try norm_num
theorem word_four : Ideal.ofBits .f32 0x40800000#32 = ((4 : ℝ) : EReal) := by
  simp [Ideal.ofBits, Ideal.ieee, -EReal.coe_mul]
  try norm_num
theorem word_one : Ideal.ofBits .f32 0x3F800000#32 = ((1 : ℝ) : EReal) := by
  simp [Ideal.ofBits, Ideal.ieee, -EReal.coe_mul]
  try norm_num
theorem word_quarter : Ideal.ofBits .f32 0x3E800000#32 = ((1 / 4 : ℝ) : EReal) := by
  simp [Ideal.ofBits, Ideal.ieee, -EReal.coe_mul]
  try norm_num
theorem word_quarters3 : Ideal.ofBits .f32 0x3F400000#32 = ((3 / 4 : ℝ) : EReal) := by
  simp [Ideal.ofBits, Ideal.ieee, -EReal.coe_mul]
  try norm_num
theorem word_eighth : Ideal.ofBits .f32 0x3E000000#32 = ((1 / 8 : ℝ) : EReal) := by
  simp [Ideal.ofBits, Ideal.ieee, -EReal.coe_mul]
  try norm_num
theorem word_eighths3 : Ideal.ofBits .f32 0x3EC00000#32 = ((3 / 8 : ℝ) : EReal) := by
  simp [Ideal.ofBits, Ideal.ieee, -EReal.coe_mul]
  try norm_num
theorem word_eighths5 : Ideal.ofBits .f32 0x3F200000#32 = ((5 / 8 : ℝ) : EReal) := by
  simp [Ideal.ofBits, Ideal.ieee, -EReal.coe_mul]
  try norm_num
theorem word_eighths7 : Ideal.ofBits .f32 0x3F600000#32 = ((7 / 8 : ℝ) : EReal) := by
  simp [Ideal.ofBits, Ideal.ieee, -EReal.coe_mul]
  try norm_num
theorem word_eight : Ideal.ofBits .f32 0x41000000#32 = ((8 : ℝ) : EReal) := by
  simp [Ideal.ofBits, Ideal.ieee, -EReal.coe_mul]
  try norm_num

theorem word_nat (n : ℕ) (h : n < 2 ^ 31) : (BitVec.ofNat 32 n).toInt = (n : ℤ) := by
  rw [BitVec.toInt_ofNat']
  simp only [Int.bmod_def]
  omega

theorem number (n : ℕ) (h : n < 2 ^ 31) : FloatOps.sitofp (F := Ideal) FTy.f32 (BitVec.ofNat 32 n) = ((n : ℝ) : EReal) := by
  show (((BitVec.ofNat 32 n).toInt : ℝ) : EReal) = _
  rw [word_nat n h]
  norm_cast

theorem max_coe (a b : ℝ) : max (a : EReal) (b : EReal) = ((max a b : ℝ) : EReal) :=
  ((EReal.coe_strictMono.monotone).map_max (a := a) (b := b)).symm

/-- A number's whole part, as a word. -/
theorem whole_part (r : ℝ) (k : ℕ) (hk : k < 4096) (h0 : 0 ≤ r) (h : ⌊r⌋ = (k : ℤ)) :
    FloatOps.fptosi (F := Ideal) (φ := FTy.f32) 32 (Ideal.liftRound Int.floor (r : EReal)) = BitVec.ofNat 32 k := by
  show BitVec.ofInt 32 (Ideal.toIntClamped (-(2 ^ (32 - 1) : ℕ)) ((2 ^ (32 - 1) : ℕ) - 1) (((⌊r⌋ : ℝ)) : EReal)) = _
  rw [h, Ideal.toIntClamped_coe]
  have e : (if 0 ≤ (((k : ℤ) : ℝ)) then ⌊((k : ℤ) : ℝ)⌋ else ⌈((k : ℤ) : ℝ)⌉) = (k : ℤ) := by
    rw [if_pos (by exact_mod_cast Nat.zero_le k), Int.floor_intCast]
  rw [e]
  have e2 : max (-((2 ^ (32 - 1) : ℕ) : ℤ)) (min (((2 ^ (32 - 1) : ℕ) : ℤ) - 1) (k : ℤ)) = (k : ℤ) := by
    norm_num
    omega
  rw [e2]
  rfl

/-- The smaller of a number's successor and a bound, as words. -/
theorem word_min (l M : ℕ) (hl : l < 4096) (hM : M < 4096) :
    IntOp.minsi (IntOp.addi (BitVec.ofNat 32 l) 1#32) (BitVec.ofNat 32 M) = BitVec.ofNat 32 (min (l + 1) M) := by
  have e : IntOp.addi (BitVec.ofNat 32 l) 1#32 = BitVec.ofNat 32 (l + 1) := by
    unfold IntOp.addi
    apply BitVec.eq_of_toNat_eq
    simp
  rw [e]
  unfold IntOp.minsi
  rw [BitVec.slt, word_nat _ (by omega), word_nat _ (by omega)]
  by_cases h : l + 1 < M
  · rw [if_pos (by simpa using (by exact_mod_cast h : ((l + 1 : ℕ) : ℤ) < (M : ℤ))), min_eq_left h.le]
  · rw [if_neg (by simpa using (by exact_mod_cast (not_lt.mp h) : (M : ℤ) ≤ ((l + 1 : ℕ) : ℤ))), min_eq_right (not_lt.mp h)]

/-- A number that is not negative needs no correction before it picks a row. -/
theorem word_pick (l : ℕ) (hl : l < 2 ^ 31) (a : BitVec 32) :
    Scalar.select (IntOp.cmpi CmpIPredicate.slt (BitVec.ofNat 32 l) 0#32) a (BitVec.ofNat 32 l) = BitVec.ofNat 32 l := by
  have e : (BitVec.ofNat 32 l).slt 0#32 = false := by
    rw [BitVec.slt, word_nat _ hl]
    simp
  unfold Scalar.select IntOp.cmpi
  rw [e]
  rfl

/-- Shares that add to one, of one number. -/
theorem shares (a b : ℝ) (ha : 0 ≤ a) (hb : 0 ≤ b) (h : a + b = 1) (x : EReal) : (a : EReal) * x + (b : EReal) * x = x := by
  rw [← EReal.right_distrib_of_nonneg (by exact_mod_cast ha) (by exact_mod_cast hb), ← EReal.coe_add, h, EReal.coe_one, one_mul]

variable (V0 : Valuation τ sig (Elt Ideal))

/-! ## Means of 2 rows -/

theorem floor2 (n : ℕ) : ⌊max ((2 * (n : ℝ) - 1) / 4) 0⌋ = (((n - 1) / 2 : ℕ) : ℤ) := by
  obtain h | ⟨k, j, hj, rfl⟩ : n < 1 ∨ ∃ k j : ℕ, j < 2 ∧ n = 2 * k + j + 1 := by
    by_cases h : n < 1
    · exact Or.inl h
    · exact Or.inr ⟨(n - 1) / 2, (n - 1) % 2, by omega, by omega⟩
  · rw [show (n - 1) / 2 = 0 by omega, max_eq_right]
    · simp
    · have : (n : ℝ) ≤ 1 - 1 := by
        have : n ≤ 1 - 1 := by omega
        interval_cases n <;> norm_num
      rw [div_le_iff₀ (by norm_num)]
      linarith
  · rw [show (2 * k + j + 1 - 1) / 2 = k by omega, Int.floor_eq_iff]
    have hk : (0 : ℝ) ≤ (k : ℝ) := Nat.cast_nonneg k
    have h0 : (0 : ℝ) ≤ (j : ℝ) := Nat.cast_nonneg j
    have h1 : (j : ℝ) ≤ 1 := by
      have : j ≤ 1 := by omega
      exact_mod_cast this
    push_cast
    rw [max_eq_left (by rw [le_div_iff₀ (by norm_num)]; linarith)]
    constructor
    · rw [le_div_iff₀ (by norm_num)]
      linarith
    · rw [div_lt_iff₀ (by norm_num)]
      linarith

theorem mean2_at (i : Fin 2048) (q : Fin 256) :
    (res_main_v11 (F := Ideal) V0 : FVec Ideal S2048x256 .f32) (ix2 i q) = Tail.mean2 (fun n q => (V0 (Proc.devRef .tc main_arg0) : FVec Ideal S4096x256 .f32) (ix2 n q)) i q := by
  pointwise [res_main_v11, Tail.mean2]
  rw [word_two, Ideal.div_coe (by norm_num), word_half, Fin.sum_univ_two]
  simp only [Nat.mul_comm i.val 2]
  rfl

/-- Where row `n` lies among the means. -/
theorem place2_at (n : Fin 4096) :
    (res_main_v20 (F := Ideal) V0 : FVec Ideal S4096 .f32) (ix1 n) = ((max ((2 * (n.val : ℝ) - 1) / 4) 0 : ℝ) : EReal) := by
  pointwise [res_main_v20]
  rw [number _ (by omega), word_half, word_two, Ideal.div_coe (by norm_num), ← EReal.coe_add, ← EReal.coe_mul, ← EReal.coe_sub, ← EReal.coe_zero, max_coe]
  congr 2
  ring

/-- The mean before it. -/
theorem low2_at (n : Fin 4096) :
    (res_main_v22 (F := Ideal) V0 : IVec S4096 32) (ix1 n) = BitVec.ofNat 32 ((n.val - 1) / 2) := by
  have e := place2_at V0 n
  unfold res_main_v22
  generalize (res_main_v20 (F := Ideal) V0 : FVec Ideal S4096 .f32) = p at *
  pointwise
  rw [e]
  exact whole_part _ _ (by omega) (le_max_right _ _) (floor2 n.val)

/-- The mean after it. -/
theorem high2_at (n : Fin 4096) :
    (res_main_v26 (F := Ideal) V0 : IVec S4096 32) (ix1 n) = BitVec.ofNat 32 (min ((n.val - 1) / 2 + 1) 2047) := by
  have e := low2_at V0 n
  unfold res_main_v26
  generalize (res_main_v22 (F := Ideal) V0 : IVec S4096 32) = p at *
  pointwise
  rw [e]
  exact word_min _ _ (by omega) (by norm_num)

/-- How far it lies beyond the mean before it. -/
theorem rest2_at (n : Fin 4096) :
    (res_main_v29 (F := Ideal) V0 : FVec Ideal S4096x1 .f32) (ix2 n 0) = ((max ((2 * (n.val : ℝ) - 1) / 4) 0 - (((n.val - 1) / 2 : ℕ) : ℝ) : ℝ) : EReal) := by
  have e1 := place2_at V0 n
  have e2 := low2_at V0 n
  unfold res_main_v29
  generalize (res_main_v22 (F := Ideal) V0 : IVec S4096 32) = p at *
  generalize (res_main_v20 (F := Ideal) V0 : FVec Ideal S4096 .f32) = r at *
  pointwise
  rw [e1, e2, number _ (by omega), EReal.coe_sub]

/-- Rows of the means, by number. -/
def picked2 (p : FVec Ideal S2048x256 .f32) (k : IVec S4096 32) : FVec Ideal S4096x256 .f32 :=
  Host.gather gather_S2048x256_S4096x1_S4096x256_1_0_n_n_0_1_1256 p (broadcastInDim S4096x1 ![0] bcast_S4096_S4096x1_0 (select (cmpi .slt k (broadcastInDim S4096 ![] bcast_S_S4096 (constantI S_ 32 0#32))) (addi k (broadcastInDim S4096 ![] bcast_S_S4096 (constantI S_ 32 2048#32))) k))

theorem picked2_at (p : FVec Ideal S2048x256 .f32) (k : IVec S4096 32) (n : Fin 4096) (l : ℕ) (hl : l < 2048) (h : k (ix1 n) = BitVec.ofNat 32 l) (q : Fin 256) :
    picked2 p k (ix2 n q) = p (ix2 ⟨l, hl⟩ q) := by
  unfold picked2
  refine (rows_at (by norm_num) _ p _ n q).trans ?_
  refine congrArg (fun i => p (ix2 i q)) (Fin.ext ?_)
  show min _ (2048 - 1) = l
  pointwise
  rw [h, word_pick _ (by omega), word_nat _ (by omega)]
  omega

/-- How far row `n` lies beyond the mean before it, as a number. -/
theorem rest2_eq (k j : ℕ) (hj : j < 2) :
    max ((2 * ((2 * k + j + 1 : ℕ) : ℝ) - 1) / 4) 0 - (((2 * k + j + 1 - 1) / 2 : ℕ) : ℝ) = (2 * (j : ℝ) + 1) / 4 := by
  have hk : (0 : ℝ) ≤ (k : ℝ) := Nat.cast_nonneg k
  have h0 : (0 : ℝ) ≤ (j : ℝ) := Nat.cast_nonneg j
  rw [show (2 * k + j + 1 - 1) / 2 = k by omega]
  push_cast
  rw [max_eq_left (by rw [le_div_iff₀ (by norm_num)]; linarith)]
  ring

theorem rest2_zero (n : ℕ) (h : n < 1) : max ((2 * (n : ℝ) - 1) / 4) 0 - (((n - 1) / 2 : ℕ) : ℝ) = 0 := by
  rw [show (n - 1) / 2 = 0 by omega, max_eq_right]
  · simp
  · have : (n : ℝ) ≤ 1 - 1 := by
      have : n ≤ 1 - 1 := by omega
      interval_cases n <;> norm_num
    rw [div_le_iff₀ (by norm_num)]
    linarith

/-- The interpolation between the mean before and the mean after. -/
theorem blend2 (x : Fin 4096 → Fin 256 → EReal) (n : Fin 4096) (q : Fin 256) :
    Tail.mean2 x ⟨(n.val - 1) / 2, by omega⟩ q * (((1 : ℝ) : EReal) - ((max ((2 * (n.val : ℝ) - 1) / 4) 0 - (((n.val - 1) / 2 : ℕ) : ℝ) : ℝ) : EReal))
      + Tail.mean2 x ⟨min ((n.val - 1) / 2 + 1) 2047, by omega⟩ q * ((max ((2 * (n.val : ℝ) - 1) / 4) 0 - (((n.val - 1) / 2 : ℕ) : ℝ) : ℝ) : EReal)
      = Tail.up2 x n q := by
  have key (p : Fin 2048 → EReal) : p ⟨(n.val - 1) / 2, by omega⟩ * (((1 : ℝ) : EReal) - ((max ((2 * (n.val : ℝ) - 1) / 4) 0 - (((n.val - 1) / 2 : ℕ) : ℝ) : ℝ) : EReal))
      + p ⟨min ((n.val - 1) / 2 + 1) 2047, by omega⟩ * ((max ((2 * (n.val : ℝ) - 1) / 4) 0 - (((n.val - 1) / 2 : ℕ) : ℝ) : ℝ) : EReal)
      = (if n.val % 2 = 0 then Ideal.ofBits .f32 0x3E800000#32 * p ⟨n.val / 2 - 1, by omega⟩ + Ideal.ofBits .f32 0x3F400000#32 * p ⟨n.val / 2, by omega⟩ else Ideal.ofBits .f32 0x3F400000#32 * p ⟨n.val / 2, by omega⟩ + Ideal.ofBits .f32 0x3E800000#32 * p ⟨min (n.val / 2 + 1) 2047, by omega⟩) := by
    obtain ⟨n, hn⟩ := n
    simp only
    obtain h | ⟨k, j, hj, rfl⟩ : n < 1 ∨ ∃ k j : ℕ, j < 2 ∧ n = 2 * k + j + 1 := by
      by_cases h : n < 1
      · exact Or.inl h
      · exact Or.inr ⟨(n - 1) / 2, (n - 1) % 2, by omega, by omega⟩
    · have same (i : Fin 2048) (hi : i.val = 0) : p i = p ⟨0, by norm_num⟩ := congrArg p (Fin.ext hi)
      rw [rest2_zero n h, ← EReal.coe_sub, sub_zero, EReal.coe_zero, EReal.coe_one, mul_one, mul_zero, add_zero]
      rw [same ⟨(n - 1) / 2, by omega⟩ (by show (n - 1) / 2 = 0; omega), same ⟨n / 2 - 1, by omega⟩ (by show n / 2 - 1 = 0; omega), same ⟨n / 2, by omega⟩ (by show n / 2 = 0; omega)]
      rw [if_pos (by omega), word_quarter, word_quarters3, shares _ _ (by norm_num) (by norm_num) (by norm_num)]
    · rw [rest2_eq k j hj, ← EReal.coe_sub, mul_comm (p ⟨(2 * k + j + 1 - 1) / 2, by omega⟩), mul_comm (p ⟨min ((2 * k + j + 1 - 1) / 2 + 1) 2047, by omega⟩)]
      interval_cases j
      · rw [if_neg (by omega), word_quarters3, word_quarter]
        refine congrArg₂ (· + ·) (congrArg₂ (· * ·) (congrArg _ (by norm_num)) (congrArg p (Fin.ext ?_))) (congrArg₂ (· * ·) (congrArg _ (by norm_num)) (congrArg p (Fin.ext ?_))) <;> simp only <;> omega
      · rw [if_pos (by omega), word_quarter, word_quarters3]
        refine congrArg₂ (· + ·) (congrArg₂ (· * ·) (congrArg _ (by norm_num)) (congrArg p (Fin.ext ?_))) (congrArg₂ (· * ·) (congrArg _ (by norm_num)) (congrArg p (Fin.ext ?_))) <;> simp only <;> omega
  exact key fun i => Tail.mean2 x i q

/-- The means of 2 rows, interpolated. -/
def blended2 (p : FVec Ideal S2048x256 .f32) (k l : IVec S4096 32) (r : FVec Ideal S4096x1 .f32) : FVec Ideal S4096x256 .f32 :=
  addf (mulf (picked2 p k) (broadcastInDim S4096x256 ![0, 1] bcast_S4096x1_S4096x256_0_1 (subf (broadcastInDim S4096x1 ![] bcast_S_S4096x1 (constant S_ .f32 0x3F800000#32)) r)))
    (mulf (picked2 p l) (broadcastInDim S4096x256 ![0, 1] bcast_S4096x1_S4096x256_0_1 r))

theorem blended2_at (n : Fin 4096) (q : Fin 256) :
    blended2 (res_main_v11 (F := Ideal) V0) (res_main_v22 (F := Ideal) V0) (res_main_v26 (F := Ideal) V0) (res_main_v29 (F := Ideal) V0) (ix2 n q)
      = Tail.up2 (fun n q => (V0 (Proc.devRef .tc main_arg0) : FVec Ideal S4096x256 .f32) (ix2 n q)) n q := by
  rw [← blend2, ← mean2_at, ← mean2_at, ← rest2_at V0 n]
  rw [← picked2_at (res_main_v11 (F := Ideal) V0) (res_main_v22 (F := Ideal) V0) n _ (by omega) (low2_at V0 n) q,
    ← picked2_at (res_main_v11 (F := Ideal) V0) (res_main_v26 (F := Ideal) V0) n _ (by omega) (high2_at V0 n) q, ← word_one]
  unfold blended2
  generalize picked2 (res_main_v11 (F := Ideal) V0) (res_main_v22 (F := Ideal) V0) = a
  generalize picked2 (res_main_v11 (F := Ideal) V0) (res_main_v26 (F := Ideal) V0) = b
  generalize (res_main_v29 (F := Ideal) V0 : FVec Ideal S4096x1 .f32) = r
  pointwise

/-! ## Means of 4 rows -/

theorem floor4 (n : ℕ) : ⌊max ((2 * (n : ℝ) - 3) / 8) 0⌋ = (((n - 2) / 4 : ℕ) : ℤ) := by
  obtain h | ⟨k, j, hj, rfl⟩ : n < 2 ∨ ∃ k j : ℕ, j < 4 ∧ n = 4 * k + j + 2 := by
    by_cases h : n < 2
    · exact Or.inl h
    · exact Or.inr ⟨(n - 2) / 4, (n - 2) % 4, by omega, by omega⟩
  · rw [show (n - 2) / 4 = 0 by omega, max_eq_right]
    · simp
    · have : (n : ℝ) ≤ 2 - 1 := by
        have : n ≤ 2 - 1 := by omega
        interval_cases n <;> norm_num
      rw [div_le_iff₀ (by norm_num)]
      linarith
  · rw [show (4 * k + j + 2 - 2) / 4 = k by omega, Int.floor_eq_iff]
    have hk : (0 : ℝ) ≤ (k : ℝ) := Nat.cast_nonneg k
    have h0 : (0 : ℝ) ≤ (j : ℝ) := Nat.cast_nonneg j
    have h1 : (j : ℝ) ≤ 3 := by
      have : j ≤ 3 := by omega
      exact_mod_cast this
    push_cast
    rw [max_eq_left (by rw [le_div_iff₀ (by norm_num)]; linarith)]
    constructor
    · rw [le_div_iff₀ (by norm_num)]
      linarith
    · rw [div_lt_iff₀ (by norm_num)]
      linarith

theorem mean4_at (i : Fin 1024) (q : Fin 256) :
    (res_main_v62 (F := Ideal) V0 : FVec Ideal S1024x256 .f32) (ix2 i q) = Tail.mean4 (fun n q => (V0 (Proc.devRef .tc main_arg0) : FVec Ideal S4096x256 .f32) (ix2 n q)) i q := by
  pointwise [res_main_v62, Tail.mean4]
  rw [word_four, Ideal.div_coe (by norm_num), word_quarter, Fin.sum_univ_four]
  simp only [Nat.mul_comm i.val 4]
  rfl

/-- Where row `n` lies among the means. -/
theorem place4_at (n : Fin 4096) :
    (res_main_v71 (F := Ideal) V0 : FVec Ideal S4096 .f32) (ix1 n) = ((max ((2 * (n.val : ℝ) - 3) / 8) 0 : ℝ) : EReal) := by
  pointwise [res_main_v71]
  rw [number _ (by omega), word_half, word_four, Ideal.div_coe (by norm_num), ← EReal.coe_add, ← EReal.coe_mul, ← EReal.coe_sub, ← EReal.coe_zero, max_coe]
  congr 2
  ring

/-- The mean before it. -/
theorem low4_at (n : Fin 4096) :
    (res_main_v73 (F := Ideal) V0 : IVec S4096 32) (ix1 n) = BitVec.ofNat 32 ((n.val - 2) / 4) := by
  have e := place4_at V0 n
  unfold res_main_v73
  generalize (res_main_v71 (F := Ideal) V0 : FVec Ideal S4096 .f32) = p at *
  pointwise
  rw [e]
  exact whole_part _ _ (by omega) (le_max_right _ _) (floor4 n.val)

/-- The mean after it. -/
theorem high4_at (n : Fin 4096) :
    (res_main_v77 (F := Ideal) V0 : IVec S4096 32) (ix1 n) = BitVec.ofNat 32 (min ((n.val - 2) / 4 + 1) 1023) := by
  have e := low4_at V0 n
  unfold res_main_v77
  generalize (res_main_v73 (F := Ideal) V0 : IVec S4096 32) = p at *
  pointwise
  rw [e]
  exact word_min _ _ (by omega) (by norm_num)

/-- How far it lies beyond the mean before it. -/
theorem rest4_at (n : Fin 4096) :
    (res_main_v80 (F := Ideal) V0 : FVec Ideal S4096x1 .f32) (ix2 n 0) = ((max ((2 * (n.val : ℝ) - 3) / 8) 0 - (((n.val - 2) / 4 : ℕ) : ℝ) : ℝ) : EReal) := by
  have e1 := place4_at V0 n
  have e2 := low4_at V0 n
  unfold res_main_v80
  generalize (res_main_v73 (F := Ideal) V0 : IVec S4096 32) = p at *
  generalize (res_main_v71 (F := Ideal) V0 : FVec Ideal S4096 .f32) = r at *
  pointwise
  rw [e1, e2, number _ (by omega), EReal.coe_sub]

/-- Rows of the means, by number. -/
def picked4 (p : FVec Ideal S1024x256 .f32) (k : IVec S4096 32) : FVec Ideal S4096x256 .f32 :=
  Host.gather gather_S1024x256_S4096x1_S4096x256_1_0_n_n_0_1_1256 p (broadcastInDim S4096x1 ![0] bcast_S4096_S4096x1_0 (select (cmpi .slt k (broadcastInDim S4096 ![] bcast_S_S4096 (constantI S_ 32 0#32))) (addi k (broadcastInDim S4096 ![] bcast_S_S4096 (constantI S_ 32 1024#32))) k))

theorem picked4_at (p : FVec Ideal S1024x256 .f32) (k : IVec S4096 32) (n : Fin 4096) (l : ℕ) (hl : l < 1024) (h : k (ix1 n) = BitVec.ofNat 32 l) (q : Fin 256) :
    picked4 p k (ix2 n q) = p (ix2 ⟨l, hl⟩ q) := by
  unfold picked4
  refine (rows_at (by norm_num) _ p _ n q).trans ?_
  refine congrArg (fun i => p (ix2 i q)) (Fin.ext ?_)
  show min _ (1024 - 1) = l
  pointwise
  rw [h, word_pick _ (by omega), word_nat _ (by omega)]
  omega

/-- How far row `n` lies beyond the mean before it, as a number. -/
theorem rest4_eq (k j : ℕ) (hj : j < 4) :
    max ((2 * ((4 * k + j + 2 : ℕ) : ℝ) - 3) / 8) 0 - (((4 * k + j + 2 - 2) / 4 : ℕ) : ℝ) = (2 * (j : ℝ) + 1) / 8 := by
  have hk : (0 : ℝ) ≤ (k : ℝ) := Nat.cast_nonneg k
  have h0 : (0 : ℝ) ≤ (j : ℝ) := Nat.cast_nonneg j
  rw [show (4 * k + j + 2 - 2) / 4 = k by omega]
  push_cast
  rw [max_eq_left (by rw [le_div_iff₀ (by norm_num)]; linarith)]
  ring

theorem rest4_zero (n : ℕ) (h : n < 2) : max ((2 * (n : ℝ) - 3) / 8) 0 - (((n - 2) / 4 : ℕ) : ℝ) = 0 := by
  rw [show (n - 2) / 4 = 0 by omega, max_eq_right]
  · simp
  · have : (n : ℝ) ≤ 2 - 1 := by
      have : n ≤ 2 - 1 := by omega
      interval_cases n <;> norm_num
    rw [div_le_iff₀ (by norm_num)]
    linarith

/-- The interpolation between the mean before and the mean after. -/
theorem blend4 (x : Fin 4096 → Fin 256 → EReal) (n : Fin 4096) (q : Fin 256) :
    Tail.mean4 x ⟨(n.val - 2) / 4, by omega⟩ q * (((1 : ℝ) : EReal) - ((max ((2 * (n.val : ℝ) - 3) / 8) 0 - (((n.val - 2) / 4 : ℕ) : ℝ) : ℝ) : EReal))
      + Tail.mean4 x ⟨min ((n.val - 2) / 4 + 1) 1023, by omega⟩ q * ((max ((2 * (n.val : ℝ) - 3) / 8) 0 - (((n.val - 2) / 4 : ℕ) : ℝ) : ℝ) : EReal)
      = Tail.up4 x n q := by
  have key (p : Fin 1024 → EReal) : p ⟨(n.val - 2) / 4, by omega⟩ * (((1 : ℝ) : EReal) - ((max ((2 * (n.val : ℝ) - 3) / 8) 0 - (((n.val - 2) / 4 : ℕ) : ℝ) : ℝ) : EReal))
      + p ⟨min ((n.val - 2) / 4 + 1) 1023, by omega⟩ * ((max ((2 * (n.val : ℝ) - 3) / 8) 0 - (((n.val - 2) / 4 : ℕ) : ℝ) : ℝ) : EReal)
      = (if n.val % 4 = 0 then Ideal.ofBits .f32 0x3EC00000#32 * p ⟨n.val / 4 - 1, by omega⟩ + Ideal.ofBits .f32 0x3F200000#32 * p ⟨n.val / 4, by omega⟩ else if n.val % 4 = 1 then Ideal.ofBits .f32 0x3E000000#32 * p ⟨n.val / 4 - 1, by omega⟩ + Ideal.ofBits .f32 0x3F600000#32 * p ⟨n.val / 4, by omega⟩ else if n.val % 4 = 2 then Ideal.ofBits .f32 0x3F600000#32 * p ⟨n.val / 4, by omega⟩ + Ideal.ofBits .f32 0x3E000000#32 * p ⟨min (n.val / 4 + 1) 1023, by omega⟩ else Ideal.ofBits .f32 0x3F200000#32 * p ⟨n.val / 4, by omega⟩ + Ideal.ofBits .f32 0x3EC00000#32 * p ⟨min (n.val / 4 + 1) 1023, by omega⟩) := by
    obtain ⟨n, hn⟩ := n
    simp only
    obtain h | ⟨k, j, hj, rfl⟩ : n < 2 ∨ ∃ k j : ℕ, j < 4 ∧ n = 4 * k + j + 2 := by
      by_cases h : n < 2
      · exact Or.inl h
      · exact Or.inr ⟨(n - 2) / 4, (n - 2) % 4, by omega, by omega⟩
    · have same (i : Fin 1024) (hi : i.val = 0) : p i = p ⟨0, by norm_num⟩ := congrArg p (Fin.ext hi)
      rw [rest4_zero n h, ← EReal.coe_sub, sub_zero, EReal.coe_zero, EReal.coe_one, mul_one, mul_zero, add_zero]
      rw [same ⟨(n - 2) / 4, by omega⟩ (by show (n - 2) / 4 = 0; omega), same ⟨n / 4 - 1, by omega⟩ (by show n / 4 - 1 = 0; omega), same ⟨n / 4, by omega⟩ (by show n / 4 = 0; omega)]
      by_cases hz : n % 4 = 0
      · rw [if_pos hz, word_eighths3, word_eighths5, shares _ _ (by norm_num) (by norm_num) (by norm_num)]
      · rw [if_neg hz, if_pos (by omega), word_eighth, word_eighths7, shares _ _ (by norm_num) (by norm_num) (by norm_num)]
    · rw [rest4_eq k j hj, ← EReal.coe_sub, mul_comm (p ⟨(4 * k + j + 2 - 2) / 4, by omega⟩), mul_comm (p ⟨min ((4 * k + j + 2 - 2) / 4 + 1) 1023, by omega⟩)]
      interval_cases j
      · rw [if_neg (by omega), if_neg (by omega), if_pos (by omega), word_eighths7, word_eighth]
        refine congrArg₂ (· + ·) (congrArg₂ (· * ·) (congrArg _ (by norm_num)) (congrArg p (Fin.ext ?_))) (congrArg₂ (· * ·) (congrArg _ (by norm_num)) (congrArg p (Fin.ext ?_))) <;> simp only <;> omega
      · rw [if_neg (by omega), if_neg (by omega), if_neg (by omega), word_eighths5, word_eighths3]
        refine congrArg₂ (· + ·) (congrArg₂ (· * ·) (congrArg _ (by norm_num)) (congrArg p (Fin.ext ?_))) (congrArg₂ (· * ·) (congrArg _ (by norm_num)) (congrArg p (Fin.ext ?_))) <;> simp only <;> omega
      · rw [if_pos (by omega), word_eighths3, word_eighths5]
        refine congrArg₂ (· + ·) (congrArg₂ (· * ·) (congrArg _ (by norm_num)) (congrArg p (Fin.ext ?_))) (congrArg₂ (· * ·) (congrArg _ (by norm_num)) (congrArg p (Fin.ext ?_))) <;> simp only <;> omega
      · rw [if_neg (by omega), if_pos (by omega), word_eighth, word_eighths7]
        refine congrArg₂ (· + ·) (congrArg₂ (· * ·) (congrArg _ (by norm_num)) (congrArg p (Fin.ext ?_))) (congrArg₂ (· * ·) (congrArg _ (by norm_num)) (congrArg p (Fin.ext ?_))) <;> simp only <;> omega
  exact key fun i => Tail.mean4 x i q

/-- The means of 4 rows, interpolated. -/
def blended4 (p : FVec Ideal S1024x256 .f32) (k l : IVec S4096 32) (r : FVec Ideal S4096x1 .f32) : FVec Ideal S4096x256 .f32 :=
  addf (mulf (picked4 p k) (broadcastInDim S4096x256 ![0, 1] bcast_S4096x1_S4096x256_0_1 (subf (broadcastInDim S4096x1 ![] bcast_S_S4096x1 (constant S_ .f32 0x3F800000#32)) r)))
    (mulf (picked4 p l) (broadcastInDim S4096x256 ![0, 1] bcast_S4096x1_S4096x256_0_1 r))

theorem blended4_at (n : Fin 4096) (q : Fin 256) :
    blended4 (res_main_v62 (F := Ideal) V0) (res_main_v73 (F := Ideal) V0) (res_main_v77 (F := Ideal) V0) (res_main_v80 (F := Ideal) V0) (ix2 n q)
      = Tail.up4 (fun n q => (V0 (Proc.devRef .tc main_arg0) : FVec Ideal S4096x256 .f32) (ix2 n q)) n q := by
  rw [← blend4, ← mean4_at, ← mean4_at, ← rest4_at V0 n]
  rw [← picked4_at (res_main_v62 (F := Ideal) V0) (res_main_v73 (F := Ideal) V0) n _ (by omega) (low4_at V0 n) q,
    ← picked4_at (res_main_v62 (F := Ideal) V0) (res_main_v77 (F := Ideal) V0) n _ (by omega) (high4_at V0 n) q, ← word_one]
  unfold blended4
  generalize picked4 (res_main_v62 (F := Ideal) V0) (res_main_v73 (F := Ideal) V0) = a
  generalize picked4 (res_main_v62 (F := Ideal) V0) (res_main_v77 (F := Ideal) V0) = b
  generalize (res_main_v80 (F := Ideal) V0 : FVec Ideal S4096x1 .f32) = r
  pointwise

end Cert.Reference4Ideal.Body

end
-- ==== Proof.Tail.Reference.lean ====
module

public import proofs.«01_k».proof.Proof.Tail.Between

@[expose] public section

set_option maxRecDepth 16384

noncomputable section

/-! What the tail's reference leaves in its result array: the scores. -/

namespace Cert.Reference4Ideal.Body

open Cert.Reference4Ideal Cert.Reference4Ideal.Gen Cert.Reference4Ideal.Value
open Idealize.ShloMosaic Idealize.ShloMosaic.TcCoe Idealize.ShloMosaic.Tactic Idealize.ShloMosaic.StableHlo

/-- A sum over 768 columns, by thirds. -/
theorem sum_thirds (f : Fin 768 → EReal) :
    ∑ i, f i = (∑ i : Fin 256, f ⟨i.val, by omega⟩) + (∑ i : Fin 256, f ⟨256 + i.val, by omega⟩) + ∑ i : Fin 256, f ⟨512 + i.val, by omega⟩ := by
  refine (Fin.sum_univ_add (a := 512) (b := 256) f).trans ?_
  exact congrArg (· + ∑ i : Fin 256, f ⟨512 + i.val, by omega⟩) (Norm.sum_halves fun i => f ⟨i.val, by omega⟩)

/-- A sum over the 256 columns, head by head. -/
theorem sum_heads (f : Fin 256 → EReal) :
    ∑ i, f i = (∑ d, f (Tail.col 0 d)) + (∑ d, f (Tail.col 1 d)) + (∑ d, f (Tail.col 2 d)) + ∑ d, f (Tail.col 3 d) := by
  refine (Fin.sum_univ_add (a := 192) (b := 64) f).trans ?_
  refine congrArg₂ (· + ·) ?_ rfl
  refine (Fin.sum_univ_add (a := 128) (b := 64) fun i : Fin 192 => f ⟨i.val, by omega⟩).trans ?_
  refine congrArg₂ (· + ·) ?_ rfl
  refine (Fin.sum_univ_add (a := 64) (b := 64) fun i : Fin 128 => f ⟨i.val, by omega⟩).trans ?_
  refine congrArg₂ (· + ·) (Finset.sum_congr rfl fun d _ => congrArg f (Fin.ext ?_)) rfl
  show d.val = 64 * 0 + d.val
  omega

/-- Matrix 0 and row 0 of the stacked weights. -/
def matrix0 (w : FVec Ideal S3x256x256 .f32) : FVec Ideal S256x256 .f32 :=
  shapeCast _ (extractStridedSlice S1x256x256 ![0, 0, 0] w slices_S3x256x256_S1x256x256_0_0_0) shapeCasts_S1x256x256_S256x256
theorem matrix0_at (w : FVec Ideal S3x256x256 .f32) (i q : Fin 256) : matrix0 w (ix2 i q) = w (ix3 0 i q) := by
  pointwise [matrix0]
def vector0 (b : FVec Ideal S3x256 .f32) : FVec Ideal S256 .f32 :=
  shapeCast _ (extractStridedSlice S1x256 ![0, 0] b slices_S3x256_S1x256_0_0) shapeCasts_S1x256_S256
theorem vector0_at (b : FVec Ideal S3x256 .f32) (q : Fin 256) : vector0 b (ix1 q) = b (ix2 0 q) := by
  pointwise [vector0]
/-- Matrix 1 and row 1 of the stacked weights. -/
def matrix1 (w : FVec Ideal S3x256x256 .f32) : FVec Ideal S256x256 .f32 :=
  shapeCast _ (extractStridedSlice S1x256x256 ![1, 0, 0] w slices_S3x256x256_S1x256x256_1_0_0) shapeCasts_S1x256x256_S256x256
theorem matrix1_at (w : FVec Ideal S3x256x256 .f32) (i q : Fin 256) : matrix1 w (ix2 i q) = w (ix3 1 i q) := by
  pointwise [matrix1]
def vector1 (b : FVec Ideal S3x256 .f32) : FVec Ideal S256 .f32 :=
  shapeCast _ (extractStridedSlice S1x256 ![1, 0] b slices_S3x256_S1x256_1_0) shapeCasts_S1x256_S256
theorem vector1_at (b : FVec Ideal S3x256 .f32) (q : Fin 256) : vector1 b (ix1 q) = b (ix2 1 q) := by
  pointwise [vector1]
/-- Matrix 2 and row 2 of the stacked weights. -/
def matrix2 (w : FVec Ideal S3x256x256 .f32) : FVec Ideal S256x256 .f32 :=
  shapeCast _ (extractStridedSlice S1x256x256 ![2, 0, 0] w slices_S3x256x256_S1x256x256_2_0_0) shapeCasts_S1x256x256_S256x256
theorem matrix2_at (w : FVec Ideal S3x256x256 .f32) (i q : Fin 256) : matrix2 w (ix2 i q) = w (ix3 2 i q) := by
  pointwise [matrix2]
def vector2 (b : FVec Ideal S3x256 .f32) : FVec Ideal S256 .f32 :=
  shapeCast _ (extractStridedSlice S1x256 ![2, 0] b slices_S3x256_S1x256_2_0) shapeCasts_S1x256_S256
theorem vector2_at (b : FVec Ideal S3x256 .f32) (q : Fin 256) : vector2 b (ix1 q) = b (ix2 2 q) := by
  pointwise [vector2]

/-- Rows times a matrix, plus a bias. -/
def layer (a : FVec Ideal S4096x256 .f32) (w : FVec Ideal S256x256 .f32) (b : FVec Ideal S256 .f32) : FVec Ideal S4096x256 .f32 :=
  addf (Host.dotGeneral (φ₁ := .f32) (φ₂ := .f32) dot_S4096x256_S256x256_S4096x256_1_0_0_1_n_n none a w) (broadcastInDim S4096x256 ![0, 1] bcast_S1x256_S4096x256_0_1 (broadcastInDim S1x256 ![1] bcast_S256_S1x256_1 b))
theorem layer_at (a : FVec Ideal S4096x256 .f32) (w : FVec Ideal S256x256 .f32) (b : FVec Ideal S256 .f32) (n : Fin 4096) (q : Fin 256) :
    layer a w b (ix2 n q) = Tail.proj (fun i => a (ix2 n i)) (fun i q => w (ix2 i q)) (fun q => b (ix1 q)) q := by
  pointwise [layer, Tail.proj]
def few (a : FVec Ideal S128x256 .f32) (w : FVec Ideal S256x256 .f32) (b : FVec Ideal S256 .f32) : FVec Ideal S128x256 .f32 :=
  addf (Host.dotGeneral (φ₁ := .f32) (φ₂ := .f32) dot_S128x256_S256x256_S128x256_1_0_0_1_n_n none a w) (broadcastInDim S128x256 ![0, 1] bcast_S1x256_S128x256_0_1 (broadcastInDim S1x256 ![1] bcast_S256_S1x256_1 b))
theorem few_at (a : FVec Ideal S128x256 .f32) (w : FVec Ideal S256x256 .f32) (b : FVec Ideal S256 .f32) (n : Fin 128) (q : Fin 256) :
    few a w b (ix2 n q) = Tail.proj (fun i => a (ix2 n i)) (fun i q => w (ix2 i q)) (fun q => b (ix1 q)) q := by
  pointwise [few, Tail.proj]

/-- The combination of the three scales. -/
def combine (u v y : FVec Ideal S4096x256 .f32) (w : FVec Ideal S768x256 .f32) (b : FVec Ideal S256 .f32) : FVec Ideal S4096x256 .f32 :=
  maximumf (addf (Host.dotGeneral (φ₁ := .f32) (φ₂ := .f32) dot_S4096x768_S768x256_S4096x256_1_0_0_1_n_n none (concatenate S4096x768 1 [⟨S4096x256, u⟩, ⟨S4096x256, v⟩, ⟨S4096x256, y⟩] concatenates_S4096x256_S4096x256_S4096x256_S4096x768_d1) w) (broadcastInDim S4096x256 ![0, 1] bcast_S1x256_S4096x256_0_1 (broadcastInDim S1x256 ![1] bcast_S256_S1x256_1 b))) (broadcastInDim S4096x256 ![] bcast_S_S4096x256 (constant S_ .f32 0x00000000#32))
theorem combine_at (u v y : FVec Ideal S4096x256 .f32) (w : FVec Ideal S768x256 .f32) (b : FVec Ideal S256 .f32) (n : Fin 4096) (q : Fin 256) :
    combine u v y w b (ix2 n q) = max ((∑ i : Fin 256, u (ix2 n i) * w (ix2 ⟨i.val, by omega⟩ q)) + (∑ i : Fin 256, v (ix2 n i) * w (ix2 ⟨256 + i.val, by omega⟩ q))
      + (∑ i : Fin 256, y (ix2 n i) * w (ix2 ⟨512 + i.val, by omega⟩ q)) + b (ix1 q)) 0 := by
  unfold combine
  pointwise
  rw [sum_thirds]
  refine congrArg (fun x => max (x + b (ix1 q)) 0) (congrArg₂ (· + ·) (congrArg₂ (· + ·) ?_ ?_) ?_) <;> refine Finset.sum_congr rfl fun i _ => congrArg (· * _) ?_
  · exact dif_pos i.isLt
  · rw [dif_neg (by show ¬(256 + i.val < 256); omega), dif_pos (by show 256 + i.val - 256 < 256; omega)]
    exact congrArg (fun k => v (ix2 n k)) (Fin.ext (by show 256 + i.val - 256 = i.val; omega))
  · rw [dif_neg (by show ¬(512 + i.val < 256); omega), dif_neg (by show ¬(512 + i.val - 256 < 256); omega)]
    exact congrArg (fun k => y (ix2 n k)) (Fin.ext (by show 512 + i.val - 256 - 256 = i.val; omega))

/-- The rows of an array, normalised. -/
def normalised (z : FVec Ideal S4096x256 .f32) (g b : FVec Ideal S256 .f32) : FVec Ideal S4096x256 .f32 :=
  addf (mulf (Host.divf (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32))))) (broadcastInDim S4096x256 ![0, 1] bcast_S4096x1_S4096x256_0_1 (Host.sqrt (addf (Host.divf (broadcastInDim S4096x1 ![0] bcast_S4096_S4096x1_0 (Host.reduceAdd (mulf (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32))))) (subf z (broadcastInDim S4096x256 ![0, 1] bcast_S4096x1_S4096x256_0_1 (Host.divf (broadcastInDim S4096x1 ![0] bcast_S4096_S4096x1_0 (Host.reduceAdd z (constant S_ .f32 0x00000000#32) reducesTo_S4096x256_S4096_d1 h_S_)) (broadcastInDim S4096x1 ![] bcast_S_S4096x1 (constant S_ .f32 0x43800000#32)))))) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x3727C5AC#32)))))) (broadcastInDim S4096x256 ![0, 1] bcast_S1x256_S4096x256_0_1 (broadcastInDim S1x256 ![1] bcast_S256_S1x256_1 g))) (broadcastInDim S4096x256 ![0, 1] bcast_S1x256_S4096x256_0_1 (broadcastInDim S1x256 ![1] bcast_S256_S1x256_1 b))

theorem normalised_at (z : FVec Ideal S4096x256 .f32) (g b : FVec Ideal S256 .f32) (r : Fin 4096) (q : Fin 256) :
    normalised z g b (ix2 r q) = Norm.normal (fun j => z (ix2 r j)) (fun j => g (ix1 j)) (fun j => b (ix1 j)) q := by
  pointwise [normalised]
  rfl

def narrow (z : FVec Ideal S4096x128 .f32) (g b : FVec Ideal S128 .f32) : FVec Ideal S4096x128 .f32 :=
  addf (mulf (Host.divf (subf z (broadcastInDim S4096x128 ![0, 1] bcast_S4096x1_S4096x128_0_1 (Host.divf (broadcastInDim S4096x1 ![0] bcast_S4096_S4096x1_0 (Host.reduceAdd z (constant S_ .f32 0x00000000#32) reducesTo_S4096x128_S4096_d1 h_S_)) (broadcastInDim S4096x1 ![] bcast_S_S4096x1 (constant S_ .f32 0x43000000#32))))) (broadcastInDim S4096x128 ![0, 1] bcast_S4096x1_S4096x128_0_1 (Host.sqrt (addf (Host.divf (broadcastInDim S4096x1 ![0] bcast_S4096_S4096x1_0 (Host.reduceAdd (mulf (subf z (broadcastInDim S4096x128 ![0, 1] bcast_S4096x1_S4096x128_0_1 (Host.divf (broadcastInDim S4096x1 ![0] bcast_S4096_S4096x1_0 (Host.reduceAdd z (constant S_ .f32 0x00000000#32) reducesTo_S4096x128_S4096_d1 h_S_)) (broadcastInDim S4096x1 ![] bcast_S_S4096x1 (constant S_ .f32 0x43000000#32))))) (subf z (broadcastInDim S4096x128 ![0, 1] bcast_S4096x1_S4096x128_0_1 (Host.divf (broadcastInDim S4096x1 ![0] bcast_S4096_S4096x1_0 (Host.reduceAdd z (constant S_ .f32 0x00000000#32) reducesTo_S4096x128_S4096_d1 h_S_)) (broadcastInDim S4096x1 ![] bcast_S_S4096x1 (constant S_ .f32 0x43000000#32)))))) (constant S_ .f32 0x00000000#32) reducesTo_S4096x128_S4096_d1 h_S_)) (broadcastInDim S4096x1 ![] bcast_S_S4096x1 (constant S_ .f32 0x43000000#32))) (broadcastInDim S4096x1 ![] bcast_S_S4096x1 (constant S_ .f32 0x3727C5AC#32)))))) (broadcastInDim S4096x128 ![0, 1] bcast_S1x128_S4096x128_0_1 (broadcastInDim S1x128 ![1] bcast_S128_S1x128_1 g))) (broadcastInDim S4096x128 ![0, 1] bcast_S1x128_S4096x128_0_1 (broadcastInDim S1x128 ![1] bcast_S128_S1x128_1 b))

theorem narrow_at (z : FVec Ideal S4096x128 .f32) (g b : FVec Ideal S128 .f32) (r : Fin 4096) (q : Fin 128) :
    narrow z g b (ix2 r q) = Tail.normal (fun j => z (ix2 r j)) (fun j => g (ix1 j)) (fun j => b (ix1 j)) q := by
  pointwise [narrow]
  rfl

/-- The chosen rows of an array. -/
def rowsOf (p : FVec Ideal S4096x256 .f32) (k : IVec S128 32) : FVec Ideal S128x256 .f32 :=
  Host.gather gather_S4096x256_S128x1_S128x256_1_0_n_n_0_1_1256 p (broadcastInDim S128x1 ![0] bcast_S128_S128x1_0 (select (cmpi .slt k (broadcastInDim S128 ![] bcast_S_S128 (constantI S_ 32 0#32))) (addi k (broadcastInDim S128 ![] bcast_S_S128 (constantI S_ 32 4096#32))) k))
theorem rowsOf_at (p : FVec Ideal S4096x256 .f32) (k : IVec S128 32) (j : Fin 128) (q : Fin 256) (h : 0 ≤ (k (ix1 j)).toInt) :
    rowsOf p k (ix2 j q) = p (ix2 ⟨min (k (ix1 j)).toInt.toNat 4095, by omega⟩ q) := by
  unfold rowsOf
  refine (rows_at (by norm_num) _ p _ j q).trans ?_
  refine congrArg (fun i => p (ix2 i q)) (Fin.ext ?_)
  show min _ (4096 - 1) = _
  pointwise
  have e : (k (ix1 j)).slt 0#32 = false := by
    rw [BitVec.slt]
    simpa using h
  unfold Scalar.select IntOp.cmpi
  rw [e]
  rfl

section Heads

variable (qs : FVec Ideal S4096x256 .f32) (ks vs : FVec Ideal S128x256 .f32)

/-- How well the queries fit the keys. -/
def fits : FVec Ideal S4x4096x128 .f32 :=
  Host.divf (Host.dotGeneral (φ₁ := .f32) (φ₂ := .f32) dot_S4096x4x64_S128x4x64_S4x4096x128_2_2_0_0_1_1 none (shapeCast _ qs shapeCasts_S4096x256_S4096x4x64) (shapeCast _ ks shapeCasts_S128x256_S128x4x64)) (broadcastInDim S4x4096x128 ![] bcast_S_S4x4096x128 (constant S_ .f32 0x41000000#32))
theorem fits_at (h : Fin 4) (n : Fin 4096) (j : Fin 128) : fits qs ks (ix3 h n j) = Tail.fit (fun i => qs (ix2 n i)) (fun j i => ks (ix2 j i)) h j := by
  pointwise [fits, Tail.fit]
  have e : ∀ x : Fin 64, (⟨h.val * 64 + x.val, by omega⟩ : Fin 256) = Tail.col h x := fun x => Fin.ext (by show h.val * 64 + x.val = 64 * h.val + x.val; omega)
  simp only [e]
  rw [word_eight, word_eighth, Ideal.div_coe (by norm_num)]

/-- The shares before they are made to add to one. -/
def exps (f : FVec Ideal S4x4096x128 .f32) : FVec Ideal S4x4096x128 .f32 :=
  Host.exp (subf f (broadcastInDim S4x4096x128 ![0, 1, 2] bcast_S4x4096x1_S4x4096x128_0_1_2 (broadcastInDim S4x4096x1 ![0, 1] bcast_S4x4096_S4x4096x1_0_1 (maximumf (broadcastInDim S4x4096 ![] bcast_S_S4x4096 (constant S_ .f32 0xFF800000#32)) (Host.reduce FloatOps.maximumf f (constant S_ .f32 0xFF800000#32) reducesTo_S4x4096x128_S4x4096_d2 h_S_)))))
theorem exps_at (f : FVec Ideal S4x4096x128 .f32) (h : Fin 4) (n : Fin 4096) (j : Fin 128) :
    exps f (ix3 h n j) = Ideal.exp (f (ix3 h n j) - Finset.univ.fold max (Ideal.ofBits .f32 0xFF800000#32) fun i => f (ix3 h n i)) := by
  pointwise [exps]
  rw [max_eq_right ((Finset.le_fold_max _).2 (Or.inl le_rfl))]

/-- What the heads gather. -/
def gather4 (e : FVec Ideal S4x4096x128 .f32) : FVec Ideal S4096x256 .f32 :=
  shapeCast _ (transpose S4096x4x64 [2, 0, 1] (Host.dotGeneral (φ₁ := .f32) (φ₂ := .f32) dot_S128x4x64_S4x4096x128_S4x64x4096_0_2_2_1_1_0 none (shapeCast _ vs shapeCasts_S128x256_S128x4x64) (Host.divf e (broadcastInDim S4x4096x128 ![0, 1, 2] bcast_S4x4096x1_S4x4096x128_0_1_2 (broadcastInDim S4x4096x1 ![0, 1] bcast_S4x4096_S4x4096x1_0_1 (Host.reduceAdd e (constant S_ .f32 0x00000000#32) reducesTo_S4x4096x128_S4x4096_d2 h_S_))))) transposes_S4x64x4096_S4096x4x64_2_0_1) shapeCasts_S4096x4x64_S4096x256
theorem gather4_at (e : FVec Ideal S4x4096x128 .f32) (h : Fin 4) (n : Fin 4096) (d : Fin 64) :
    gather4 vs e (ix2 n (Tail.col h d)) = ∑ j, Ideal.div (e (ix3 h n j)) (∑ i, e (ix3 h n i)) * vs (ix2 j (Tail.col h d)) := by
  unfold gather4
  pointwise [Tail.col]
  refine Finset.sum_congr rfl fun x _ => (mul_comm _ _).trans (congrArg (fun k => _ * vs (ix2 x k)) (Fin.ext ?_))
  show h.val * 64 + d.val = 64 * h.val + d.val
  omega

end Heads

/-- The hidden rows. -/
def rectified (a : FVec Ideal S4096x256 .f32) (w : FVec Ideal S256x128 .f32) (b : FVec Ideal S128 .f32) : FVec Ideal S4096x128 .f32 :=
  maximumf (addf (Host.dotGeneral (φ₁ := .f32) (φ₂ := .f32) dot_S4096x256_S256x128_S4096x128_1_0_0_1_n_n none a w) (broadcastInDim S4096x128 ![0, 1] bcast_S1x128_S4096x128_0_1 (broadcastInDim S1x128 ![1] bcast_S128_S1x128_1 b))) (broadcastInDim S4096x128 ![] bcast_S_S4096x128 (constant S_ .f32 0x00000000#32))
theorem rectified_at (a : FVec Ideal S4096x256 .f32) (w : FVec Ideal S256x128 .f32) (b : FVec Ideal S128 .f32) (n : Fin 4096) (q : Fin 128) :
    rectified a w b (ix2 n q) = max (Tail.proj (fun i => a (ix2 n i)) (fun i q => w (ix2 i q)) (fun q => b (ix1 q)) q) 0 := by
  pointwise [rectified, Tail.proj]

/-- The scores of normalised hidden rows. -/
def scores (a : FVec Ideal S4096x128 .f32) (w : FVec Ideal S128x1 .f32) (b : FVec Ideal S1 .f32) : FVec Ideal S4096x1 .f32 :=
  Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral (φ₁ := .f32) (φ₂ := .f32) dot_S4096x128_S128x1_S4096x1_1_0_0_1_n_n none a w) (broadcastInDim S4096x1 ![0, 1] bcast_S1x1_S4096x1_0_1 (broadcastInDim S1x1 ![1] bcast_S1_S1x1_1 b))))))
theorem scores_at (a : FVec Ideal S4096x128 .f32) (w : FVec Ideal S128x1 .f32) (b : FVec Ideal S1 .f32) (n : Fin 4096) :
    scores a w b (ix2 n 0) = Ideal.logistic ((∑ j, a (ix2 n j) * w (ix2 j 0)) + b (ix1 0)) := by
  pointwise [scores]
  rfl

section Steps

variable (V0 : Valuation τ sig (Elt Ideal))

/-- The numbers the scores start from. -/
def numbers : Tail.Args := Tail.fromArrays (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))

theorem combined_eq : res_main_v115 (F := Ideal) V0 = combine (layer (V0 (Proc.devRef .tc main_arg0)) (matrix0 (V0 (Proc.devRef .tc main_arg2))) (vector0 (V0 (Proc.devRef .tc main_arg3))))
    (layer (blended2 (res_main_v11 (F := Ideal) V0) (res_main_v22 (F := Ideal) V0) (res_main_v26 (F := Ideal) V0) (res_main_v29 (F := Ideal) V0)) (matrix1 (V0 (Proc.devRef .tc main_arg2))) (vector1 (V0 (Proc.devRef .tc main_arg3))))
    (layer (blended4 (res_main_v62 (F := Ideal) V0) (res_main_v73 (F := Ideal) V0) (res_main_v77 (F := Ideal) V0) (res_main_v80 (F := Ideal) V0)) (matrix2 (V0 (Proc.devRef .tc main_arg2))) (vector2 (V0 (Proc.devRef .tc main_arg3))))
    (V0 (Proc.devRef .tc main_arg4)) (V0 (Proc.devRef .tc main_arg5)) := rfl

theorem pooled_eq : res_main_v139 (F := Ideal) V0 = normalised (res_main_v115 (F := Ideal) V0) (V0 (Proc.devRef .tc main_arg6)) (V0 (Proc.devRef .tc main_arg7)) := rfl

theorem chosen_eq : res_main_v146 (F := Ideal) V0 = rowsOf (res_main_v139 (F := Ideal) V0) (V0 (Proc.devRef .tc main_arg1)) := rfl

theorem fits_eq : res_main_v176 (F := Ideal) V0 = fits (layer (res_main_v139 (F := Ideal) V0) (matrix0 (V0 (Proc.devRef .tc main_arg8))) (vector0 (V0 (Proc.devRef .tc main_arg9)))) (few (res_main_v146 (F := Ideal) V0) (matrix1 (V0 (Proc.devRef .tc main_arg8))) (vector1 (V0 (Proc.devRef .tc main_arg9)))) := rfl

theorem exps_eq : res_main_v183 (F := Ideal) V0 = exps (res_main_v176 (F := Ideal) V0) := rfl

theorem attended_eq : res_main_v195 (F := Ideal) V0 = addf (layer (gather4 (few (res_main_v146 (F := Ideal) V0) (matrix2 (V0 (Proc.devRef .tc main_arg8))) (vector2 (V0 (Proc.devRef .tc main_arg9)))) (res_main_v183 (F := Ideal) V0)) (V0 (Proc.devRef .tc main_arg10)) (V0 (Proc.devRef .tc main_arg11))) (res_main_v139 (F := Ideal) V0 : FVec Ideal S4096x256 .f32) := rfl

theorem hidden_eq : res_main_v224 (F := Ideal) V0 = rectified (normalised (res_main_v195 (F := Ideal) V0) (V0 (Proc.devRef .tc main_arg12)) (V0 (Proc.devRef .tc main_arg13))) (V0 (Proc.devRef .tc main_arg14)) (V0 (Proc.devRef .tc main_arg15)) := rfl

theorem mixed_at (n : Fin 4096) (q : Fin 256) : (res_main_v115 (F := Ideal) V0 : FVec Ideal S4096x256 .f32) (ix2 n q) = Tail.mixed (numbers V0) n q := by
  rw [combined_eq, combine_at]
  simp only [layer_at, blended2_at, blended4_at, matrix0_at, matrix1_at, matrix2_at, vector0_at, vector1_at, vector2_at]
  rfl

theorem pooled_at (n : Fin 4096) (q : Fin 256) : (res_main_v139 (F := Ideal) V0 : FVec Ideal S4096x256 .f32) (ix2 n q) = Tail.pooled (numbers V0) n q := by
  rw [pooled_eq, normalised_at]
  simp only [mixed_at]
  rfl

section InRange

variable (low : ∀ j : Fin 128, 0 ≤ ((numbers V0).idx j).toInt)
include low

theorem chosen_at (j : Fin 128) (q : Fin 256) : (res_main_v146 (F := Ideal) V0 : FVec Ideal S128x256 .f32) (ix2 j q) = Tail.chosen (numbers V0) j q := by
  rw [chosen_eq, rowsOf_at _ _ _ _ (low j), pooled_at]
  rfl

theorem fit_at (h : Fin 4) (n : Fin 4096) (j : Fin 128) : (res_main_v176 (F := Ideal) V0 : FVec Ideal S4x4096x128 .f32) (ix3 h n j)
    = Tail.fit (Tail.proj (Tail.pooled (numbers V0) n) (numbers V0).qw (numbers V0).qb) (Tail.keys (numbers V0)) h j := by
  rw [fits_eq, fits_at]
  simp only [layer_at, few_at, chosen_at V0 low, pooled_at, matrix0_at, matrix1_at, vector0_at, vector1_at]
  rfl

theorem share_at (h : Fin 4) (n : Fin 4096) (j : Fin 128) : (res_main_v183 (F := Ideal) V0 : FVec Ideal S4x4096x128 .f32) (ix3 h n j)
    = Tail.share (Tail.proj (Tail.pooled (numbers V0) n) (numbers V0).qw (numbers V0).qb) (Tail.keys (numbers V0)) h j := by
  rw [exps_eq, exps_at]
  simp only [fit_at V0 low]
  rfl

theorem attended_at (n : Fin 4096) (q : Fin 256) : (res_main_v195 (F := Ideal) V0 : FVec Ideal S4096x256 .f32) (ix2 n q) = Tail.attended (numbers V0) n q := by
  rw [attended_eq, addf_apply, layer_at, pooled_at]
  unfold Tail.proj
  rw [sum_heads]
  simp only [gather4_at, share_at V0 low, few_at, chosen_at V0 low, matrix2_at, vector2_at]
  unfold Tail.attended
  rw [add_comm ((numbers V0).ob q), add_right_comm _ ((numbers V0).ob q), add_right_comm _ ((numbers V0).ob q), add_right_comm _ ((numbers V0).ob q)]
  rfl

theorem hidden_at (n : Fin 4096) (q : Fin 128) : (res_main_v224 (F := Ideal) V0 : FVec Ideal S4096x128 .f32) (ix2 n q) = Tail.hidden (numbers V0) n q := by
  rw [hidden_eq, rectified_at]
  simp only [normalised_at, attended_at V0 low]
  rfl

/-- The array that the reference leaves. -/
theorem score_at (n : Fin 4096) : scores (narrow (res_main_v224 (F := Ideal) V0) (V0 (Proc.devRef .tc main_arg16)) (V0 (Proc.devRef .tc main_arg17))) (V0 (Proc.devRef .tc main_arg18)) (V0 (Proc.devRef .tc main_arg19)) (ix2 n 0) = Tail.score (numbers V0) n := by
  rw [scores_at]
  simp only [narrow_at, hidden_at V0 low]
  rfl

/-- The array that the reference leaves, whole. -/
theorem scores_eq : scores (narrow (res_main_v224 (F := Ideal) V0) (V0 (Proc.devRef .tc main_arg16)) (V0 (Proc.devRef .tc main_arg17))) (V0 (Proc.devRef .tc main_arg18)) (V0 (Proc.devRef .tc main_arg19)) = fun y => Tail.score (numbers V0) (y 0) := by
  funext y
  have h : y = ix2 (y 0) 0 := by
    refine (eq_ix2 y).trans (congrArg (ix2 (y 0)) (Fin.ext ?_))
    have := (y 1).isLt
    show (y 1).val = 0
    change (y 1).val < 1 at this
    omega
  exact (congrArg (scores (narrow (res_main_v224 (F := Ideal) V0) (V0 (Proc.devRef .tc main_arg16)) (V0 (Proc.devRef .tc main_arg17))) (V0 (Proc.devRef .tc main_arg18)) (V0 (Proc.devRef .tc main_arg19))) h).trans (score_at V0 low (y 0))

end InRange

end Steps

end Cert.Reference4Ideal.Body

end
-- ==== Proof.Tail.Rows.lean ====
module

public import proofs.«01_k».proof.Pre_change_points_are_rows
public import Idealize.ShloMosaic.Lib.Pointwise
public import Idealize.ShloMosaic.Lib.DynamicIndex
public import Idealize.ShloMosaic.Lib.Claim

@[expose] public section

set_option maxRecDepth 16384

noncomputable section

namespace Cert.Tail

open Idealize.ShloMosaic Idealize.ShloMosaic.Tactic

/-- The two comparisons, of one word. -/
theorem within (w : BitVec 32) (q : IntOp.andi (IntOp.cmpi .sge w 0#32) (IntOp.cmpi .slt w 4096#32) = 1#1) : 0 ≤ w.toInt ∧ w.toInt < 4096 := by
  have q' : BitVec.ofBool ((0#32).sle w) &&& BitVec.ofBool (w.slt 4096#32) = 1#1 := q
  have both : ∀ a b : Bool, BitVec.ofBool a &&& BitVec.ofBool b = 1#1 → a = true ∧ b = true := by decide
  obtain ⟨e, f⟩ := both _ _ q'
  rw [BitVec.sle, decide_eq_true_eq] at e
  rw [BitVec.slt, decide_eq_true_eq] at f
  exact ⟨e, f⟩

open Cert.Pre_change_points_are_rows in
/-- What the precondition says of the change points. -/
theorem rows [Cert.Pre_change_points_are_rows.Facts] (a0 : FVec Ideal ⟨2, ![4096, 256]⟩ .f32) (a1 : IVec ⟨1, ![128]⟩ 32) (a2 : FVec Ideal ⟨3, ![3, 256, 256]⟩ .f32) (a3 : FVec Ideal ⟨2, ![3, 256]⟩ .f32) (a4 : FVec Ideal ⟨2, ![768, 256]⟩ .f32) (a5 : FVec Ideal ⟨1, ![256]⟩ .f32) (a6 : FVec Ideal ⟨1, ![256]⟩ .f32) (a7 : FVec Ideal ⟨1, ![256]⟩ .f32) (a8 : FVec Ideal ⟨3, ![3, 256, 256]⟩ .f32) (a9 : FVec Ideal ⟨2, ![3, 256]⟩ .f32) (a10 : FVec Ideal ⟨2, ![256, 256]⟩ .f32) (a11 : FVec Ideal ⟨1, ![256]⟩ .f32) (a12 : FVec Ideal ⟨1, ![256]⟩ .f32) (a13 : FVec Ideal ⟨1, ![256]⟩ .f32) (a14 : FVec Ideal ⟨2, ![256, 128]⟩ .f32) (a15 : FVec Ideal ⟨1, ![128]⟩ .f32) (a16 : FVec Ideal ⟨1, ![128]⟩ .f32) (a17 : FVec Ideal ⟨1, ![128]⟩ .f32) (a18 : FVec Ideal ⟨2, ![128, 1]⟩ .f32) (a19 : FVec Ideal ⟨1, ![1]⟩ .f32)
    (h : fn (F := Ideal) a0 a1 a2 a3 a4 a5 a6 a7 a8 a9 a10 a11 a12 a13 a14 a15 a16 a17 a18 a19 = fun _ => 1#1) (j : Fin 128) :
    0 ≤ (a1 (ix1 j)).toInt ∧ (a1 (ix1 j)).toInt < 4096 := by
  have q := congrFun h (ix1 j)
  simp only [fn] at q
  revert q
  pointwise
  exact within _

end Cert.Tail

end
-- ==== Proof.lean ====
module

public import proofs.«01_k».proof.Defs
public import proofs.«01_k».proof.Proof.Kernel.Frame
public import proofs.«01_k».proof.Proof.KernelIdeal.Frame
public import proofs.«01_k».proof.Proof.ReferenceIdeal.Scan
public import proofs.«01_k».proof.Proof.Gen.Kernel2.Frame
public import proofs.«01_k».proof.Proof.Combine.Kernel
public import proofs.«01_k».proof.Proof.Combine.Reference
public import proofs.«01_k».proof.Proof.Gen.Kernel3.Frame
public import proofs.«01_k».proof.Proof.Fusion.Kernel
public import proofs.«01_k».proof.Proof.Fusion.Reference
public import proofs.«01_k».proof.Proof.Tail.Frame
public import proofs.«01_k».proof.Proof.Tail.Value
public import proofs.«01_k».proof.Proof.Tail.Reference
public import proofs.«01_k».proof.Proof.Tail.Rows
public import Idealize.ShloMosaic.Lib.Claim

@[expose] public section

set_option maxRecDepth 16384

noncomputable section

namespace Cert.Proof

open Idealize.ShloMosaic Idealize.ShloMosaic.TcCoe Idealize.ShloMosaic.Tactic Idealize.SL.Sem

/-- The broadcasts of the precondition are well formed. -/
instance preFacts : Cert.Pre_decay_rates_are_one_to_sixteen.Facts :=
  ⟨by decide, by decide, by decide⟩

/-- Where the two memories hold the same arguments, the array that the reference leaves is the one that the kernel leaves. -/
theorem agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hr : Cert.ReferenceIdeal.Body.Rated m' c)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    StableHlo.finalContents Cert.ReferenceIdeal.Value.condOps Cert.ReferenceIdeal.Value.preI Cert.ReferenceIdeal.Value.bodyI
        Cert.ReferenceIdeal.Value.postI 4096 m' c (Proc.devRef .tc Cert.ReferenceIdeal.main_v92)
      = Cert.KernelIdeal.Body.result m c := by
  funext y
  refine (congrArg (StableHlo.finalContents Cert.ReferenceIdeal.Value.condOps Cert.ReferenceIdeal.Value.preI Cert.ReferenceIdeal.Value.bodyI
    Cert.ReferenceIdeal.Value.postI 4096 m' c (Proc.devRef .tc Cert.ReferenceIdeal.main_v92) : FVec Ideal Cert.ReferenceIdeal.S2x4096x256 .f32) (eq_ix3 y)).trans ((Cert.ReferenceIdeal.Body.result_at m' c hr (y 0) (y 1) (y 2)).trans ?_)
  have hw : Cert.ReferenceIdeal.Body.wts m' c (y 0) = Cert.KernelIdeal.Body.wts m c (y 0) := by
    unfold Cert.ReferenceIdeal.Body.wts Cert.KernelIdeal.Body.wts
    rw [h1, h2, h3, h4, h5, h6, h8, h9]
  have hx : Cert.ReferenceIdeal.Body.inp m' c (y 0) = Cert.KernelIdeal.Body.inp m c (y 0) := by
    unfold Cert.ReferenceIdeal.Body.inp Cert.KernelIdeal.Body.inp
    rw [h0]
  unfold Cert.ReferenceIdeal.Body.padded
  rw [hw, hx]
  rfl

/-- The gated combination: where the two memories hold the same arguments, the reference's array is the kernel's. -/
theorem agree2
    (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5)) :
    Cert.Reference2Ideal.Value.res_main_v45 (F := Ideal) m' c = Cert.Kernel2Ideal.Body.result m c := by
  funext y
  refine (congrArg (Cert.Reference2Ideal.Value.res_main_v45 (F := Ideal) m' c : FVec Ideal Cert.Reference2Ideal.S4096x256 .f32) (eq_ix2 y)).trans
    ((Cert.Reference2Ideal.Body.result_at m' c (y 0) (y 1)).trans ?_)
  rw [h0, h1, h2, h3, h4, h5]
  rfl

/-- The reference of the gated combination runs to completion, leaves its arguments as they were, and every semaphore counter at zero. -/
theorem frame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) := by
  refine θ_run_mono (Cert.Reference2Ideal.Value.run m g) fun r h => ⟨fun c => (h c).2, ?_⟩
  funext ⟨_, s⟩
  cases s with
  | reg s => exact s.elim0
  | dma s => exact s.elim0

/-- The gated combination's kernel and its reference compute the same array. -/
theorem algebraic2 : Cert.algebraic_Kernel2Ideal_Reference2Ideal := by
  intro m g m' g' _ hagree
  refine ⟨fun c => Cert.Kernel2Ideal.Body.result m c, ?_, ?_⟩
  · refine θ_run_mono (θ_run_and (Cert.Kernel2Ideal.Body.value m g) (Cert.Kernel2Ideal.Gen.frame m g)) fun r h c => ?_
    exact ⟨h.1 c, h.2.1 c⟩
  · refine θ_run_mono (Cert.Reference2Ideal.Value.run m' g') fun r h c => ?_
    obtain ⟨h0, h1, h2, h3, h4, h5⟩ := hagree c
    exact ⟨(h c).1.trans (agree2 m m' c h0 h1 h2 h3 h4 h5), (h c).2⟩

/-- The fusion: where the two memories hold the same arguments, the reference's array is the kernel's. -/
theorem agree3
    (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3)
      = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4)
      = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5)
      = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6)
      = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7)
      = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8)
      = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9)
      = m ((c.tc : Thread Cert.Kernel3Ideal.nD Cert.Kernel3Ideal.τ).loc Cert.Kernel3Ideal.main_arg9)) :
    Cert.Reference3Ideal.Value.res_main_v49 (F := Ideal) m' c = Cert.Kernel3Ideal.Body.result m c := by
  funext y
  refine (congrArg (Cert.Reference3Ideal.Value.res_main_v49 (F := Ideal) m' c : FVec Ideal Cert.Reference3Ideal.S4096x256 .f32) (eq_ix2 y)).trans
    ((Cert.Reference3Ideal.Body.result_at m' c (y 0) (y 1)).trans ?_)
  rw [h0, h1, h2, h3, h4, h5, h6, h7, h8, h9]
  rfl

/-- The reference of the fusion runs to completion, leaves its arguments as they were, and every semaphore counter at zero. -/
theorem frame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) := by
  refine θ_run_mono (Cert.Reference3Ideal.Value.run m g) fun r h => ⟨fun c => (h c).2, ?_⟩
  funext ⟨_, s⟩
  cases s with
  | reg s => exact s.elim0
  | dma s => exact s.elim0

/-- The fusion's kernel and its reference compute the same array. -/
theorem algebraic3 : Cert.algebraic_Kernel3Ideal_Reference3Ideal := by
  intro m g m' g' _ hagree
  refine ⟨fun c => Cert.Kernel3Ideal.Body.result m c, ?_, ?_⟩
  · refine θ_run_mono (θ_run_and (Cert.Kernel3Ideal.Body.value m g) (Cert.Kernel3Ideal.Gen.frame m g)) fun r h c => ?_
    exact ⟨h.1 c, h.2.1 c⟩
  · refine θ_run_mono (Cert.Reference3Ideal.Value.run m' g') fun r h c => ?_
    obtain ⟨h0, h1, h2, h3, h4, h5, h6, h7, h8, h9⟩ := hagree c
    exact ⟨(h c).1.trans (agree3 m m' c h0 h1 h2 h3 h4 h5 h6 h7 h8 h9), (h c).2⟩

/-- The scan's kernel and its reference compute the same array. -/
theorem algebraic1 : Cert.algebraic_KernelIdeal_ReferenceIdeal_pre_decay_rates_are_one_to_sixteen := by
  intro m g m' g' hpre hagree
  refine ⟨fun c => Cert.KernelIdeal.Body.result m c, ?_, ?_⟩
  · refine θ_run_mono (θ_run_and (Cert.KernelIdeal.Body.value m g) (Cert.KernelIdeal.Body.frame m g)) fun r h c => ?_
    exact ⟨h.1 c, h.2.1 c⟩
  · refine θ_run_mono (θ_run_and (Cert.ReferenceIdeal.Value.run_fold m' g') (Cert.ReferenceIdeal.Body.frame m' g')) fun r h c => ?_
    obtain ⟨h0, h1, h2, h3, h4, h5, h6, h7, h8, h9⟩ := hagree c
    have hr : Cert.ReferenceIdeal.Body.Rated m' c := fun d j s => by
      rw [h7]
      exact Cert.Scan.rates _ _ _ _ _ _ _ _ _ _ (hpre c) d j s
    exact ⟨(h.1 c Cert.ReferenceIdeal.main_v92 rfl).trans (agree m m' c hr h0 h1 h2 h3 h4 h5 h6 h7 h8 h9), h.2.1 c⟩

/-- The broadcast of the precondition on the change points is well formed. -/
instance rowFacts : Cert.Pre_change_points_are_rows.Facts :=
  ⟨by decide⟩

/-- The tail: where the two memories hold the same arguments, the scores start from the same numbers. -/
theorem agree4
    (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2)
      = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3)
      = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4)
      = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5)
      = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6)
      = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7)
      = m ((c.tc : Thread Cert.Kernel4Ideal.nD Cert.Kernel4Ideal.τ).loc Cert.Kernel4Ideal.main_arg7))
    (h8 : m' ((c.tc : Thread Cert.Reference4Ideal.nD Cert.Reference4Ideal.τ).loc Cert.Reference4Ideal.main_arg8)
      = m ((c.tc : Thread Cert.Kernel4Ideal.nD Cert.Kernel4Ideal.τ).loc Cert.Kernel4Ideal.main_arg8))
    (h9 : m' ((c.tc : Thread Cert.Reference4Ideal.nD Cert.Reference4Ideal.τ).loc Cert.Reference4Ideal.main_arg9)
      = m ((c.tc : Thread Cert.Kernel4Ideal.nD Cert.Kernel4Ideal.τ).loc Cert.Kernel4Ideal.main_arg9))
    (h10 : m' ((c.tc : Thread Cert.Reference4Ideal.nD Cert.Reference4Ideal.τ).loc Cert.Reference4Ideal.main_arg10)
      = m ((c.tc : Thread Cert.Kernel4Ideal.nD Cert.Kernel4Ideal.τ).loc Cert.Kernel4Ideal.main_arg10))
    (h11 : m' ((c.tc : Thread Cert.Reference4Ideal.nD Cert.Reference4Ideal.τ).loc Cert.Reference4Ideal.main_arg11)
      = m ((c.tc : Thread Cert.Kernel4Ideal.nD Cert.Kernel4Ideal.τ).loc Cert.Kernel4Ideal.main_arg11))
    (h12 : m' ((c.tc : Thread Cert.Reference4Ideal.nD Cert.Reference4Ideal.τ).loc Cert.Reference4Ideal.main_arg12)
      = m ((c.tc : Thread Cert.Kernel4Ideal.nD Cert.Kernel4Ideal.τ).loc Cert.Kernel4Ideal.main_arg12))
    (h13 : m' ((c.tc : Thread Cert.Reference4Ideal.nD Cert.Reference4Ideal.τ).loc Cert.Reference4Ideal.main_arg13)
      = m ((c.tc : Thread Cert.Kernel4Ideal.nD Cert.Kernel4Ideal.τ).loc Cert.Kernel4Ideal.main_arg13))
    (h14 : m' ((c.tc : Thread Cert.Reference4Ideal.nD Cert.Reference4Ideal.τ).loc Cert.Reference4Ideal.main_arg14)
      = m ((c.tc : Thread Cert.Kernel4Ideal.nD Cert.Kernel4Ideal.τ).loc Cert.Kernel4Ideal.main_arg14))
    (h15 : m' ((c.tc : Thread Cert.Reference4Ideal.nD Cert.Reference4Ideal.τ).loc Cert.Reference4Ideal.main_arg15)
      = m ((c.tc : Thread Cert.Kernel4Ideal.nD Cert.Kernel4Ideal.τ).loc Cert.Kernel4Ideal.main_arg15))
    (h16 : m' ((c.tc : Thread Cert.Reference4Ideal.nD Cert.Reference4Ideal.τ).loc Cert.Reference4Ideal.main_arg16)
      = m ((c.tc : Thread Cert.Kernel4Ideal.nD Cert.Kernel4Ideal.τ).loc Cert.Kernel4Ideal.main_arg16))
    (h17 : m' ((c.tc : Thread Cert.Reference4Ideal.nD Cert.Reference4Ideal.τ).loc Cert.Reference4Ideal.main_arg17)
      = m ((c.tc : Thread Cert.Kernel4Ideal.nD Cert.Kernel4Ideal.τ).loc Cert.Kernel4Ideal.main_arg17))
    (h18 : m' ((c.tc : Thread Cert.Reference4Ideal.nD Cert.Reference4Ideal.τ).loc Cert.Reference4Ideal.main_arg18)
      = m ((c.tc : Thread Cert.Kernel4Ideal.nD Cert.Kernel4Ideal.τ).loc Cert.Kernel4Ideal.main_arg18))
    (h19 : m' ((c.tc : Thread Cert.Reference4Ideal.nD Cert.Reference4Ideal.τ).loc Cert.Reference4Ideal.main_arg19)
      = m ((c.tc : Thread Cert.Kernel4Ideal.nD Cert.Kernel4Ideal.τ).loc Cert.Kernel4Ideal.main_arg19)) :
    Cert.Reference4Ideal.Body.numbers (StableHlo.launchContents m' c) = Cert.Kernel4Ideal.Body.given m c := by
  have e : Cert.Reference4Ideal.Body.numbers (StableHlo.launchContents m' c)
      = Cert.Tail.fromArrays (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg15)) (m' ((c.tc : Thread Cert.Reference4Ideal.nD Cert.Reference4Ideal.τ).loc Cert.Reference4Ideal.main_arg16)) (m' ((c.tc : Thread Cert.Reference4Ideal.nD Cert.Reference4Ideal.τ).loc Cert.Reference4Ideal.main_arg17)) (m' ((c.tc : Thread Cert.Reference4Ideal.nD Cert.Reference4Ideal.τ).loc Cert.Reference4Ideal.main_arg18)) (m' ((c.tc : Thread Cert.Reference4Ideal.nD Cert.Reference4Ideal.τ).loc Cert.Reference4Ideal.main_arg19)) := rfl
  rw [e, h0, h1, h2, h3, h4, h5, h6, h7, h8, h9, h10, h11, h12, h13, h14, h15, h16, h17, h18, h19]
  rfl

/-- The reference of the tail runs to completion, leaves its arguments as they were, and every semaphore counter at zero. -/
theorem frame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0) := by
  refine θ_run_mono (Cert.Reference4Ideal.Value.run m g) fun r h => ⟨fun c => (h c).2, ?_⟩
  funext ⟨_, s⟩
  cases s with
  | reg s => exact s.elim0
  | dma s => exact s.elim0

/-- The tail's kernel and its reference compute the same array. -/
theorem algebraic4 : Cert.algebraic_Kernel4Ideal_Reference4Ideal_pre_change_points_are_rows := by
  intro m g m' g' hpre hagree
  have hrow : ∀ (c : Dev Cert.Kernel4Ideal.nD) (j : Fin 128), 0 ≤ ((Cert.Kernel4Ideal.Body.given m c).idx j).toInt ∧ ((Cert.Kernel4Ideal.Body.given m c).idx j).toInt < 4096 :=
    fun c j => Cert.Tail.rows _ _ _ _ _ _ _ _ _ _ _ _ _ _ _ _ _ _ _ _ (hpre c) j
  refine ⟨fun c => Cert.Kernel4Ideal.Body.result m c, ?_, ?_⟩
  · refine θ_run_mono (θ_run_and (Cert.Kernel4Ideal.Body.value m g (fun c j => (hrow c j).1) (fun c j => (hrow c j).2)) (Cert.Kernel4Ideal.Tail.frame m g)) fun r h c => ?_
    exact ⟨h.1 c, h.2.1 c⟩
  · refine θ_run_mono (Cert.Reference4Ideal.Value.run m' g') fun r h c => ?_
    obtain ⟨h0, h1, h2, h3, h4, h5, h6, h7, h8, h9, h10, h11, h12, h13, h14, h15, h16, h17, h18, h19⟩ := hagree c
    have e := agree4 m m' c h0 h1 h2 h3 h4 h5 h6 h7 h8 h9 h10 h11 h12 h13 h14 h15 h16 h17 h18 h19
    exact ⟨(h c).1.trans ((Cert.Reference4Ideal.Body.scores_eq (StableHlo.launchContents m' c) fun j => by rw [e]; exact (hrow c j).1).trans (by rw [e]; rfl)), (h c).2⟩

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, preFacts, rowFacts,
    fun m g _ => Cert.Kernel.Body.frame m g, fun m g _ => Cert.KernelIdeal.Body.frame m g, fun m g _ => Cert.KernelIdeal.Body.frame m g,
    fun m g _ => Cert.ReferenceIdeal.Body.frame m g, fun m g _ => Cert.ReferenceIdeal.Body.frame m g,
    fun m g _ => Cert.Kernel2.Gen.frame m g, fun m g _ => Cert.Kernel2Ideal.Gen.frame m g, fun m g _ => frame2 m g,
    fun m g _ => Cert.Kernel3.Gen.frame m g, fun m g _ => Cert.Kernel3Ideal.Gen.frame m g, fun m g _ => frame3 m g,
    fun m g _ => Cert.Kernel4.Tail.frame m g, fun m g _ => Cert.Kernel4Ideal.Tail.frame m g, fun m g _ => Cert.Kernel4Ideal.Tail.frame m g,
    fun m g _ => frame4 m g, fun m g _ => frame4 m g,
    trivial, algebraic1, trivial, algebraic2, trivial, algebraic3, trivial, algebraic4⟩

end Cert.Proof

end
